-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2)
      ∧ r.2.mem ((c.tc : Thread Cert.Fold.nD Cert.Fold.τ).loc Cert.Fold.main_arg3) = m ((c.tc : Thread Cert.Fold.nD Cert.Fold.τ).loc Cert.Fold.main_arg3)
      ∧ r.2.mem ((c.tc : Thread Cert.Fold.nD Cert.Fold.τ).loc Cert.Fold.main_arg4) = m ((c.tc : Thread Cert.Fold.nD Cert.Fold.τ).loc Cert.Fold.main_arg4)
      ∧ r.2.mem ((c.tc : Thread Cert.Fold.nD Cert.Fold.τ).loc Cert.Fold.main_arg5) = m ((c.tc : Thread Cert.Fold.nD Cert.Fold.τ).loc Cert.Fold.main_arg5)
      ∧ r.2.mem ((c.tc : Thread Cert.Fold.nD Cert.Fold.τ).loc Cert.Fold.main_arg6) = m ((c.tc : Thread Cert.Fold.nD Cert.Fold.τ).loc Cert.Fold.main_arg6)
      ∧ r.2.mem ((c.tc : Thread Cert.Fold.nD Cert.Fold.τ).loc Cert.Fold.main_arg7) = m ((c.tc : Thread Cert.Fold.nD Cert.Fold.τ).loc Cert.Fold.main_arg7)
      ∧ r.2.mem ((c.tc : Thread Cert.Fold.nD Cert.Fold.τ).loc Cert.Fold.main_arg8) = m ((c.tc : Thread Cert.Fold.nD Cert.Fold.τ).loc Cert.Fold.main_arg8)
      ∧ r.2.mem ((c.tc : Thread Cert.Fold.nD Cert.Fold.τ).loc Cert.Fold.main_arg9) = m ((c.tc : Thread Cert.Fold.nD Cert.Fold.τ).loc Cert.Fold.main_arg9)
      ∧ r.2.mem ((c.tc : Thread Cert.Fold.nD Cert.Fold.τ).loc Cert.Fold.main_arg10) = m ((c.tc : Thread Cert.Fold.nD Cert.Fold.τ).loc Cert.Fold.main_arg10))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
      ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
      ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4)
      ∧ r.2.mem ((c.tc : Thread Cert.FoldIdeal.nD Cert.FoldIdeal.τ).loc Cert.FoldIdeal.main_arg5) = m ((c.tc : Thread Cert.FoldIdeal.nD Cert.FoldIdeal.τ).loc Cert.FoldIdeal.main_arg5)
      ∧ r.2.mem ((c.tc : Thread Cert.FoldIdeal.nD Cert.FoldIdeal.τ).loc Cert.FoldIdeal.main_arg6) = m ((c.tc : Thread Cert.FoldIdeal.nD Cert.FoldIdeal.τ).loc Cert.FoldIdeal.main_arg6)
      ∧ r.2.mem ((c.tc : Thread Cert.FoldIdeal.nD Cert.FoldIdeal.τ).loc Cert.FoldIdeal.main_arg7) = m ((c.tc : Thread Cert.FoldIdeal.nD Cert.FoldIdeal.τ).loc Cert.FoldIdeal.main_arg7)
      ∧ r.2.mem ((c.tc : Thread Cert.FoldIdeal.nD Cert.FoldIdeal.τ).loc Cert.FoldIdeal.main_arg8) = m ((c.tc : Thread Cert.FoldIdeal.nD Cert.FoldIdeal.τ).loc Cert.FoldIdeal.main_arg8)
      ∧ r.2.mem ((c.tc : Thread Cert.FoldIdeal.nD Cert.FoldIdeal.τ).loc Cert.FoldIdeal.main_arg9) = m ((c.tc : Thread Cert.FoldIdeal.nD Cert.FoldIdeal.τ).loc Cert.FoldIdeal.main_arg9)
      ∧ r.2.mem ((c.tc : Thread Cert.FoldIdeal.nD Cert.FoldIdeal.τ).loc Cert.FoldIdeal.main_arg10) = m ((c.tc : Thread Cert.FoldIdeal.nD Cert.FoldIdeal.τ).loc Cert.FoldIdeal.main_arg10))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v58_0)) (v1 : (c : Dev Cert.QkvIdeal.nD) → Buf (Elt Ideal) ((c.tc : Thread Cert.QkvIdeal.nD Cert.QkvIdeal.τ).loc Cert.QkvIdeal.main_v58_1)) (v2 : (c : Dev Cert.QkvIdeal.nD) → Buf (Elt Ideal) ((c.tc : Thread Cert.QkvIdeal.nD Cert.QkvIdeal.τ).loc Cert.QkvIdeal.main_v58_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v58_0) = v0 c
          ∧ r.2.mem ((c.tc : Thread Cert.QkvIdeal.nD Cert.QkvIdeal.τ).loc Cert.QkvIdeal.main_v58_1) = v1 c
          ∧ r.2.mem ((c.tc : Thread Cert.QkvIdeal.nD Cert.QkvIdeal.τ).loc Cert.QkvIdeal.main_v58_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v167) = v0 c
          ∧ r.2.mem ((c.tc : Thread Cert.QkvRefIdeal.nD Cert.QkvRefIdeal.τ).loc Cert.QkvRefIdeal.main_v169) = v1 c
          ∧ r.2.mem ((c.tc : Thread Cert.QkvRefIdeal.nD Cert.QkvRefIdeal.τ).loc Cert.QkvRefIdeal.main_v171) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_Out_OutIdeal : Prop :=
  IdealRules.bf16_pair.BufferStatement Cert.OutIdeal.S81920x2x512 Cert.OutIdeal.S81920x1x512
  ∧ IdealRules.bf16_pair.BufferStatement Cert.OutIdeal.S1280x2x512 Cert.OutIdeal.S1280x1x512
  ∧ IdealRules.bf16_pair.Statement Cert.OutIdeal.S1280x2x512 Cert.OutIdeal.S1280x1x512
  ∧ IdealRules.bf16_pack.Statement Cert.OutIdeal.S1280x512

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v15_0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v15_0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Fold_FoldIdeal : Prop :=
  IdealRules.bf16_pair.BufferStatement Cert.FoldIdeal.S81920x2x512 Cert.FoldIdeal.S81920x1x512
  ∧ IdealRules.bf16_pair.BufferStatement Cert.FoldIdeal.S1280x2x512 Cert.FoldIdeal.S1280x1x512
  ∧ IdealRules.bf16_pair.Statement Cert.FoldIdeal.S1280x2x512 Cert.FoldIdeal.S1280x1x512
  ∧ IdealRules.bf16_pack.Statement Cert.FoldIdeal.S1280x512

def algebraic_FoldIdeal_OutRefIdeal [hFoldIdeal : Cert.FoldIdeal.Facts] [hOutRefIdeal : Cert.OutRefIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_FoldIdeal m →
    (∀ c : Dev Cert.FoldIdeal.nD,
      m' ((c.tc : Thread Cert.OutRefIdeal.nD Cert.OutRefIdeal.τ).loc Cert.OutRefIdeal.main_arg0) = m ((c.tc : Thread Cert.FoldIdeal.nD Cert.FoldIdeal.τ).loc Cert.FoldIdeal.main_arg0)
      ∧ m' ((c.tc : Thread Cert.OutRefIdeal.nD Cert.OutRefIdeal.τ).loc Cert.OutRefIdeal.main_arg1) = m ((c.tc : Thread Cert.FoldIdeal.nD Cert.FoldIdeal.τ).loc Cert.FoldIdeal.main_arg1)
      ∧ m' ((c.tc : Thread Cert.OutRefIdeal.nD Cert.OutRefIdeal.τ).loc Cert.OutRefIdeal.main_arg2) = m ((c.tc : Thread Cert.FoldIdeal.nD Cert.FoldIdeal.τ).loc Cert.FoldIdeal.main_arg2)
      ∧ m' ((c.tc : Thread Cert.OutRefIdeal.nD Cert.OutRefIdeal.τ).loc Cert.OutRefIdeal.main_arg3) = m ((c.tc : Thread Cert.FoldIdeal.nD Cert.FoldIdeal.τ).loc Cert.FoldIdeal.main_arg3)
      ∧ m' ((c.tc : Thread Cert.OutRefIdeal.nD Cert.OutRefIdeal.τ).loc Cert.OutRefIdeal.main_arg4) = m ((c.tc : Thread Cert.FoldIdeal.nD Cert.FoldIdeal.τ).loc Cert.FoldIdeal.main_arg4)
      ∧ m' ((c.tc : Thread Cert.OutRefIdeal.nD Cert.OutRefIdeal.τ).loc Cert.OutRefIdeal.main_arg5) = m ((c.tc : Thread Cert.FoldIdeal.nD Cert.FoldIdeal.τ).loc Cert.FoldIdeal.main_arg5)
      ∧ m' ((c.tc : Thread Cert.OutRefIdeal.nD Cert.OutRefIdeal.τ).loc Cert.OutRefIdeal.main_arg6) = m ((c.tc : Thread Cert.FoldIdeal.nD Cert.FoldIdeal.τ).loc Cert.FoldIdeal.main_arg6)
      ∧ m' ((c.tc : Thread Cert.OutRefIdeal.nD Cert.OutRefIdeal.τ).loc Cert.OutRefIdeal.main_arg7) = m ((c.tc : Thread Cert.FoldIdeal.nD Cert.FoldIdeal.τ).loc Cert.FoldIdeal.main_arg7)
      ∧ m' ((c.tc : Thread Cert.OutRefIdeal.nD Cert.OutRefIdeal.τ).loc Cert.OutRefIdeal.main_arg8) = m ((c.tc : Thread Cert.FoldIdeal.nD Cert.FoldIdeal.τ).loc Cert.FoldIdeal.main_arg8)
      ∧ m' ((c.tc : Thread Cert.OutRefIdeal.nD Cert.OutRefIdeal.τ).loc Cert.OutRefIdeal.main_arg9) = m ((c.tc : Thread Cert.FoldIdeal.nD Cert.FoldIdeal.τ).loc Cert.FoldIdeal.main_arg9)
      ∧ m' ((c.tc : Thread Cert.OutRefIdeal.nD Cert.OutRefIdeal.τ).loc Cert.OutRefIdeal.main_arg10) = m ((c.tc : Thread Cert.FoldIdeal.nD Cert.FoldIdeal.τ).loc Cert.FoldIdeal.main_arg10)) →
    ∃ (v0 : (c : Dev Cert.FoldIdeal.nD) → Buf (Elt Ideal) ((c.tc : Thread Cert.FoldIdeal.nD Cert.FoldIdeal.τ).loc Cert.FoldIdeal.main_v21_0)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v21_0) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
          ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
          ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4)
          ∧ r.2.mem ((c.tc : Thread Cert.FoldIdeal.nD Cert.FoldIdeal.τ).loc Cert.FoldIdeal.main_arg5) = m ((c.tc : Thread Cert.FoldIdeal.nD Cert.FoldIdeal.τ).loc Cert.FoldIdeal.main_arg5)
          ∧ r.2.mem ((c.tc : Thread Cert.FoldIdeal.nD Cert.FoldIdeal.τ).loc Cert.FoldIdeal.main_arg6) = m ((c.tc : Thread Cert.FoldIdeal.nD Cert.FoldIdeal.τ).loc Cert.FoldIdeal.main_arg6)
          ∧ r.2.mem ((c.tc : Thread Cert.FoldIdeal.nD Cert.FoldIdeal.τ).loc Cert.FoldIdeal.main_arg7) = m ((c.tc : Thread Cert.FoldIdeal.nD Cert.FoldIdeal.τ).loc Cert.FoldIdeal.main_arg7)
          ∧ r.2.mem ((c.tc : Thread Cert.FoldIdeal.nD Cert.FoldIdeal.τ).loc Cert.FoldIdeal.main_arg8) = m ((c.tc : Thread Cert.FoldIdeal.nD Cert.FoldIdeal.τ).loc Cert.FoldIdeal.main_arg8)
          ∧ r.2.mem ((c.tc : Thread Cert.FoldIdeal.nD Cert.FoldIdeal.τ).loc Cert.FoldIdeal.main_arg9) = m ((c.tc : Thread Cert.FoldIdeal.nD Cert.FoldIdeal.τ).loc Cert.FoldIdeal.main_arg9)
          ∧ r.2.mem ((c.tc : Thread Cert.FoldIdeal.nD Cert.FoldIdeal.τ).loc Cert.FoldIdeal.main_arg10) = m ((c.tc : Thread Cert.FoldIdeal.nD Cert.FoldIdeal.τ).loc Cert.FoldIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)) →
    ∃ (v0 : (c : Dev Cert.CtxIdeal.nD) → Buf (Elt Ideal) ((c.tc : Thread Cert.CtxIdeal.nD Cert.CtxIdeal.τ).loc Cert.CtxIdeal.main_v24_0)) (v1 : (c : Dev Cert.CtxIdeal.nD) → Buf (Elt Ideal) ((c.tc : Thread Cert.CtxIdeal.nD Cert.CtxIdeal.τ).loc Cert.CtxIdeal.main_v24_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v24_0) = v0 c
          ∧ r.2.mem ((c.tc : Thread Cert.CtxIdeal.nD Cert.CtxIdeal.τ).loc Cert.CtxIdeal.main_v24_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v41) = v0 c
          ∧ r.2.mem ((c.tc : Thread Cert.CtxRefIdeal.nD Cert.CtxRefIdeal.τ).loc Cert.CtxRefIdeal.main_v43) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hFold : Cert.Fold.Facts) (hFoldIdeal : Cert.FoldIdeal.Facts) (hCtx : Cert.Ctx.Facts) (hCtxIdeal : Cert.CtxIdeal.Facts) (hCtxRefIdeal : Cert.CtxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_Fold (hFold := hFold)
    ∧ quiescent_FoldIdeal (hFoldIdeal := hFoldIdeal)
    ∧ quiescent_Ctx (hCtx := hCtx)
    ∧ quiescent_CtxIdeal (hCtxIdeal := hCtxIdeal)
    ∧ quiescent_CtxRefIdeal (hCtxRefIdeal := hCtxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_Fold_FoldIdeal
    ∧ algebraic_FoldIdeal_OutRefIdeal (hFoldIdeal := hFoldIdeal) (hOutRefIdeal := hOutRefIdeal)
    ∧ preserves_Ctx_CtxIdeal
    ∧ algebraic_CtxIdeal_CtxRefIdeal (hCtxIdeal := hCtxIdeal) (hCtxRefIdeal := hCtxRefIdeal)
-- ==== Pre_finite.lean ====
abbrev S8x4096x4x4x64 : Shape := ⟨5, ![8, 4096, 4, 4, 64]⟩
abbrev S8x4096x4x64 : Shape := ⟨4, ![8, 4096, 4, 64]⟩
abbrev S8x256x4x64 : Shape := ⟨4, ![8, 256, 4, 64]⟩
abbrev S_ : Shape := ⟨0, ![]⟩

class Facts : Prop where
  bcast_S_S8x4096x4x4x64 : S_.BroadcastsInDim S8x4096x4x4x64 (![] : Fin 0 → Fin S8x4096x4x4x64.rank)
  reducesTo_S8x4096x4x4x64_S_d0_1_2_3_4 : S8x4096x4x4x64.ReducesTo [0, 1, 2, 3, 4] S_
  h_S_ : 0 < S_.numel
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  bcast_S_S8x256x4x64 : S_.BroadcastsInDim S8x256x4x64 (![] : Fin 0 → Fin S8x256x4x64.rank)
  reducesTo_S8x256x4x64_S_d0_1_2_3 : S8x256x4x64.ReducesTo [0, 1, 2, 3] S_

variable [Facts]

def fn {F : FTy → Type} [FloatOps F] (main_arg0 : FVec F S8x4096x4x4x64 .f32) (main_arg1 : FVec F S8x4096x4x64 .f32) (main_arg2 : FVec F S8x4096x4x64 .f32) (main_arg3 : FVec F S8x256x4x64 .f32) (main_arg4 : FVec F S8x256x4x64 .f32) : IVec S_ 1 :=
  let main_v0 : FVec F S8x4096x4x4x64 .f32 := Host.absf main_arg0
  let main_cst : FVec F S_ .f32 := constant S_ .f32 0x7F800000#32
  let main_v1 : FVec F S8x4096x4x4x64 .f32 := broadcastInDim S8x4096x4x4x64 ![] bcast_S_S8x4096x4x4x64 main_cst
  let main_v2 : IVec S8x4096x4x4x64 1 := cmpf .olt main_v0 main_v1
  let main_c : IVec S_ 1 := constantI S_ 1 1#1
  let main_v3 : IVec S_ 1 := (fun x v => Host.reduce IntOp.andi x v reducesTo_S8x4096x4x4x64_S_d0_1_2_3_4 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  let main_v9 : FVec F S8x256x4x64 .f32 := Host.absf main_arg3
  let main_cst_2 : FVec F S_ .f32 := constant S_ .f32 0x7F800000#32
  let main_v10 : FVec F S8x256x4x64 .f32 := broadcastInDim S8x256x4x64 ![] bcast_S_S8x256x4x64 main_cst_2
  let main_v11 : IVec S8x256x4x64 1 := cmpf .olt main_v9 main_v10
  let main_c_3 : IVec S_ 1 := constantI S_ 1 1#1
  let main_v12 : IVec S_ 1 := (fun x v => Host.reduce IntOp.andi x v reducesTo_S8x256x4x64_S_d0_1_2_3 h_S_) main_v11 main_c_3
  let main_v13 : IVec S_ 1 := andi main_v8 main_v12
  main_v13
-- ==== Kernel.lean ====
abbrev S8x4096x4x4x64 : Shape := ⟨5, ![8, 4096, 4, 4, 64]⟩
abbrev S8x4096x4x64 : Shape := ⟨4, ![8, 4096, 4, 64]⟩
abbrev S8x256x4x64 : Shape := ⟨4, ![8, 256, 4, 64]⟩
abbrev S_ : Shape := ⟨0, ![]⟩
abbrev S8x4096x16x64 : Shape := ⟨4, ![8, 4096, 16, 64]⟩
abbrev S8x16x4096x64 : Shape := ⟨4, ![8, 16, 4096, 64]⟩
abbrev S8x4x4096x64 : Shape := ⟨4, ![8, 4, 4096, 64]⟩
abbrev S8x4096x4x128 : Shape := ⟨4, ![8, 4096, 4, 128]⟩
abbrev S8x4x4096x128 : Shape := ⟨4, ![8, 4, 4096, 128]⟩
abbrev S8x4x256x64 : Shape := ⟨4, ![8, 4, 256, 64]⟩
abbrev S8x256x4x128 : Shape := ⟨4, ![8, 256, 4, 128]⟩
abbrev S8x4x256x128 : Shape := ⟨4, ![8, 4, 256, 128]⟩
abbrev S8x4096x1024 : Shape := ⟨3, ![8, 4096, 1024]⟩
abbrev S1x4x512x64 : Shape := ⟨4, ![1, 4, 512, 64]⟩
abbrev S1x1x4096x64 : Shape := ⟨4, ![1, 1, 4096, 64]⟩
abbrev S1x1x4096x128 : Shape := ⟨4, ![1, 1, 4096, 128]⟩
abbrev S1x1x256x64 : Shape := ⟨4, ![1, 1, 256, 64]⟩
abbrev S1x1x256x128 : Shape := ⟨4, ![1, 1, 256, 128]⟩
abbrev S1x512x256 : Shape := ⟨3, ![1, 512, 256]⟩
abbrev S1x4x256x64 : Shape := ⟨4, ![1, 4, 256, 64]⟩
abbrev S4x256x64 : Shape := ⟨3, ![4, 256, 64]⟩
abbrev S1024x64 : Shape := ⟨2, ![1024, 64]⟩
abbrev S1024x1 : Shape := ⟨2, ![1024, 1]⟩
abbrev S1024x128 : Shape := ⟨2, ![1024, 128]⟩
abbrev S256x64 : Shape := ⟨2, ![256, 64]⟩
abbrev S256x128 : Shape := ⟨2, ![256, 128]⟩
abbrev S1024x256 : Shape := ⟨2, ![1024, 256]⟩
abbrev S1024 : Shape := ⟨1, ![1024]⟩
abbrev S256x256 : Shape := ⟨2, ![256, 256]⟩
abbrev S1x256x256 : Shape := ⟨3, ![1, 256, 256]⟩

abbrev nBuf : Space → Nat
  | .hbm => 29
  | .vmem => 12
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x256x4x64, .f32⟩
  | .hbm, ⟨4, _⟩ => ⟨S8x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x4x4x64, .f32⟩
  | .hbm, ⟨10, _⟩ => ⟨S8x4096x4x4x64, .f32⟩
  | .hbm, ⟨11, _⟩ => ⟨S8x4096x4x4x64, .bf16⟩
  | .hbm, ⟨12, _⟩ => ⟨S8x4096x16x64, .bf16⟩
  | .hbm, ⟨13, _⟩ => ⟨S8x16x4096x64, .bf16⟩
  | .hbm, ⟨14, _⟩ => ⟨S8x4096x4x64, .bf16⟩
  | .hbm, ⟨15, _⟩ => ⟨S8x4x4096x64, .bf16⟩
  | .hbm, ⟨16, _⟩ => ⟨S_, .f32⟩
  | .hbm, ⟨17, _⟩ => ⟨S8x4096x4x64, .f32⟩
  | .hbm, ⟨18, _⟩ => ⟨S8x4096x4x128, .f32⟩
  | .hbm, ⟨19, _⟩ => ⟨S8x4096x4x128, .bf16⟩
  | .hbm, ⟨20, _⟩ => ⟨S8x4x4096x128, .bf16⟩
  | .hbm, ⟨21, _⟩ => ⟨S8x256x4x64, .bf16⟩
  | .hbm, ⟨22, _⟩ => ⟨S8x4x256x64, .bf16⟩
  | .hbm, ⟨23, _⟩ => ⟨S_, .f32⟩
  | .hbm, ⟨24, _⟩ => ⟨S8x256x4x64, .f32⟩
  | .hbm, ⟨25, _⟩ => ⟨S8x256x4x128, .f32⟩
  | .hbm, ⟨26, _⟩ => ⟨S8x256x4x128, .bf16⟩
  | .hbm, ⟨27, _⟩ => ⟨S8x4x256x128, .bf16⟩
  | .hbm, ⟨28, _⟩ => ⟨S8x4096x1024, .bf16⟩
  | .local _ .vmem, ⟨0, _⟩ => ⟨S1x4x512x64, .bf16⟩
  | .local _ .vmem, ⟨1, _⟩ => ⟨S1x4x512x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x512x256, .bf16⟩
  | .local _ .vmem, ⟨11, _⟩ => ⟨S1x512x256, .bf16⟩
  | _, _ => ⟨S8x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x4x4x64 : Shape := ⟨5, ![8, 4096, 4, 4, 64]⟩
abbrev S8x4096x4x64 : Shape := ⟨4, ![8, 4096, 4, 64]⟩
abbrev S8x256x4x64 : Shape := ⟨4, ![8, 256, 4, 64]⟩
abbrev S8x4352x4x64 : Shape := ⟨4, ![8, 4352, 4, 64]⟩
abbrev S8x4x4352x4096x4 : Shape := ⟨5, ![8, 4, 4352, 4096, 4]⟩
abbrev S8x4x4x4096x4352 : Shape := ⟨5, ![8, 4, 4, 4096, 4352]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x1024 : Shape := ⟨3, ![8, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x256x4x64, .f32⟩
  | .hbm, ⟨4, _⟩ => ⟨S8x256x4x64, .f32⟩
  | .hbm, ⟨5, _⟩ => ⟨S8x4352x4x64, .f32⟩
  | .hbm, ⟨6, _⟩ => ⟨S8x4352x4x64, .f32⟩
  | .hbm, ⟨7, _⟩ => ⟨S8x4x4352x4096x4, .f32⟩
  | .hbm, ⟨8, _⟩ => ⟨S8x4x4x4096x4352, .f32⟩
  | .hbm, ⟨9, _⟩ => ⟨S_, .f32⟩
  | .hbm, ⟨10, _⟩ => ⟨S8x4x4x4096x4352, .f32⟩
  | .hbm, ⟨11, _⟩ => ⟨S8x4x4x4096x4352, .f32⟩
  | .hbm, ⟨12, _⟩ => ⟨S_, .f32⟩
  | .hbm, ⟨13, _⟩ => ⟨S8x4x4x4096, .f32⟩
  | .hbm, ⟨14, _⟩ => ⟨S_, .f32⟩
  | .hbm, ⟨15, _⟩ => ⟨S8x4x4x4096, .f32⟩
  | .hbm, ⟨16, _⟩ => ⟨S8x4x4x4096, .f32⟩
  | .hbm, ⟨17, _⟩ => ⟨S8x4x4x4096x1, .f32⟩
  | .hbm, ⟨18, _⟩ => ⟨S8x4x4x4096x4352, .f32⟩
  | .hbm, ⟨19, _⟩ => ⟨S8x4x4x4096x4352, .f32⟩
  | .hbm, ⟨20, _⟩ => ⟨S8x4x4x4096x4352, .f32⟩
  | .hbm, ⟨21, _⟩ => ⟨S_, .f32⟩
  | .hbm, ⟨22, _⟩ => ⟨S8x4x4x4096, .f32⟩
  | .hbm, ⟨23, _⟩ => ⟨S8x4x4x4096x1, .f32⟩
  | .hbm, ⟨24, _⟩ => ⟨S8x4x4x4096x4352, .f32⟩
  | .hbm, ⟨25, _⟩ => ⟨S8x4x4x4096x4352, .f32⟩
  | .hbm, ⟨26, _⟩ => ⟨S8x4x64x4x4096, .f32⟩
  | .hbm, ⟨27, _⟩ => ⟨S8x4096x4x4x64, .f32⟩
  | .hbm, ⟨28, _⟩ => ⟨S8x4096x1024, .f32⟩
  | .hbm, ⟨29, _⟩ => ⟨S8x4096x1024, .bf16⟩
  | _, _ => ⟨S8x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Qkv.lean ====
abbrev S8x4096x1024 : Shape := ⟨3, ![8, 4096, 1024]⟩
abbrev S8x1x1024 : Shape := ⟨3, ![8, 1, 1024]⟩
abbrev S1024 : Shape := ⟨1, ![1024]⟩
abbrev S1024x1536 : Shape := ⟨2, ![1024, 1536]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S128x1 : Shape := ⟨2, ![128, 1]⟩
abbrev S_ : Shape := ⟨0, ![]⟩
abbrev S128x128 : Shape := ⟨2, ![128, 128]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1024 : Shape := ⟨2, ![1, 1024]⟩
abbrev S8x16x4096x64 : Shape := ⟨4, ![8, 16, 4096, 64]⟩
abbrev S8x4x4096x64 : Shape := ⟨4, ![8, 4, 4096, 64]⟩
abbrev S8x4x4096x128 : Shape := ⟨4, ![8, 4, 4096, 128]⟩
abbrev S1x512x1024 : Shape := ⟨3, ![1, 512, 1024]⟩
abbrev S1x1x1024 : Shape := ⟨3, ![1, 1, 1024]⟩
abbrev S512x128 : Shape := ⟨2, ![512, 128]⟩
abbrev S1x16x512x64 : Shape := ⟨4, ![1, 16, 512, 64]⟩
abbrev S1x4x512x64 : Shape := ⟨4, ![1, 4, 512, 64]⟩
abbrev S1x4x512x128 : Shape := ⟨4, ![1, 4, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x64 : Shape := ⟨2, ![512, 64]⟩
abbrev S1x1x512x64 : Shape := ⟨4, ![1, 1, 512, 64]⟩
abbrev S1x1x512x128 : Shape := ⟨4, ![1, 1, 512, 128]⟩

abbrev nBuf : Space → Nat
  | .hbm => 146
  | .vmem => 20
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x1536, .f32⟩
  | 5 => ⟨S64, .f32⟩
  | 6 => ⟨S64, .f32⟩
  | 7 => ⟨S1x64, .f32⟩
  | 8 => ⟨S2x64, .f32⟩
  | 9 => ⟨S128, .f32⟩
  | 10 => ⟨S1x64, .f32⟩
  | 11 => ⟨S2x64, .f32⟩
  | 12 => ⟨S128, .f32⟩
  | 13 => ⟨S1x128, .f32⟩
  | 14 => ⟨S1x128, .f32⟩
  | 15 => ⟨S2x128, .f32⟩
  | 16 => ⟨S128, .i32⟩
  | 17 => ⟨S128x1, .i32⟩
  | 18 => ⟨S_, .i32⟩
  | 19 => ⟨S_, .i32⟩
  | 20 => ⟨S128x1, .i32⟩
  | 21 => ⟨S128x1, .i32⟩
  | 22 => ⟨S128x1, .i32⟩
  | 23 => ⟨S_, .i32⟩
  | 24 => ⟨S128x1, .i32⟩
  | 25 => ⟨S128x1, .i1⟩
  | 26 => ⟨S128x1, .i32⟩
  | 27 => ⟨S128x1, .i32⟩
  | 28 => ⟨S_, .i32⟩
  | 29 => ⟨S128x1, .i32⟩
  | 30 => ⟨S128x1, .i1⟩
  | 31 => ⟨S128x1, .i1⟩
  | 32 => ⟨S_, .i32⟩
  | 33 => ⟨S128x1, .i32⟩
  | 34 => ⟨S128x1, .i32⟩
  | 35 => ⟨S128x1, .i32⟩
  | 36 => ⟨S1x128, .i32⟩
  | 37 => ⟨S_, .i32⟩
  | 38 => ⟨S_, .i32⟩
  | 39 => ⟨S1x128, .i32⟩
  | 40 => ⟨S1x128, .i32⟩
  | 41 => ⟨S1x128, .i32⟩
  | 42 => ⟨S_, .i32⟩
  | 43 => ⟨S1x128, .i32⟩
  | 44 => ⟨S1x128, .i1⟩
  | 45 => ⟨S1x128, .i32⟩
  | 46 => ⟨S1x128, .i32⟩
  | 47 => ⟨S_, .i32⟩
  | 48 => ⟨S1x128, .i32⟩
  | 49 => ⟨S1x128, .i1⟩
  | 50 => ⟨S1x128, .i1⟩
  | 51 => ⟨S_, .i32⟩
  | 52 => ⟨S1x128, .i32⟩
  | 53 => ⟨S1x128, .i32⟩
  | 54 => ⟨S1x128, .i32⟩
  | 55 => ⟨S128x128, .i32⟩
  | 56 => ⟨S128x128, .i32⟩
  | 57 => ⟨S128x128, .i1⟩
  | 58 => ⟨S_, .f32⟩
  | 59 => ⟨S_, .f32⟩
  | 60 => ⟨S128x128, .f32⟩
  | 61 => ⟨S128x128, .f32⟩
  | 62 => ⟨S128x128, .f32⟩
  | 63 => ⟨S128x128, .bf16⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4096, .i32⟩
  | 73 => ⟨S_, .i32⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i1⟩
  | 81 => ⟨S4096, .i32⟩
  | 82 => ⟨S4096, .i32⟩
  | 83 => ⟨S_, .i32⟩
  | 84 => ⟨S4096, .i32⟩
  | 85 => ⟨S4096, .i1⟩
  | 86 => ⟨S4096, .i1⟩
  | 87 => ⟨S_, .i32⟩
  | 88 => ⟨S4096, .i32⟩
  | 89 => ⟨S4096, .i32⟩
  | 90 => ⟨S4096, .i32⟩
  | 91 => ⟨S4096, .f32⟩
  | 92 => ⟨S4096x1, .f32⟩
  | 93 => ⟨S1x16, .f32⟩
  | 94 => ⟨S4096x16, .f32⟩
  | 95 => ⟨S4096x16, .f32⟩
  | 96 => ⟨S4096x16, .f32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i1⟩
  | 111 => ⟨S_, .i32⟩
  | 112 => ⟨S_, .i1⟩
  | 113 => ⟨S4096, .i1⟩
  | 114 => ⟨S4096, .i1⟩
  | 115 => ⟨S4096, .i1⟩
  | 116 => ⟨S4096, .i32⟩
  | 117 => ⟨S4096, .i32⟩
  | 118 => ⟨S4096, .i32⟩
  | 119 => ⟨S4096, .f32⟩
  | 120 => ⟨S4096x1, .f32⟩
  | 121 => ⟨S1x16, .f32⟩
  | 122 => ⟨S4096x16, .f32⟩
  | 123 => ⟨S4096x16, .f32⟩
  | 124 => ⟨S4096x16, .f32⟩
  | 125 => ⟨S4096x16, .f32⟩
  | 126 => ⟨S4096x16, .f32⟩
  | 127 => ⟨S4096x64, .f32⟩
  | _ => ⟨S8x4096x1024, .f32⟩

abbrev hbmTy0_1 (i : Nat) : BufTy := match i % 128 with
  | 0 => ⟨S4096x16, .f32⟩
  | 1 => ⟨S4096x16, .f32⟩
  | 2 => ⟨S4096x16, .f32⟩
  | 3 => ⟨S4096x16, .f32⟩
  | 4 => ⟨S4096x16, .f32⟩
  | 5 => ⟨S4096x16, .f32⟩
  | 6 => ⟨S4096x64, .f32⟩
  | 7 => ⟨S1x4096x1x64, .f32⟩
  | 8 => ⟨S1x4096x2x64, .f32⟩
  | 9 => ⟨S4096x128, .f32⟩
  | 10 => ⟨S1x4096x1x64, .f32⟩
  | 11 => ⟨S1x4096x2x64, .f32⟩
  | 12 => ⟨S4096x128, .f32⟩
  | 13 => ⟨S1x1024, .f32⟩
  | 14 => ⟨S1024x1536, .bf16⟩
  | 15 => ⟨S8x16x4096x64, .bf16⟩
  | 16 => ⟨S8x4x4096x64, .bf16⟩
  | 17 => ⟨S8x4x4096x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S2x128, .f32⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x16x512x64, .bf16⟩
  | .local _ .vmem, ⟨15, _⟩ => ⟨S1x16x512x64, .bf16⟩
  | .local _ .vmem, ⟨16, _⟩ => ⟨S1x4x512x64, .bf16⟩
  | .local _ .vmem, ⟨17, _⟩ => ⟨S1x4x512x64, .bf16⟩
  | .local _ .vmem, ⟨18, _⟩ => ⟨S1x4x512x128, .bf16⟩
  | .local _ .vmem, ⟨19, _⟩ => ⟨S1x4x512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_4 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_c_5 : Ref sig .tc := ⟨.hbm, 97, rfl⟩
abbrev main_call4_v0 : Ref sig .tc := ⟨.hbm, 98, rfl⟩
abbrev main_call4_c : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_c_1 : Ref sig .tc := ⟨.hbm, 105, rfl⟩
abbrev main_call4_v5 : Ref sig .tc := ⟨.hbm, 106, rfl⟩
abbrev main_call4_v6 : Ref sig .tc := ⟨.hbm, 107, rfl⟩
abbrev main_call4_c_2 : Ref sig .tc := ⟨.hbm, 108, rfl⟩
abbrev main_call4_v7 : Ref sig .tc := ⟨.hbm, 109, rfl⟩
abbrev main_call4_v8 : Ref sig .tc := ⟨.hbm, 110, rfl⟩
abbrev main_call4_c_3 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58_0 : Ref sig .tc := ⟨.hbm, 143, rfl⟩
abbrev main_v58_1 : Ref sig .tc := ⟨.hbm, 144, rfl⟩
abbrev main_v58_2 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S8x4096x1024 : Shape := ⟨3, ![8, 4096, 1024]⟩
abbrev S8x1x1024 : Shape := ⟨3, ![8, 1, 1024]⟩
abbrev S1024 : Shape := ⟨1, ![1024]⟩
abbrev S1024x1536 : Shape := ⟨2, ![1024, 1536]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1536 : Shape := ⟨3, ![8, 4096, 1536]⟩
abbrev S8x4096x4x4x64 : Shape := ⟨5, ![8, 4096, 4, 4, 64]⟩
abbrev S8x4096x4x4 : Shape := ⟨4, ![8, 4096, 4, 4]⟩
abbrev S8x4096x4x4x1 : Shape := ⟨5, ![8, 4096, 4, 4, 1]⟩
abbrev S1x1x1x1x64 : Shape := ⟨5, ![1, 1, 1, 1, 64]⟩
abbrev S8x4096x512 : Shape := ⟨3, ![8, 4096, 512]⟩
abbrev S8x4096x256 : Shape := ⟨3, ![8, 4096, 256]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S64x1x16 : Shape := ⟨3, ![64, 1, 16]⟩
abbrev S64x64x16 : Shape := ⟨3, ![64, 64, 16]⟩
abbrev S4096x16 : Shape := ⟨2, ![4096, 16]⟩
abbrev S1x64x16 : Shape := ⟨3, ![1, 64, 16]⟩
abbrev S8x4096x4x4x32 : Shape := ⟨5, ![8, 4096, 4, 4, 32]⟩
abbrev S4096x1x1x16 : Shape := ⟨4, ![4096, 1, 1, 16]⟩
abbrev S8x4096x4x4x16 : Shape := ⟨5, ![8, 4096, 4, 4, 16]⟩
abbrev S1x4096x1x1x16 : Shape := ⟨5, ![1, 4096, 1, 1, 16]⟩
abbrev S8x4096x16x64 : Shape := ⟨4, ![8, 4096, 16, 64]⟩
abbrev S8x4096x4x32 : Shape := ⟨4, ![8, 4096, 4, 32]⟩
abbrev S4096x1x16 : Shape := ⟨3, ![4096, 1, 16]⟩
abbrev S8x4096x4x16 : Shape := ⟨4, ![8, 4096, 4, 16]⟩
abbrev S1x4096x1x16 : Shape := ⟨4, ![1, 4096, 1, 16]⟩
abbrev S8x4096x4x128 : Shape := ⟨4, ![8, 4096, 4, 128]⟩
abbrev S8x16x4096x64 : Shape := ⟨4, ![8, 16, 4096, 64]⟩
abbrev S8x4x4096x64 : Shape := ⟨4, ![8, 4, 4096, 64]⟩
abbrev S8x4x4096x128 : Shape := ⟨4, ![8, 4, 4096, 128]⟩

abbrev nBuf : Space → Nat
  | .hbm => 192
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1024, .f32⟩
  | 4 => ⟨S1024x1536, .f32⟩
  | 5 => ⟨S64, .f32⟩
  | 6 => ⟨S64, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S_, .f32⟩
  | 24 => ⟨S8x1x1024, .f32⟩
  | 25 => ⟨S8x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x4096x1536, .f32⟩
  | 31 => ⟨S8x4096x1024, .f32⟩
  | 32 => ⟨S8x4096x4x4x64, .f32⟩
  | 33 => ⟨S8x4096x4x4x64, .f32⟩
  | 34 => ⟨S_, .f32⟩
  | 35 => ⟨S8x4096x4x4, .f32⟩
  | 36 => ⟨S8x4096x4x4x1, .f32⟩
  | 37 => ⟨S_, .f32⟩
  | 38 => ⟨S8x4096x4x4x1, .f32⟩
  | 39 => ⟨S8x4096x4x4x1, .f32⟩
  | 40 => ⟨S_, .f32⟩
  | 41 => ⟨S8x4096x4x4x1, .f32⟩
  | 42 => ⟨S8x4096x4x4x1, .f32⟩
  | 43 => ⟨S8x4096x4x4x1, .f32⟩
  | 44 => ⟨S8x4096x4x4x64, .f32⟩
  | 45 => ⟨S8x4096x4x4x64, .f32⟩
  | 46 => ⟨S1x1x1x1x64, .f32⟩
  | 47 => ⟨S8x4096x4x4x64, .f32⟩
  | 48 => ⟨S8x4096x4x4x64, .f32⟩
  | 49 => ⟨S8x4096x512, .f32⟩
  | 50 => ⟨S8x4096x256, .f32⟩
  | 51 => ⟨S8x4096x4x64, .f32⟩
  | 52 => ⟨S8x4096x4x64, .f32⟩
  | 53 => ⟨S_, .f32⟩
  | 54 => ⟨S8x4096x4, .f32⟩
  | 55 => ⟨S8x4096x4x1, .f32⟩
  | 56 => ⟨S_, .f32⟩
  | 57 => ⟨S8x4096x4x1, .f32⟩
  | 58 => ⟨S8x4096x4x1, .f32⟩
  | 59 => ⟨S_, .f32⟩
  | 60 => ⟨S8x4096x4x1, .f32⟩
  | 61 => ⟨S8x4096x4x1, .f32⟩
  | 62 => ⟨S8x4096x4x1, .f32⟩
  | 63 => ⟨S8x4096x4x64, .f32⟩
  | 64 => ⟨S8x4096x4x64, .f32⟩
  | 65 => ⟨S1x1x1x64, .f32⟩
  | 66 => ⟨S8x4096x4x64, .f32⟩
  | 67 => ⟨S8x4096x4x64, .f32⟩
  | 68 => ⟨S8x4096x256, .f32⟩
  | 69 => ⟨S8x4096x4x64, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S64, .f32⟩
  | 79 => ⟨S64x1, .f32⟩
  | 80 => ⟨S1x16, .f32⟩
  | 81 => ⟨S64x16, .f32⟩
  | 82 => ⟨S64x16, .f32⟩
  | 83 => ⟨S64x16, .f32⟩
  | 84 => ⟨S64, .f32⟩
  | 85 => ⟨S64x1, .f32⟩
  | 86 => ⟨S1x16, .f32⟩
  | 87 => ⟨S64x16, .f32⟩
  | 88 => ⟨S64x16, .f32⟩
  | 89 => ⟨S64x16, .f32⟩
  | 90 => ⟨S64x1x16, .f32⟩
  | 91 => ⟨S64x64x16, .f32⟩
  | 92 => ⟨S4096x16, .f32⟩
  | 93 => ⟨S1x64x16, .f32⟩
  | 94 => ⟨S64x64x16, .f32⟩
  | 95 => ⟨S4096x16, .f32⟩
  | 96 => ⟨S4096x16, .f32⟩
  | 97 => ⟨S4096x16, .f32⟩
  | 98 => ⟨S4096x16, .f32⟩
  | 99 => ⟨S4096x16, .f32⟩
  | 100 => ⟨S8x4096x4x4x32, .f32⟩
  | 101 => ⟨S4096x1x1x16, .f32⟩
  | 102 => ⟨S4096x1x1x16, .f32⟩
  | 103 => ⟨S8x4096x4x4x16, .f32⟩
  | 104 => ⟨S8x4096x4x4x16, .f32⟩
  | 105 => ⟨S1x4096x1x1x16, .f32⟩
  | 106 => ⟨S8x4096x4x4x16, .f32⟩
  | 107 => ⟨S8x4096x4x4x16, .f32⟩
  | 108 => ⟨S1x4096x1x1x16, .f32⟩
  | 109 => ⟨S8x4096x4x4x16, .f32⟩
  | 110 => ⟨S8x4096x4x4x16, .f32⟩
  | 111 => ⟨S8x4096x4x4x16, .f32⟩
  | 112 => ⟨S1x4096x1x1x16, .f32⟩
  | 113 => ⟨S8x4096x4x4x16, .f32⟩
  | 114 => ⟨S8x4096x4x4x16, .f32⟩
  | 115 => ⟨S1x4096x1x1x16, .f32⟩
  | 116 => ⟨S8x4096x4x4x16, .f32⟩
  | 117 => ⟨S8x4096x4x4x16, .f32⟩
  | 118 => ⟨S8x4096x4x4x16, .f32⟩
  | 119 => ⟨S8x4096x4x4x32, .f32⟩
  | 120 => ⟨S8x4096x4x4x32, .f32⟩
  | 121 => ⟨S4096x1x1x16, .f32⟩
  | 122 => ⟨S4096x1x1x16, .f32⟩
  | 123 => ⟨S8x4096x4x4x16, .f32⟩
  | 124 => ⟨S8x4096x4x4x16, .f32⟩
  | 125 => ⟨S1x4096x1x1x16, .f32⟩
  | 126 => ⟨S8x4096x4x4x16, .f32⟩
  | 127 => ⟨S8x4096x4x4x16, .f32⟩
  | _ => ⟨S8x4096x1024, .f32⟩

abbrev hbmTy0_1 (i : Nat) : BufTy := match i % 128 with
  | 0 => ⟨S1x4096x1x1x16, .f32⟩
  | 1 => ⟨S8x4096x4x4x16, .f32⟩
  | 2 => ⟨S8x4096x4x4x16, .f32⟩
  | 3 => ⟨S8x4096x4x4x16, .f32⟩
  | 4 => ⟨S1x4096x1x1x16, .f32⟩
  | 5 => ⟨S8x4096x4x4x16, .f32⟩
  | 6 => ⟨S8x4096x4x4x16, .f32⟩
  | 7 => ⟨S1x4096x1x1x16, .f32⟩
  | 8 => ⟨S8x4096x4x4x16, .f32⟩
  | 9 => ⟨S8x4096x4x4x16, .f32⟩
  | 10 => ⟨S8x4096x4x4x16, .f32⟩
  | 11 => ⟨S8x4096x4x4x32, .f32⟩
  | 12 => ⟨S8x4096x4x4x64, .f32⟩
  | 13 => ⟨S8x4096x16x64, .f32⟩
  | 14 => ⟨S8x4096x4x32, .f32⟩
  | 15 => ⟨S4096x1x16, .f32⟩
  | 16 => ⟨S4096x1x16, .f32⟩
  | 17 => ⟨S8x4096x4x16, .f32⟩
  | 18 => ⟨S8x4096x4x16, .f32⟩
  | 19 => ⟨S1x4096x1x16, .f32⟩
  | 20 => ⟨S8x4096x4x16, .f32⟩
  | 21 => ⟨S8x4096x4x16, .f32⟩
  | 22 => ⟨S1x4096x1x16, .f32⟩
  | 23 => ⟨S8x4096x4x16, .f32⟩
  | 24 => ⟨S8x4096x4x16, .f32⟩
  | 25 => ⟨S8x4096x4x16, .f32⟩
  | 26 => ⟨S1x4096x1x16, .f32⟩
  | 27 => ⟨S8x4096x4x16, .f32⟩
  | 28 => ⟨S8x4096x4x16, .f32⟩
  | 29 => ⟨S1x4096x1x16, .f32⟩
  | 30 => ⟨S8x4096x4x16, .f32⟩
  | 31 => ⟨S8x4096x4x16, .f32⟩
  | 32 => ⟨S8x4096x4x16, .f32⟩
  | 33 => ⟨S8x4096x4x32, .f32⟩
  | 34 => ⟨S8x4096x4x32, .f32⟩
  | 35 => ⟨S4096x1x16, .f32⟩
  | 36 => ⟨S4096x1x16, .f32⟩
  | 37 => ⟨S8x4096x4x16, .f32⟩
  | 38 => ⟨S8x4096x4x16, .f32⟩
  | 39 => ⟨S1x4096x1x16, .f32⟩
  | 40 => ⟨S8x4096x4x16, .f32⟩
  | 41 => ⟨S8x4096x4x16, .f32⟩
  | 42 => ⟨S1x4096x1x16, .f32⟩
  | 43 => ⟨S8x4096x4x16, .f32⟩
  | 44 => ⟨S8x4096x4x16, .f32⟩
  | 45 => ⟨S8x4096x4x16, .f32⟩
  | 46 => ⟨S1x4096x1x16, .f32⟩
  | 47 => ⟨S8x4096x4x16, .f32⟩
  | 48 => ⟨S8x4096x4x16, .f32⟩
  | 49 => ⟨S1x4096x1x16, .f32⟩
  | 50 => ⟨S8x4096x4x16, .f32⟩
  | 51 => ⟨S8x4096x4x16, .f32⟩
  | 52 => ⟨S8x4096x4x16, .f32⟩
  | 53 => ⟨S8x4096x4x32, .f32⟩
  | 54 => ⟨S8x4096x4x64, .f32⟩
  | 55 => ⟨S_, .f32⟩
  | 56 => ⟨S8x4096x4x64, .f32⟩
  | 57 => ⟨S8x4096x4x128, .f32⟩
  | 58 => ⟨S8x16x4096x64, .f32⟩
  | 59 => ⟨S8x16x4096x64, .bf16⟩
  | 60 => ⟨S8x4x4096x64, .f32⟩
  | 61 => ⟨S8x4x4096x64, .bf16⟩
  | 62 => ⟨S8x4x4096x128, .f32⟩
  | 63 => ⟨S8x4x4096x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_cst_11 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩

abbrev nD : Nat := 1
abbrev τ : Topo := Topo.v7x

variable {F : FTy → Type} [FloatOps F]
-- ==== Out.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S32768x1024 : Shape := ⟨2, ![32768, 1024]⟩
abbrev S1x1024 : Shape := ⟨2, ![1, 1024]⟩
abbrev S81920x512 : Shape := ⟨2, ![81920, 512]⟩
abbrev S32768x128 : Shape := ⟨2, ![32768, 128]⟩
abbrev S512x128 : Shape := ⟨2, ![512, 128]⟩
abbrev S512x1024 : Shape := ⟨2, ![512, 1024]⟩
abbrev S1x1x1024 : Shape := ⟨3, ![1, 1, 1024]⟩
abbrev S1280x512 : Shape := ⟨2, ![1280, 512]⟩
abbrev S8x128 : Shape := ⟨2, ![8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128x128 : Shape := ⟨2, ![128, 128]⟩
abbrev S128x512 : Shape := ⟨2, ![128, 512]⟩
abbrev S1x512 : Shape := ⟨2, ![1, 512]⟩
abbrev S1280x1024 : Shape := ⟨2, ![1280, 1024]⟩

abbrev nBuf : Space → Nat
  | .hbm => 32
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S8x4096x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S8x4096x1024, .bf16⟩
  | .hbm, ⟨24, _⟩ => ⟨S32768x1024, .bf16⟩
  | .hbm, ⟨25, _⟩ => ⟨S1024x1024, .bf16⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S81920x512, .i32⟩
  | .hbm, ⟨30, _⟩ => ⟨S32768x128, .f32⟩
  | .hbm, ⟨31, _⟩ => ⟨S512x128, .i32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x128, .bf16⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S1280x512, .i32⟩
  | .local _ .vmem, ⟨18, _⟩ => ⟨S1280x512, .i32⟩
  | .local _ .vmem, ⟨19, _⟩ => ⟨S512x128, .f32⟩
  | .local _ .vmem, ⟨20, _⟩ => ⟨S512x128, .f32⟩
  | .local _ .vmem, ⟨21, _⟩ => ⟨S8x128, .i32⟩
  | .local _ .vmem, ⟨22, _⟩ => ⟨S8x128, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1280x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutIdeal.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S32768x1024 : Shape := ⟨2, ![32768, 1024]⟩
abbrev S1x1024 : Shape := ⟨2, ![1, 1024]⟩
abbrev S81920x2x512 : Shape := ⟨3, ![81920, 2, 512]⟩
abbrev S32768x128 : Shape := ⟨2, ![32768, 128]⟩
abbrev S512x128 : Shape := ⟨2, ![512, 128]⟩
abbrev S81920x1x512 : Shape := ⟨3, ![81920, 1, 512]⟩
abbrev S81920x512 : Shape := ⟨2, ![81920, 512]⟩
abbrev S512x1024 : Shape := ⟨2, ![512, 1024]⟩
abbrev S1x1x1024 : Shape := ⟨3, ![1, 1, 1024]⟩
abbrev S1280x512 : Shape := ⟨2, ![1280, 512]⟩
abbrev S1280x2x512 : Shape := ⟨3, ![1280, 2, 512]⟩
abbrev S1280x1x512 : Shape := ⟨3, ![1280, 1, 512]⟩
abbrev S8x128 : Shape := ⟨2, ![8, 128]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S128x128 : Shape := ⟨2, ![128, 128]⟩
abbrev S128x512 : Shape := ⟨2, ![128, 512]⟩
abbrev S1x512 : Shape := ⟨2, ![1, 512]⟩
abbrev S1280x1024 : Shape := ⟨2, ![1280, 1024]⟩

abbrev nBuf : Space → Nat
  | .hbm => 32
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S8x4096x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S8x4096x1024, .bf16⟩
  | .hbm, ⟨24, _⟩ => ⟨S32768x1024, .bf16⟩
  | .hbm, ⟨25, _⟩ => ⟨S1024x1024, .bf16⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S81920x2x512, .bf16⟩
  | .hbm, ⟨30, _⟩ => ⟨S32768x128, .f32⟩
  | .hbm, ⟨31, _⟩ => ⟨S512x128, .i32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x128, .bf16⟩
  | .local _ .vmem, ⟨13, _⟩ => ⟨S1024x256, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S1280x2x512, .bf16⟩
  | .local _ .vmem, ⟨18, _⟩ => ⟨S1280x2x512, .bf16⟩
  | .local _ .vmem, ⟨19, _⟩ => ⟨S512x128, .f32⟩
  | .local _ .vmem, ⟨20, _⟩ => ⟨S512x128, .f32⟩
  | .local _ .vmem, ⟨21, _⟩ => ⟨S8x128, .i32⟩
  | .local _ .vmem, ⟨22, _⟩ => ⟨S8x128, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1280x2x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutRefIdeal.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x1024 : Shape := ⟨2, ![32768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S8x4096x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Fold.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S8x63x1024 : Shape := ⟨3, ![8, 63, 1024]⟩
abbrev S8x2049x1024 : Shape := ⟨3, ![8, 2049, 1024]⟩
abbrev S8x2112x1024 : Shape := ⟨3, ![8, 2112, 1024]⟩
abbrev S8x2048x1024 : Shape := ⟨3, ![8, 2048, 1024]⟩
abbrev S32768x1024 : Shape := ⟨2, ![32768, 1024]⟩
abbrev S1x1024 : Shape := ⟨2, ![1, 1024]⟩
abbrev S81920x512 : Shape := ⟨2, ![81920, 512]⟩
abbrev S32768x128 : Shape := ⟨2, ![32768, 128]⟩
abbrev S512x128 : Shape := ⟨2, ![512, 128]⟩
abbrev S1x512x1024 : Shape := ⟨3, ![1, 512, 1024]⟩
abbrev S1x8x1024 : Shape := ⟨3, ![1, 8, 1024]⟩
abbrev S512x1024 : Shape := ⟨2, ![512, 1024]⟩
abbrev S1x1x1024 : Shape := ⟨3, ![1, 1, 1024]⟩
abbrev S1280x512 : Shape := ⟨2, ![1280, 512]⟩
abbrev S8x128 : Shape := ⟨2, ![8, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S128x128 : Shape := ⟨2, ![128, 128]⟩
abbrev S128x512 : Shape := ⟨2, ![128, 512]⟩
abbrev S1x512 : Shape := ⟨2, ![1, 512]⟩
abbrev S1280x1024 : Shape := ⟨2, ![1280, 1024]⟩

abbrev nBuf : Space → Nat
  | .hbm => 39
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S8x4096x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S_, .bf16⟩
  | .hbm, ⟨24, _⟩ => ⟨S8x63x1024, .bf16⟩
  | .hbm, ⟨25, _⟩ => ⟨S8x4096x1024, .bf16⟩
  | .hbm, ⟨26, _⟩ => ⟨S8x2049x1024, .bf16⟩
  | .hbm, ⟨27, _⟩ => ⟨S8x2112x1024, .bf16⟩
  | .hbm, ⟨28, _⟩ => ⟨S8x1x1024, .bf16⟩
  | .hbm, ⟨29, _⟩ => ⟨S8x2048x1024, .bf16⟩
  | .hbm, ⟨30, _⟩ => ⟨S8x2048x1024, .bf16⟩
  | .hbm, ⟨31, _⟩ => ⟨S8x2112x1024, .bf16⟩
  | .hbm, ⟨32, _⟩ => ⟨S1024x1024, .bf16⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S81920x512, .i32⟩
  | .hbm, ⟨37, _⟩ => ⟨S32768x128, .f32⟩
  | .hbm, ⟨38, _⟩ => ⟨S512x128, .i32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x8x1024, .bf16⟩
  | .local _ .vmem, ⟨5, _⟩ => ⟨S1x8x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x256, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S1280x512, .i32⟩
  | .local _ .vmem, ⟨22, _⟩ => ⟨S1280x512, .i32⟩
  | .local _ .vmem, ⟨23, _⟩ => ⟨S512x128, .f32⟩
  | .local _ .vmem, ⟨24, _⟩ => ⟨S512x128, .f32⟩
  | .local _ .vmem, ⟨25, _⟩ => ⟨S8x128, .i32⟩
  | .local _ .vmem, ⟨26, _⟩ => ⟨S8x128, .i32⟩
  | .local _ .vmem, ⟨27, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.minsi v26 c3_i32
  let c0_i32_10 : BitVec 32 := 0#32
  let c0_i32_11 : BitVec 32 := 0#32
  ![v16.toNat, v27.toNat, c0_i32_10.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi c7_i32 v26
  let c0_i32_10 : BitVec 32 := 0#32
  let c3_i32 : BitVec 32 := 3#32
  let v28 : BitVec 32 := Scalar.maxsi c0_i32_10 v27
  let v29 : BitVec 32 := Scalar.minsi c3_i32 v28
  let c0_i32_11 : BitVec 32 := 0#32
  let c0_i32_12 : BitVec 32 := 0#32
  ![v16.toNat, v29.toNat, c0_i32_11.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32_10 : BitVec 32 := 8#32
  let v27 : BitVec 32 := Scalar.subi c8_i32_10 v26
  let c1_i32_11 : BitVec 32 := 1#32
  let c4_i32 : BitVec 32 := 4#32
  let v28 : BitVec 32 := Scalar.maxsi c1_i32_11 v27
  let v29 : BitVec 32 := Scalar.minsi c4_i32 v28
  let c64_i32 : BitVec 32 := 64#32
  let v30 : BitVec 32 := Scalar.muli c64_i32 v29
  let c0_i32_12 : BitVec 32 := 0#32
  let c0_i32_13 : BitVec 32 := 0#32
  ![v16.toNat, v30.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1280x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FoldIdeal.lean ====
abbrev S8x4096x1024 : Shape := ⟨3, ![8, 4096, 1024]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x256 : Shape := ⟨2, ![1024, 256]⟩
abbrev S8x63x1024 : Shape := ⟨3, ![8, 63, 1024]⟩
abbrev S8x2049x1024 : Shape := ⟨3, ![8, 2049, 1024]⟩
abbrev S8x2112x1024 : Shape := ⟨3, ![8, 2112, 1024]⟩
abbrev S8x2048x1024 : Shape := ⟨3, ![8, 2048, 1024]⟩
abbrev S32768x1024 : Shape := ⟨2, ![32768, 1024]⟩
abbrev S1x1024 : Shape := ⟨2, ![1, 1024]⟩
abbrev S81920x2x512 : Shape := ⟨3, ![81920, 2, 512]⟩
abbrev S32768x128 : Shape := ⟨2, ![32768, 128]⟩
abbrev S512x128 : Shape := ⟨2, ![512, 128]⟩
abbrev S81920x1x512 : Shape := ⟨3, ![81920, 1, 512]⟩
abbrev S81920x512 : Shape := ⟨2, ![81920, 512]⟩
abbrev S1x512x1024 : Shape := ⟨3, ![1, 512, 1024]⟩
abbrev S1x8x1024 : Shape := ⟨3, ![1, 8, 1024]⟩
abbrev S512x1024 : Shape := ⟨2, ![512, 1024]⟩
abbrev S1x1x1024 : Shape := ⟨3, ![1, 1, 1024]⟩
abbrev S1280x512 : Shape := ⟨2, ![1280, 512]⟩
abbrev S1280x2x512 : Shape := ⟨3, ![1280, 2, 512]⟩
abbrev S1280x1x512 : Shape := ⟨3, ![1280, 1, 512]⟩
abbrev S8x128 : Shape := ⟨2, ![8, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S128x128 : Shape := ⟨2, ![128, 128]⟩
abbrev S128x512 : Shape := ⟨2, ![128, 512]⟩
abbrev S1x512 : Shape := ⟨2, ![1, 512]⟩
abbrev S1280x1024 : Shape := ⟨2, ![1280, 1024]⟩

abbrev nBuf : Space → Nat
  | .hbm => 39
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S8x4096x1024, .f32⟩
  | .hbm, ⟨3, _⟩ => ⟨S8x1x1024, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x92, .f32⟩
  | .hbm, ⟨13, _⟩ => ⟨S1024x128, .f32⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1024x256, .bf16⟩
  | .hbm, ⟨23, _⟩ => ⟨S_, .bf16⟩
  | .hbm, ⟨24, _⟩ => ⟨S8x63x1024, .bf16⟩
  | .hbm, ⟨25, _⟩ => ⟨S8x4096x1024, .bf16⟩
  | .hbm, ⟨26, _⟩ => ⟨S8x2049x1024, .bf16⟩
  | .hbm, ⟨27, _⟩ => ⟨S8x2112x1024, .bf16⟩
  | .hbm, ⟨28, _⟩ => ⟨S8x1x1024, .bf16⟩
  | .hbm, ⟨29, _⟩ => ⟨S8x2048x1024, .bf16⟩
  | .hbm, ⟨30, _⟩ => ⟨S8x2048x1024, .bf16⟩
  | .hbm, ⟨31, _⟩ => ⟨S8x2112x1024, .bf16⟩
  | .hbm, ⟨32, _⟩ => ⟨S1024x1024, .bf16⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S81920x2x512, .bf16⟩
  | .hbm, ⟨37, _⟩ => ⟨S32768x128, .f32⟩
  | .hbm, ⟨38, _⟩ => ⟨S512x128, .i32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x8x1024, .bf16⟩
  | .local _ .vmem, ⟨5, _⟩ => ⟨S1x8x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x128, .bf16⟩
  | .local _ .vmem, ⟨17, _⟩ => ⟨S1024x256, .bf16⟩
  | .local _ .vmem, ⟨18, _⟩ => ⟨S1x128, .f32⟩
  | .local _ .vmem, ⟨19, _⟩ => ⟨S512x1024, .f32⟩
  | .local _ .vmem, ⟨20, _⟩ => ⟨S512x1024, .f32⟩
  | .local _ .vmem, ⟨21, _⟩ => ⟨S1280x2x512, .bf16⟩
  | .local _ .vmem, ⟨22, _⟩ => ⟨S1280x2x512, .bf16⟩
  | .local _ .vmem, ⟨23, _⟩ => ⟨S512x128, .f32⟩
  | .local _ .vmem, ⟨24, _⟩ => ⟨S512x128, .f32⟩
  | .local _ .vmem, ⟨25, _⟩ => ⟨S8x128, .i32⟩
  | .local _ .vmem, ⟨26, _⟩ => ⟨S8x128, .i32⟩
  | .local _ .vmem, ⟨27, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.minsi v26 c3_i32
  let c0_i32_10 : BitVec 32 := 0#32
  let c0_i32_11 : BitVec 32 := 0#32
  ![v16.toNat, v27.toNat, c0_i32_10.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi c7_i32 v26
  let c0_i32_10 : BitVec 32 := 0#32
  let c3_i32 : BitVec 32 := 3#32
  let v28 : BitVec 32 := Scalar.maxsi c0_i32_10 v27
  let v29 : BitVec 32 := Scalar.minsi c3_i32 v28
  let c0_i32_11 : BitVec 32 := 0#32
  let c0_i32_12 : BitVec 32 := 0#32
  ![v16.toNat, v29.toNat, c0_i32_11.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32_10 : BitVec 32 := 8#32
  let v27 : BitVec 32 := Scalar.subi c8_i32_10 v26
  let c1_i32_11 : BitVec 32 := 1#32
  let c4_i32 : BitVec 32 := 4#32
  let v28 : BitVec 32 := Scalar.maxsi c1_i32_11 v27
  let v29 : BitVec 32 := Scalar.minsi c4_i32 v28
  let c64_i32 : BitVec 32 := 64#32
  let v30 : BitVec 32 := Scalar.muli c64_i32 v29
  let c0_i32_12 : BitVec 32 := 0#32
  let c0_i32_13 : BitVec 32 := 0#32
  ![v16.toNat, v30.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1280x2x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Ctx.lean ====
abbrev S8x256x1024 : Shape := ⟨3, ![8, 256, 1024]⟩
abbrev S1x1x1024 : Shape := ⟨3, ![1, 1, 1024]⟩
abbrev S1024 : Shape := ⟨1, ![1024]⟩
abbrev S1024x1536 : Shape := ⟨2, ![1024, 1536]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128 : Shape := ⟨2, ![2, 128]⟩
abbrev S128x1 : Shape := ⟨2, ![128, 1]⟩
abbrev S_ : Shape := ⟨0, ![]⟩
abbrev S128x128 : Shape := ⟨2, ![128, 128]⟩
abbrev S1x1024 : Shape := ⟨2, ![1, 1024]⟩
abbrev S1024x512 : Shape := ⟨2, ![1024, 512]⟩
abbrev S256x128 : Shape := ⟨2, ![256, 128]⟩
abbrev S8x4x256x64 : Shape := ⟨4, ![8, 4, 256, 64]⟩
abbrev S8x4x256x128 : Shape := ⟨4, ![8, 4, 256, 128]⟩
abbrev S1x256x1024 : Shape := ⟨3, ![1, 256, 1024]⟩
abbrev S1x4x256x64 : Shape := ⟨4, ![1, 4, 256, 64]⟩
abbrev S1x4x256x128 : Shape := ⟨4, ![1, 4, 256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x64 : Shape := ⟨2, ![256, 64]⟩
abbrev S1x1x256x64 : Shape := ⟨4, ![1, 1, 256, 64]⟩
abbrev S1x1x256x128 : Shape := ⟨4, ![1, 1, 256, 128]⟩

abbrev nBuf : Space → Nat
  | .hbm => 73
  | .vmem => 14
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S2x128, .f32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S1x128, .i32⟩
  | .hbm, ⟨37, _⟩ => ⟨S_, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S1x128, .i32⟩
  | .hbm, ⟨44, _⟩ => ⟨S1x128, .i1⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i1⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .f32⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .bf16⟩
  | .hbm, ⟨64, _⟩ => ⟨S1x1024, .f32⟩
  | .hbm, ⟨65, _⟩ => ⟨S1024x1536, .bf16⟩
  | .hbm, ⟨66, _⟩ => ⟨S1024x512, .bf16⟩
  | .hbm, ⟨67, _⟩ => ⟨S_, .f32⟩
  | .hbm, ⟨68, _⟩ => ⟨S256x128, .f32⟩
  | .hbm, ⟨69, _⟩ => ⟨S_, .f32⟩
  | .hbm, ⟨70, _⟩ => ⟨S256x128, .f32⟩
  | .hbm, ⟨71, _⟩ => ⟨S8x4x256x64, .bf16⟩
  | .hbm, ⟨72, _⟩ => ⟨S8x4x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x512, .bf16⟩
  | .local _ .vmem, ⟨6, _⟩ => ⟨S2x128, .f32⟩
  | .local _ .vmem, ⟨7, _⟩ => ⟨S128x128, .bf16⟩
  | .local _ .vmem, ⟨8, _⟩ => ⟨S256x128, .f32⟩
  | .local _ .vmem, ⟨9, _⟩ => ⟨S256x128, .f32⟩
  | .local _ .vmem, ⟨10, _⟩ => ⟨S1x4x256x64, .bf16⟩
  | .local _ .vmem, ⟨11, _⟩ => ⟨S1x4x256x64, .bf16⟩
  | .local _ .vmem, ⟨12, _⟩ => ⟨S1x4x256x128, .bf16⟩
  | .local _ .vmem, ⟨13, _⟩ => ⟨S1x4x256x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_2 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_v24_0 : Ref sig .tc := ⟨.hbm, 71, rfl⟩
abbrev main_v24_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S1x4x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CtxRefIdeal.lean ====
abbrev S8x256x1024 : Shape := ⟨3, ![8, 256, 1024]⟩
abbrev S1x1x1024 : Shape := ⟨3, ![1, 1, 1024]⟩
abbrev S1024 : Shape := ⟨1, ![1024]⟩
abbrev S1024x1536 : Shape := ⟨2, ![1024, 1536]⟩
abbrev S64 : Shape := ⟨1, ![64]⟩
abbrev S_ : Shape := ⟨0, ![]⟩
abbrev S8x256 : Shape := ⟨2, ![8, 256]⟩
abbrev S8x256x1 : Shape := ⟨3, ![8, 256, 1]⟩
abbrev S1024x512 : Shape := ⟨2, ![1024, 512]⟩
abbrev S8x256x512 : Shape := ⟨3, ![8, 256, 512]⟩
abbrev S8x256x256 : Shape := ⟨3, ![8, 256, 256]⟩
abbrev S8x256x4x64 : Shape := ⟨4, ![8, 256, 4, 64]⟩
abbrev S8x256x4 : Shape := ⟨3, ![8, 256, 4]⟩
abbrev S8x256x4x1 : Shape := ⟨4, ![8, 256, 4, 1]⟩
abbrev S1x1x1x64 : Shape := ⟨4, ![1, 1, 1, 64]⟩
abbrev S8x256x4x128 : Shape := ⟨4, ![8, 256, 4, 128]⟩
abbrev S8x4x256x64 : Shape := ⟨4, ![8, 4, 256, 64]⟩
abbrev S8x4x256x128 : Shape := ⟨4, ![8, 4, 256, 128]⟩

abbrev nBuf : Space → Nat
  | .hbm => 59
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1x1024, .f32⟩
  | .hbm, ⟨2, _⟩ => ⟨S1x1x1024, .f32⟩
  | .hbm, ⟨3, _⟩ => ⟨S1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S8x256x1024, .f32⟩
  | .hbm, ⟨30, _⟩ => ⟨S1024x512, .f32⟩
  | .hbm, ⟨31, _⟩ => ⟨S8x256x512, .f32⟩
  | .hbm, ⟨32, _⟩ => ⟨S8x256x256, .f32⟩
  | .hbm, ⟨33, _⟩ => ⟨S8x256x4x64, .f32⟩
  | .hbm, ⟨34, _⟩ => ⟨S8x256x4x64, .f32⟩
  | .hbm, ⟨35, _⟩ => ⟨S_, .f32⟩
  | .hbm, ⟨36, _⟩ => ⟨S8x256x4, .f32⟩
  | .hbm, ⟨37, _⟩ => ⟨S8x256x4x1, .f32⟩
  | .hbm, ⟨38, _⟩ => ⟨S_, .f32⟩
  | .hbm, ⟨39, _⟩ => ⟨S8x256x4x1, .f32⟩
  | .hbm, ⟨40, _⟩ => ⟨S8x256x4x1, .f32⟩
  | .hbm, ⟨41, _⟩ => ⟨S_, .f32⟩
  | .hbm, ⟨42, _⟩ => ⟨S8x256x4x1, .f32⟩
  | .hbm, ⟨43, _⟩ => ⟨S8x256x4x1, .f32⟩
  | .hbm, ⟨44, _⟩ => ⟨S8x256x4x1, .f32⟩
  | .hbm, ⟨45, _⟩ => ⟨S8x256x4x64, .f32⟩
  | .hbm, ⟨46, _⟩ => ⟨S8x256x4x64, .f32⟩
  | .hbm, ⟨47, _⟩ => ⟨S1x1x1x64, .f32⟩
  | .hbm, ⟨48, _⟩ => ⟨S8x256x4x64, .f32⟩
  | .hbm, ⟨49, _⟩ => ⟨S8x256x4x64, .f32⟩
  | .hbm, ⟨50, _⟩ => ⟨S8x256x256, .f32⟩
  | .hbm, ⟨51, _⟩ => ⟨S8x256x4x64, .f32⟩
  | .hbm, ⟨52, _⟩ => ⟨S_, .f32⟩
  | .hbm, ⟨53, _⟩ => ⟨S8x256x4x64, .f32⟩
  | .hbm, ⟨54, _⟩ => ⟨S8x256x4x128, .f32⟩
  | .hbm, ⟨55, _⟩ => ⟨S8x4x256x64, .f32⟩
  | .hbm, ⟨56, _⟩ => ⟨S8x4x256x64, .bf16⟩
  | .hbm, ⟨57, _⟩ => ⟨S8x4x256x128, .f32⟩
  | .hbm, ⟨58, _⟩ => ⟨S8x4x256x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Step.lean ====
module

public import proofs.«01_k».proof.Proof.Gen.KernelIdeal.Frame

/-! # The body of the attention kernel as one repeated step

One visit of the body takes a tile of queries and walks over seventeen chunks of 256 keys: sixteen of the latent
sequence and one of the context.  At each chunk it raises the running row maximum, rescales what it has accumulated
and adds the chunk's weighted values.  This module writes that step once and shows that what the body stores is the
step repeated seventeen times, followed by the final division. -/

@[expose] public section

set_option maxRecDepth 16384

noncomputable section

namespace Cert.Attn

open Cert.KernelIdeal Cert.KernelIdeal.Gen Idealize.ShloMosaic Idealize.SL.Sem

variable {F : FTy → Type} [FloatOps F]

/-- The scores of a query tile against one chunk of keys. -/
def scores (q : FVec F S1024x64 .bf16) (k : Vec F S1x1x256x64 .bf16) : FVec F S1024x256 .f32 :=
  matmul dot_S1024x64_S256x64_S1024x256_1_1_0_0_n_n none q (shapeCast S256x64 k shapeCasts_S1x1x256x64_S256x64)
    (constant S1024x256 .f32 0x00000000#32)

/-- The running row maximum after one more chunk. -/
def mNext (q : FVec F S1024x64 .bf16) (m : FVec F S1024x1 .f32) (k : Vec F S1x1x256x64 .bf16) : FVec F S1024x1 .f32 :=
  maximumf m (shapeCast S1024x1
    (multiReduction .maximumf [1] S1024 (scores q k) 0xFF800000#32 reduces_S1024x256_S1024 (.inl rfl) rfl) shapeCasts_S1024_S1024x1)

/-- The accumulator after one more chunk: the old one rescaled, plus the chunk's values under their weights. -/
def aNext (q : FVec F S1024x64 .bf16) (m : FVec F S1024x1 .f32) (a : FVec F S1024x128 .f32) (k : Vec F S1x1x256x64 .bf16)
    (v : Vec F S1x1x256x128 .bf16) : FVec F S1024x128 .f32 :=
  addf (mulf (broadcastTo S1024x128 (exp2 (subf m (mNext q m k))) broadcasts_S1024x1_S1024x128) a)
    (matmul dot_S1024x256_S256x128_S1024x128_1_0_0_1_n_n none
      (truncf .bf16 (exp2 (subf (scores q k) (broadcastTo S1024x256 (mNext q m k) broadcasts_S1024x1_S1024x256))) bitsLt_bf16_f32)
      (shapeCast S256x128 v shapeCasts_S1x1x256x128_S256x128) (constant S1024x128 .f32 0x00000000#32))

/-- The running maximum after `n` chunks of the key sequence `K`. -/
def mS (q : FVec F S1024x64 .bf16) (K : ℕ → Vec F S1x1x256x64 .bf16) : ℕ → FVec F S1024x1 .f32
  | 0 => broadcast S1024x1 (Scalar.ofBits .f32 0xFF800000#32)
  | n + 1 => mNext q (mS q K n) (K n)

/-- The accumulator after `n` chunks of the key and value sequences `K`, `W`. -/
def aS (q : FVec F S1024x64 .bf16) (K : ℕ → Vec F S1x1x256x64 .bf16) (W : ℕ → Vec F S1x1x256x128 .bf16) : ℕ → FVec F S1024x128 .f32
  | 0 => broadcast S1024x128 (Scalar.ofBits .f32 0x00000000#32)
  | n + 1 => aNext q (mS q K n) (aS q K W n) (K n) (W n)

/-- The accumulator over its own upper lanes, which hold the sums of the weights. -/
def quot (a : FVec F S1024x128 .f32) : FVec F S1024x128 .f32 :=
  mulf a (divf (broadcast S1024x128 (Scalar.ofBits .f32 0x3F800000#32)) (dynamicRotate 1 64#32 none a rotates_S1024x128_d1))

/-- What is stored: the quotient's 64 value lanes, its four heads side by side. -/
def fin (a : FVec F S1024x128 .f32) : FVec F S1x256x256 .bf16 :=
  shapeCast S1x256x256 (truncf .bf16 (concatenate S256x256 1
    [⟨S256x64, extractStridedSlice S256x64 ![0, 0] (quot a) slices_S1024x128_o0_0_S256x64⟩,
     ⟨S256x64, extractStridedSlice S256x64 ![256, 0] (quot a) slices_S1024x128_o256_0_S256x64⟩,
     ⟨S256x64, extractStridedSlice S256x64 ![512, 0] (quot a) slices_S1024x128_o512_0_S256x64⟩,
     ⟨S256x64, extractStridedSlice S256x64 ![768, 0] (quot a) slices_S1024x128_o768_0_S256x64⟩]
    concatenates_S256x64_S256x64_S256x64_S256x64_S256x256_d1) bitsLt_bf16_f32) shapeCasts_S256x256_S1x256x256

/-- The key chunks in the order of the walk: the latent block's sixteen, then the context block. -/
def keys (x1 : Vec F S1x1x4096x64 .bf16) (x3 : Vec F S1x1x256x64 .bf16) : ℕ → Vec F S1x1x256x64 .bf16
  | 0 => View.ld x1 r0_1 | 1 => View.ld x1 r0_3 | 2 => View.ld x1 r0_5 | 3 => View.ld x1 r0_7
  | 4 => View.ld x1 r0_9 | 5 => View.ld x1 r0_11 | 6 => View.ld x1 r0_13 | 7 => View.ld x1 r0_15
  | 8 => View.ld x1 r0_17 | 9 => View.ld x1 r0_19 | 10 => View.ld x1 r0_21 | 11 => View.ld x1 r0_23
  | 12 => View.ld x1 r0_25 | 13 => View.ld x1 r0_27 | 14 => View.ld x1 r0_29 | 15 => View.ld x1 r0_31
  | _ => View.ld x3 r0_33

/-- The value chunks in the same order. -/
def vals (x2 : Vec F S1x1x4096x128 .bf16) (x4 : Vec F S1x1x256x128 .bf16) : ℕ → Vec F S1x1x256x128 .bf16
  | 0 => View.ld x2 r0_2 | 1 => View.ld x2 r0_4 | 2 => View.ld x2 r0_6 | 3 => View.ld x2 r0_8
  | 4 => View.ld x2 r0_10 | 5 => View.ld x2 r0_12 | 6 => View.ld x2 r0_14 | 7 => View.ld x2 r0_16
  | 8 => View.ld x2 r0_18 | 9 => View.ld x2 r0_20 | 10 => View.ld x2 r0_22 | 11 => View.ld x2 r0_24
  | 12 => View.ld x2 r0_26 | 13 => View.ld x2 r0_28 | 14 => View.ld x2 r0_30 | 15 => View.ld x2 r0_32
  | _ => View.ld x4 r0_34

/-- The query tile a block rectangle selects, its four heads one under the other. -/
def queries (x : Vec F S1x4x256x64 .bf16) : FVec F S1024x64 .bf16 :=
  k0_pay2 x

/-- What one visit of the body leaves in the output block: the two query tiles' results, one above the other. -/
theorem out_eq (x0 : Vec F S1x4x512x64 .bf16) (x1 : Vec F S1x1x4096x64 .bf16) (x2 : Vec F S1x1x4096x128 .bf16)
    (x3 : Vec F S1x1x256x64 .bf16) (x4 : Vec F S1x1x256x128 .bf16) :
    out0_5 x0 x1 x2 x3 x4 = View.canon
      [⟨r0_37, fin (aS (queries (View.ld x0 r0_36)) (keys x1 x3) (vals x2 x4) 17)⟩,
       ⟨r0_35, fin (aS (queries (View.ld x0 r0_0)) (keys x1 x3) (vals x2 x4) 17)⟩] := rfl

end Cert.Attn

end
-- ==== Proof.Online.lean ====
module

public import Idealize.ShloMosaic.PureOps.Ideal.Laws
public import Mathlib.Analysis.SpecialFunctions.Pow.Real

/-! # Softmax in one pass, over the extended reals

A row of scores arrives in chunks of 256.  `top` is the running maximum and `acc` the running weighted sum, rescaled
whenever the maximum rises.  The weighted sum turns out to be the plain sum over everything seen so far, with weights
taken against the last maximum, and a softmax does not depend on which number its exponents are shifted by. -/

@[expose] public section

noncomputable section

namespace Cert.Online

open Idealize.ShloMosaic Finset

/-- The largest score of the first `n` chunks; `⊥` before the first. -/
def top (s : ℕ → Fin 256 → EReal) : ℕ → EReal
  | 0 => ⊥
  | n + 1 => max (top s n) ((univ : Finset (Fin 256)).fold max ⊥ (s n))

/-- The weighted sum over the first `n` chunks, as it is accumulated. -/
def acc (s v : ℕ → Fin 256 → EReal) : ℕ → EReal
  | 0 => 0
  | n + 1 => Ideal.exp2 (top s n - top s (n + 1)) * acc s v n + ∑ r, Ideal.exp2 (s n r - top s (n + 1)) * v n r

/-- A maximum of finitely many reals, at least one, is a real. -/
theorem fold_max_real {ι : Type*} [Fintype ι] [Nonempty ι] (f : ι → ℝ) :
    ∃ M : ℝ, (univ : Finset ι).fold max ⊥ (fun i => (f i : EReal)) = M := by
  obtain ⟨i, -, h⟩ := (univ : Finset ι).exists_mem_eq_sup univ_nonempty (fun i => (f i : EReal))
  exact ⟨f i, h⟩

/-- From the first chunk on the running maximum of real scores is a real. -/
theorem top_real (s : ℕ → Fin 256 → ℝ) : ∀ n, ∃ M : ℝ, top (fun j r => (s j r : EReal)) (n + 1) = M
  | 0 => by
    obtain ⟨M, h⟩ := fold_max_real (s 0)
    exact ⟨M, by rw [top, top, h, max_eq_right bot_le]⟩
  | n + 1 => by
    obtain ⟨M, h⟩ := top_real s n
    obtain ⟨M', h'⟩ := fold_max_real (s (n + 1))
    exact ⟨max M M', by rw [top, h, h']; exact (EReal.coe_strictMono.monotone.map_max).symm⟩

/-- A nonnegative real factor goes into any finite sum of extended reals. -/
theorem coe_mul_sum {ι : Type*} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [sum_insert ha, sum_insert ha, EReal.left_distrib_of_nonneg_of_ne_top (by exact_mod_cast hc) (EReal.coe_ne_top c), ih]

/-- A sum of reals, taken among the extended reals, is the real sum. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [sum_insert ha, sum_insert ha, ih, EReal.coe_add]

/-- The base-two exponential of a difference of reals. -/
theorem exp2_sub (x y : ℝ) : Ideal.exp2 ((x : EReal) - (y : EReal)) = (((2 : ℝ) ^ (x - y) : ℝ) : EReal) := by
  rw [← EReal.coe_sub]; rfl

/-- What has been accumulated after a chunk is the sum over everything seen, weighed against the maximum so far. -/
theorem acc_closed (s : ℕ → Fin 256 → ℝ) (v : ℕ → Fin 256 → EReal) : ∀ (n : ℕ) (M : ℝ),
    top (fun j r => (s j r : EReal)) (n + 1) = M →
    acc (fun j r => (s j r : EReal)) v (n + 1) = ∑ j ∈ range (n + 1), ∑ r, (((2 : ℝ) ^ (s j r - M) : ℝ) : EReal) * v j r
  | 0, M, h => by
    rw [acc, h]
    simp only [top, acc, mul_zero, zero_add, exp2_sub, sum_range_one]
  | n + 1, M, h => by
    obtain ⟨M', h'⟩ := top_real s n
    rw [acc, h, h', acc_closed s v n M' h', sum_range_succ _ (n + 1)]
    simp only [exp2_sub]
    congr 1
    rw [coe_mul_sum _ _ (by positivity)]
    refine sum_congr rfl fun j _ => ?_
    rw [coe_mul_sum _ _ (by positivity)]
    refine sum_congr rfl fun r _ => ?_
    rw [← mul_assoc, ← EReal.coe_mul, ← Real.rpow_add (by norm_num)]
    congr 3
    ring

/-- The softmax weight of one entry among finitely many. -/
def weight {ι : Type*} [Fintype ι] (t : ι → ℝ) (i : ι) : ℝ := Real.exp (t i) / ∑ k, Real.exp (t k)

/-- A softmax weight does not depend on the number its exponents are shifted by. -/
theorem weight_shift {ι : Type*} [Fintype ι] (t : ι → ℝ) (a : ℝ) (i : ι) :
    Real.exp (t i - a) / ∑ k, Real.exp (t k - a) = weight t i := by
  simp only [weight, Real.exp_sub, ← sum_div]
  rw [div_div_div_cancel_right₀ (Real.exp_ne_zero a)]

/-- A power of two as an exponential, its exponent scaled. -/
theorem two_rpow (t c : ℝ) (M : ℝ) (hc : c * Real.log 2 = 1) : (2 : ℝ) ^ (t * c - M) = Real.exp (t - M * Real.log 2) := by
  rw [Real.rpow_def_of_pos (by norm_num)]
  congr 1
  have : Real.log 2 * (t * c - M) = t * (c * Real.log 2) - M * Real.log 2 := by ring
  rw [this, hc, mul_one]

/-- The seventeen chunks as one family of 4352 entries. -/
def cell (x : Fin 17 × Fin 256) : Fin 4352 := finProdFinEquiv x

/-- The entry's position: its chunk's start plus its place there. -/
theorem cell_val (x : Fin 17 × Fin 256) : (cell x).val = 256 * x.1.val + x.2.val := by
  show x.2.val + 256 * x.1.val = _
  omega

/-- A sum chunk by chunk is the sum over all entries. -/
theorem sum_chunks {M : Type*} [AddCommMonoid M] (g : ℕ → Fin 256 → M) (f : Fin 4352 → M)
    (h : ∀ (j : Fin 17) (r : Fin 256), g j.val r = f (cell (j, r))) :
    ∑ j ∈ range 17, ∑ r, g j r = ∑ k, f k := by
  rw [sum_range fun j => ∑ r, g j r, ← Equiv.sum_comp (finProdFinEquiv (m := 17) (n := 256)) f, Fintype.sum_prod_type]
  exact sum_congr rfl fun j _ => sum_congr rfl fun r _ => h j r

/-- THE ONE-PASS SOFTMAX: the accumulated values over the accumulated weights are the values under the softmax
    weights of all 4352 scores `t`, when the chunks' scores are those times `c = 1 / log 2`. -/
theorem quotient_eq (t : Fin 4352 → ℝ) (w : Fin 4352 → EReal) (c : ℝ) (hc : c * Real.log 2 = 1)
    (s : ℕ → Fin 256 → EReal) (v one : ℕ → Fin 256 → EReal)
    (hs : ∀ (j : Fin 17) (r : Fin 256), s j.val r = ((t (cell (j, r)) * c : ℝ) : EReal))
    (hv : ∀ (j : Fin 17) (r : Fin 256), v j.val r = w (cell (j, r)))
    (h1 : ∀ (j : Fin 17) (r : Fin 256), one j.val r = 1) :
    acc s v 17 * Ideal.div 1 (acc s one 17) = ∑ k, w k * ((weight t k : ℝ) : EReal) := by
  have congr_top : ∀ (s s' : ℕ → Fin 256 → EReal) (n : ℕ), (∀ j < n, s j = s' j) → top s n = top s' n := by
    intro s s' n
    induction n with
    | zero => intro _; rfl
    | succ n ih => intro h; rw [top, top, ih fun j hj => h j (by omega), h n (by omega)]
  have congr_acc : ∀ (s s' v : ℕ → Fin 256 → EReal) (n : ℕ), (∀ j < n, s j = s' j) → acc s v n = acc s' v n := by
    intro s s' v n
    induction n with
    | zero => intro _; rfl
    | succ n ih =>
      intro h
      rw [acc, acc, ih fun j hj => h j (by omega), h n (by omega), congr_top s s' (n + 1) h,
        congr_top s s' n fun j hj => h j (by omega)]
  let sr : ℕ → Fin 256 → ℝ := fun j r => if h : j < 17 then t (cell (⟨j, h⟩, r)) * c else 0
  have hsr : ∀ j < 17, s j = fun r => ((sr j r : ℝ) : EReal) := fun j hj => funext fun r => by
    simp only [sr, dif_pos hj]; exact hs ⟨j, hj⟩ r
  obtain ⟨M, hM⟩ := top_real sr 16
  have hp : ∀ (j : Fin 17) (r : Fin 256), (2 : ℝ) ^ (sr j.val r - M) = Real.exp (t (cell (j, r)) - M * Real.log 2) := fun j r => by
    simp only [sr, dif_pos j.isLt]; exact two_rpow _ _ _ hc
  have hnum : acc s v 17 = ∑ k, ((Real.exp (t k - M * Real.log 2) : ℝ) : EReal) * w k := by
    rw [congr_acc _ _ v 17 hsr, acc_closed sr v 16 M hM]
    exact sum_chunks _ _ fun j r => by rw [hp, hv]
  have hden : acc s one 17 = ((∑ k, Real.exp (t k - M * Real.log 2) : ℝ) : EReal) := by
    rw [congr_acc _ _ one 17 hsr, acc_closed sr one 16 M hM, ← coe_sum]
    exact sum_chunks _ _ fun j r => by rw [hp, h1, mul_one]
  have hpos : 0 < ∑ k, Real.exp (t k - M * Real.log 2) :=
    sum_pos (fun k _ => Real.exp_pos _) ⟨0, mem_univ _⟩
  rw [hnum, hden, Ideal.div_coe hpos.ne', one_mul, mul_comm, coe_mul_sum _ _ (by positivity)]
  refine sum_congr rfl fun k _ => ?_
  rw [← mul_assoc, ← EReal.coe_mul, mul_comm, ← weight_shift t (M * Real.log 2) k]
  congr 2
  ring

/-- THE TWO-PASS SOFTMAX of the reference: exponentials shifted by a real, divided by their sum. -/
theorem softmax_eq {ι : Type*} [Fintype ι] [Nonempty ι] (t : ι → ℝ) (M : ℝ) (i : ι) :
    Ideal.div (Ideal.exp ((t i : EReal) - (M : EReal))) (∑ k, Ideal.exp ((t k : EReal) - (M : EReal))) = ((weight t i : ℝ) : EReal) := by
  have h : ∀ k, Ideal.exp ((t k : EReal) - (M : EReal)) = ((Real.exp (t k - M) : ℝ) : EReal) := fun k => by
    rw [← EReal.coe_sub]; rfl
  simp only [h]
  have hpos : 0 < ∑ k, Real.exp (t k - M) := sum_pos (fun k _ => Real.exp_pos _) univ_nonempty
  rw [coe_sum, Ideal.div_coe hpos.ne', ← EReal.coe_mul, ← weight_shift t M i]
  congr 1
  ring

end Cert.Online

end
-- ==== Proof.Row.lean ====
module

public import proofs.«01_k».proof.Proof.Step
public import proofs.«01_k».proof.Proof.Online
public import Idealize.ShloMosaic.Lib.Pipeline.Value
public import Idealize.ShloMosaic.Lib.ValueIdx
public import Idealize.ShloMosaic.Lib.KernelVsHost

/-! # One row of the step

At the ideal values a row of the running maximum and a row of the accumulator are the one-pass softmax's `top` and `acc`
of that row's scores; the stored element is the accumulated value over the accumulated weight. -/

@[expose] public section

set_option maxRecDepth 16384

noncomputable section

namespace Cert.Attn

open Cert.KernelIdeal Cert.KernelIdeal.Gen Idealize.ShloMosaic Idealize.ShloMosaic.ValueIdx Idealize.SL.Sem

/-- A query row against a key: the sum over the 64 features. -/
def dot (q : FVec Ideal S1024x64 .bf16) (k : Vec Ideal S1x1x256x64 .bf16) (ρ : Fin 1024) (r : Fin 256) : EReal :=
  ∑ d : Fin 64, q (ix2 ρ d) * k (ix4 0 0 r d)

/-- A chunk of keys as a matrix. -/
theorem key_cast (k : Vec Ideal S1x1x256x64 .bf16) (r : Fin 256) (d : Fin 64) :
    shapeCast S256x64 k shapeCasts_S1x1x256x64_S256x64 (ix2 r d) = k (ix4 0 0 r d) :=
  shapeCast_apply _ _ _ _ (by rw [Shape.rowMajor_val_four, Shape.rowMajor_val_two]; simp [ix4, ix2])

/-- A chunk of values as a matrix. -/
theorem val_cast (v : Vec Ideal S1x1x256x128 .bf16) (r : Fin 256) (l : Fin 128) :
    shapeCast S256x128 v shapeCasts_S1x1x256x128_S256x128 (ix2 r l) = v (ix4 0 0 r l) :=
  shapeCast_apply _ _ _ _ (by rw [Shape.rowMajor_val_four, Shape.rowMajor_val_two]; simp [ix4, ix2])

/-- The scores at a row and a key. -/
theorem scores_apply (q : FVec Ideal S1024x64 .bf16) (k : Vec Ideal S1x1x256x64 .bf16) (ρ : Fin 1024) (r : Fin 256) :
    scores q k (ix2 ρ r) = dot q k ρ r := by
  unfold scores dot
  simp only [matmul]
  rw [Ideal.matmul_constant_zero_apply,
    ← Equiv.sum_comp (contrEquiv1 dot_S1024x64_S256x64_S1024x256_1_1_0_0_n_n 64 rfl rfl).symm]
  refine Finset.sum_congr rfl fun d _ => ?_
  have hd := contrEquiv1_symm_val dot_S1024x64_S256x64_S1024x256_1_1_0_0_n_n 64 rfl rfl d
  have el : dot_S1024x64_S256x64_S1024x256_1_1_0_0_n_n.lhsIdx (ix2 ρ r)
      ((contrEquiv1 dot_S1024x64_S256x64_S1024x256_1_1_0_0_n_n 64 rfl rfl).symm d) = ix2 ρ d :=
    funext fun a => Fin.ext (by
      match a with
      | ⟨0, _⟩ => rfl
      | ⟨1, _⟩ => exact (DotDims.lhsIdx_val_of_single _ rfl _ _).trans hd)
  have er : dot_S1024x64_S256x64_S1024x256_1_1_0_0_n_n.rhsIdx (ix2 ρ r)
      ((contrEquiv1 dot_S1024x64_S256x64_S1024x256_1_1_0_0_n_n 64 rfl rfl).symm d) = ix2 r d :=
    funext fun a => Fin.ext (by
      match a with
      | ⟨0, _⟩ => rfl
      | ⟨1, _⟩ => exact (DotDims.rhsIdx_val_of_single _ rfl _ _).trans hd)
  rw [el, er, key_cast]

/-- The bit pattern the running maximum starts from is minus infinity. -/
theorem neg_inf : (Scalar.ofBits .f32 0xFF800000#32 : Ideal .f32) = (⊥ : EReal) := by
  show Ideal.ofBits .f32 0xFF800000#32 = ⊥
  simp [Ideal.ofBits, Ideal.ieee]

/-- The running maximum of a row after one more chunk. -/
theorem mNext_apply (q : FVec Ideal S1024x64 .bf16) (m : FVec Ideal S1024x1 .f32) (k : Vec Ideal S1x1x256x64 .bf16) (ρ : Fin 1024) :
    mNext q m k (ix2 ρ 0) = max (m (ix2 ρ 0)) ((Finset.univ : Finset (Fin 256)).fold max ⊥ (dot q k ρ)) := by
  unfold mNext
  rw [maximumf_apply]
  refine congrArg (max _) ?_
  rw [shapeCast_apply _ _ (ix2 ρ 0) (ix1 ρ) (by rw [Shape.rowMajor_val_one, Shape.rowMajor_val_two]; simp [ix1, ix2])]
  refine (Ideal.multiReduction_maximumf_single (scores q k) 0xFF800000#32 reduces_S1024x256_S1024 (.inl rfl) rfl (ix1 ρ)).trans ?_
  have e : (scores q k ∘ reduces_S1024x256_S1024.lift (ix1 ρ)) = dot q k ρ := funext fun r => by
    refine (congrArg (scores q k) (?_ : reduces_S1024x256_S1024.lift (ix1 ρ) r = ix2 ρ r)).trans (scores_apply q k ρ r)
    exact funext fun a => Fin.ext (by match a with | ⟨0, _⟩ => rfl | ⟨1, _⟩ => rfl)
  have hb : (FloatOps.ofBits .f32 0xFF800000#32 : Ideal .f32) = (⊥ : EReal) := neg_inf
  rw [e, hb]
  rfl

/-- The accumulator at a row and a lane after one more chunk. -/
theorem aNext_apply (q : FVec Ideal S1024x64 .bf16) (m : FVec Ideal S1024x1 .f32) (a : FVec Ideal S1024x128 .f32)
    (k : Vec Ideal S1x1x256x64 .bf16) (v : Vec Ideal S1x1x256x128 .bf16) (ρ : Fin 1024) (l : Fin 128) :
    aNext q m a k v (ix2 ρ l) = Ideal.exp2 (m (ix2 ρ 0) - mNext q m k (ix2 ρ 0)) * a (ix2 ρ l)
      + ∑ r, Ideal.exp2 (dot q k ρ r - mNext q m k (ix2 ρ 0)) * v (ix4 0 0 r l) := by
  unfold aNext
  rw [addf_apply, mulf_apply]
  congr 1
  · rw [broadcastTo_apply _ broadcasts_S1024x1_S1024x128 (ix2 ρ l) (ix2 ρ 0) (fun b => by
      match b with
      | ⟨0, _⟩ => rfl
      | ⟨1, _⟩ => rfl)]
    rfl
  · simp only [matmul]
    rw [Ideal.matmul_constant_zero_apply,
      ← Equiv.sum_comp (contrEquiv1 dot_S1024x256_S256x128_S1024x128_1_0_0_1_n_n 256 rfl rfl).symm]
    refine Finset.sum_congr rfl fun r _ => ?_
    have hr := contrEquiv1_symm_val dot_S1024x256_S256x128_S1024x128_1_0_0_1_n_n 256 rfl rfl r
    have el : dot_S1024x256_S256x128_S1024x128_1_0_0_1_n_n.lhsIdx (ix2 ρ l)
        ((contrEquiv1 dot_S1024x256_S256x128_S1024x128_1_0_0_1_n_n 256 rfl rfl).symm r) = ix2 ρ r :=
      funext fun a => Fin.ext (by
        match a with
        | ⟨0, _⟩ => rfl
        | ⟨1, _⟩ => exact (DotDims.lhsIdx_val_of_single _ rfl _ _).trans hr)
    have er : dot_S1024x256_S256x128_S1024x128_1_0_0_1_n_n.rhsIdx (ix2 ρ l)
        ((contrEquiv1 dot_S1024x256_S256x128_S1024x128_1_0_0_1_n_n 256 rfl rfl).symm r) = ix2 r l :=
      funext fun a => Fin.ext (by
        match a with
        | ⟨0, _⟩ => exact (DotDims.rhsIdx_val_of_single _ rfl _ _).trans hr
        | ⟨1, _⟩ => rfl)
    rw [el, er, val_cast, truncf_apply]
    congr 1
    show Ideal.exp2 (scores q k (ix2 ρ r) - broadcastTo S1024x256 (mNext q m k) broadcasts_S1024x1_S1024x256 (ix2 ρ r)) = _
    rw [scores_apply, broadcastTo_apply _ broadcasts_S1024x1_S1024x256 (ix2 ρ r) (ix2 ρ 0) (fun b => by
      match b with
      | ⟨0, _⟩ => rfl
      | ⟨1, _⟩ => rfl)]

variable (q : FVec Ideal S1024x64 .bf16) (K : ℕ → Vec Ideal S1x1x256x64 .bf16) (W : ℕ → Vec Ideal S1x1x256x128 .bf16)

/-- A row of the running maximum is the one-pass softmax's maximum of that row's scores. -/
theorem mS_apply (ρ : Fin 1024) : ∀ n, mS q K n (ix2 ρ 0) = Online.top (fun j => dot q (K j) ρ) n
  | 0 => neg_inf
  | n + 1 => by rw [mS, mNext_apply, mS_apply ρ n, Online.top]

/-- An element of the accumulator is the one-pass softmax's weighted sum of that row's scores and that lane's values. -/
theorem aS_apply (ρ : Fin 1024) (l : Fin 128) :
    ∀ n, aS q K W n (ix2 ρ l) = Online.acc (fun j => dot q (K j) ρ) (fun j r => W j (ix4 0 0 r l)) n
  | 0 => by
    show Ideal.ofBits .f32 0x00000000#32 = 0
    exact Ideal.ofBits_zero_f32
  | n + 1 => by
    rw [aS, aNext_apply, aS_apply ρ l n, Online.acc, ← mS_apply, ← mS_apply]
    rfl

/-- The quotient at a value lane: the accumulated value times the inverse of the accumulated weight 64 lanes up. -/
theorem quot_apply (a : FVec Ideal S1024x128 .f32) (ρ : Fin 1024) (l : Fin 64) :
    quot a (ix2 ρ ⟨l.val, by omega⟩) = a (ix2 ρ ⟨l.val, by omega⟩) * Ideal.div 1 (a (ix2 ρ ⟨64 + l.val, by omega⟩)) := by
  unfold quot
  rw [mulf_apply, divf_apply, dynamicRotate_apply 1 64#32 a rotates_S1024x128_d1 (ix2 ρ ⟨l.val, by omega⟩) (ix2 ρ ⟨64 + l.val, by omega⟩) (fun b => by
    match b with
    | ⟨0, _⟩ => rfl
    | ⟨1, _⟩ =>
      show 64 + l.val = (l.val + 128 - 64 % 128) % 128
      omega)]
  congr 2
  show Ideal.ofBits .f32 0x3F800000#32 = 1
  simp [Ideal.ofBits, Ideal.ieee, -EReal.coe_mul]
  norm_num

/-- The stored block at a query and a column: head `column / 64`, value lane `column % 64`. -/
theorem fin_apply (a : FVec Ideal S1024x128 .f32) (p : Fin 256) (g : Fin 4) (l : Fin 64) :
    fin a (ix3 0 p ⟨64 * g.val + l.val, by omega⟩)
      = quot a (ix2 ⟨256 * g.val + p.val, by omega⟩ ⟨l.val, by omega⟩) := by
  unfold fin
  rw [shapeCast_apply _ _ (ix3 0 p ⟨64 * g.val + l.val, by omega⟩) (ix2 p ⟨64 * g.val + l.val, by omega⟩)
    (by rw [Shape.rowMajor_val_two, Shape.rowMajor_val_three]; simp [ix3, ix2]), truncf_apply]
  let f : Fin 4 → S256x64.Idx → Ideal .f32 := fun c i =>
    quot a (ix2 ⟨256 * c.val + (i 0).val, by have := (i 0).isLt; simp at this; omega⟩ ⟨(i 1).val, by have := (i 1).isLt; simp at this; omega⟩)
  have e : ∀ (o : ℕ) (c : Fin 4) (ho : o = 256 * c.val) (h : S1024x128.Slices ![o, 0] S256x64),
      extractStridedSlice S256x64 ![o, 0] (quot a) h = f c := fun o c ho h => funext fun i =>
    extractStridedSlice_apply _ _ _ _ _ fun b => by
      match b with
      | ⟨0, _⟩ => subst ho; rfl
      | ⟨1, _⟩ => exact (Nat.zero_add _).symm
  rw [e 0 0 rfl, e 256 1 rfl, e 512 2 rfl, e 768 3 rfl]
  exact concatenate_ofFn_apply (s₁ := S256x64) 1 f concatenates_S256x64_S256x64_S256x64_S256x64_S256x256_d1 rfl 64 rfl
    (ix2 p ⟨64 * g.val + l.val, by omega⟩) g (by show (64 * g.val + l.val) / 64 = g.val; omega) (ix2 p l)
    (by show l.val = (64 * g.val + l.val) % 64; omega) (fun b hb => by match b with | ⟨0, _⟩ => rfl | ⟨1, _⟩ => exact absurd rfl hb)

end Cert.Attn

end
-- ==== Proof.Entry.lean ====
module

public import proofs.«01_k».proof.Proof.Row
public import Idealize.ShloMosaic.Lib.Claim
public import Idealize.ShloMosaic.Lib.Pipeline.ValueKit

/-! # What the attention reads

The five arrays the host prepares, and their blocks at a grid point, in the arguments' terms. -/

@[expose] public section

set_option maxRecDepth 16384

noncomputable section

namespace Cert.Attn

open Cert.KernelIdeal Cert.KernelIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- The queries. -/
abbrev argQ : S8x4096x4x4x64.Idx → EReal := m ((c : Thread nD τ).loc main_arg0)
/-- The latent keys. -/
abbrev argK : S8x4096x4x64.Idx → EReal := m ((c : Thread nD τ).loc main_arg1)
/-- The latent values. -/
abbrev argV : S8x4096x4x64.Idx → EReal := m ((c : Thread nD τ).loc main_arg2)
/-- The context keys. -/
abbrev argKc : S8x256x4x64.Idx → EReal := m ((c : Thread nD τ).loc main_arg3)
/-- The context values. -/
abbrev argVc : S8x256x4x64.Idx → EReal := m ((c : Thread nD τ).loc main_arg4)

/-- The bit pattern of one. -/
theorem one_bits : Ideal.ofBits .f32 0x3F800000#32 = 1 := by
  simp [Ideal.ofBits, Ideal.ieee, -EReal.coe_mul]
  norm_num

/-- The bit pattern of an eighth. -/
theorem eighth_bits : Ideal.ofBits .f32 0x3E000000#32 = ((0.125 : ℝ) : EReal) := by
  simp [Ideal.ofBits, Ideal.ieee, -EReal.coe_mul]
  norm_num

/-- The bit pattern of two. -/
theorem two_bits : Ideal.ofBits .f32 0x40000000#32 = ((2 : ℝ) : EReal) := by
  simp [Ideal.ofBits, Ideal.ieee, -EReal.coe_mul]
  norm_num

/-- The factor the host puts on the queries: an eighth over the logarithm of two. -/
theorem scale_eq : Ideal.div (Ideal.ofBits .f32 0x3E000000#32) (Ideal.log (Ideal.ofBits .f32 0x40000000#32))
    = ((0.125 * (1 / Real.log 2) : ℝ) : EReal) := by
  have h : Ideal.log ((2 : ℝ) : EReal) = ((Real.log 2 : ℝ) : EReal) := if_neg (by norm_num)
  rw [eighth_bits, two_bits, h, Ideal.div_coe (Real.log_pos (by norm_num)).ne', ← EReal.coe_mul]

/-- The prepared queries: heads first, scaled. -/
theorem q_entry (b : Fin 8) (h g : Fin 4) (n : Fin 4096) (d : Fin 64) :
    (V m c main_v6 (ix4 b ⟨4 * h.val + g.val, by omega⟩ n d) : EReal)
      = argQ m c (ix5 b n h g d) * ((0.125 * (1 / Real.log 2) : ℝ) : EReal) := by
  entry_read
  rw [transpose_apply _ _ _ _ (ix4 b n ⟨4 * h.val + g.val, by omega⟩ d) (fun a => match a with | ⟨0, _⟩ => rfl | ⟨1, _⟩ => rfl | ⟨2, _⟩ => rfl | ⟨3, _⟩ => rfl)]
  refine (shapeCast_apply (t := S8x4096x16x64) _ _ (ix4 b n ⟨4 * h.val + g.val, by omega⟩ d) (ix5 b n h g d) (by
    rw [Shape.rowMajor_val_four, Shape.rowMajor_val_five]
    show (((b.val * 4096 + n.val) * 4 + h.val) * 4 + g.val) * 64 + d.val = ((b.val * 4096 + n.val) * 16 + (4 * h.val + g.val)) * 64 + d.val
    omega)).trans ?_
  rw [← scale_eq]
  rfl

/-- The prepared latent keys: heads first. -/
theorem k_entry (b : Fin 8) (h : Fin 4) (n : Fin 4096) (d : Fin 64) :
    (V m c main_v8 (ix4 b h n d) : EReal) = argK m c (ix4 b n h d) := by
  entry_read
  rw [transpose_apply _ _ _ _ (ix4 b n h d) (fun a => match a with | ⟨0, _⟩ => rfl | ⟨1, _⟩ => rfl | ⟨2, _⟩ => rfl | ⟨3, _⟩ => rfl)]
  rfl

/-- The prepared context keys: heads first. -/
theorem kc_entry (b : Fin 8) (h : Fin 4) (n : Fin 256) (d : Fin 64) :
    (V m c main_v14 (ix4 b h n d) : EReal) = argKc m c (ix4 b n h d) := by
  entry_read
  rw [transpose_apply _ _ _ _ (ix4 b n h d) (fun a => match a with | ⟨0, _⟩ => rfl | ⟨1, _⟩ => rfl | ⟨2, _⟩ => rfl | ⟨3, _⟩ => rfl)]
  rfl

/-- The prepared latent values, in the lower 64 lanes. -/
theorem v_entry (b : Fin 8) (h : Fin 4) (n : Fin 4096) (d : Fin 64) :
    (V m c main_v12 (ix4 b h n ⟨d.val, by omega⟩) : EReal) = argV m c (ix4 b n h d) := by
  entry_read
  rw [transpose_apply _ _ _ _ (ix4 b n h ⟨d.val, by omega⟩) (fun a => match a with | ⟨0, _⟩ => rfl | ⟨1, _⟩ => rfl | ⟨2, _⟩ => rfl | ⟨3, _⟩ => rfl)]
  exact concatenate_pair_apply_left (t := S8x4096x4x128) 3 (s₁ := S8x4096x4x64) (s₂ := S8x4096x4x64) _ _
    concatenates_S8x4096x4x64_S8x4096x4x64_S8x4096x4x128_d3 _ rfl (ix4 b n h d)
    (fun a => match a with | ⟨0, _⟩ => rfl | ⟨1, _⟩ => rfl | ⟨2, _⟩ => rfl | ⟨3, _⟩ => rfl)

/-- The upper 64 lanes of the latent values' array are ones. -/
theorem ones_entry (b : Fin 8) (h : Fin 4) (n : Fin 4096) (d : Fin 64) :
    @Eq EReal (V m c main_v12 (ix4 b h n ⟨64 + d.val, by omega⟩)) 1 := by
  entry_read
  rw [transpose_apply _ _ _ _ (ix4 b n h ⟨64 + d.val, by omega⟩) (fun a => match a with | ⟨0, _⟩ => rfl | ⟨1, _⟩ => rfl | ⟨2, _⟩ => rfl | ⟨3, _⟩ => rfl)]
  rw [← one_bits]
  exact concatenate_pair_apply_right (t := S8x4096x4x128) 3 (s₁ := S8x4096x4x64) (s₂ := S8x4096x4x64) _ _
    concatenates_S8x4096x4x64_S8x4096x4x64_S8x4096x4x128_d3 _ rfl rfl (ix4 b n h d)
    (fun a ha => match a with | ⟨0, _⟩ => rfl | ⟨1, _⟩ => rfl | ⟨2, _⟩ => rfl | ⟨3, _⟩ => absurd rfl ha) (Nat.add_comm _ _)

/-- The prepared context values, in the lower 64 lanes. -/
theorem vc_entry (b : Fin 8) (h : Fin 4) (n : Fin 256) (d : Fin 64) :
    (V m c main_v18 (ix4 b h n ⟨d.val, by omega⟩) : EReal) = argVc m c (ix4 b n h d) := by
  entry_read
  rw [transpose_apply _ _ _ _ (ix4 b n h ⟨d.val, by omega⟩) (fun a => match a with | ⟨0, _⟩ => rfl | ⟨1, _⟩ => rfl | ⟨2, _⟩ => rfl | ⟨3, _⟩ => rfl)]
  exact concatenate_pair_apply_left (t := S8x256x4x128) 3 (s₁ := S8x256x4x64) (s₂ := S8x256x4x64) _ _
    concatenates_S8x256x4x64_S8x256x4x64_S8x256x4x128_d3 _ rfl (ix4 b n h d)
    (fun a => match a with | ⟨0, _⟩ => rfl | ⟨1, _⟩ => rfl | ⟨2, _⟩ => rfl | ⟨3, _⟩ => rfl)

/-- The upper 64 lanes of the context values' array are ones. -/
theorem onesc_entry (b : Fin 8) (h : Fin 4) (n : Fin 256) (d : Fin 64) :
    @Eq EReal (V m c main_v18 (ix4 b h n ⟨64 + d.val, by omega⟩)) 1 := by
  entry_read
  rw [transpose_apply _ _ _ _ (ix4 b n h ⟨64 + d.val, by omega⟩) (fun a => match a with | ⟨0, _⟩ => rfl | ⟨1, _⟩ => rfl | ⟨2, _⟩ => rfl | ⟨3, _⟩ => rfl)]
  rw [← one_bits]
  exact concatenate_pair_apply_right (t := S8x256x4x128) 3 (s₁ := S8x256x4x64) (s₂ := S8x256x4x64) _ _
    concatenates_S8x256x4x64_S8x256x4x64_S8x256x4x128_d3 _ rfl rfl (ix4 b n h d)
    (fun a ha => match a with | ⟨0, _⟩ => rfl | ⟨1, _⟩ => rfl | ⟨2, _⟩ => rfl | ⟨3, _⟩ => absurd rfl ha) (Nat.add_comm _ _)

end Cert.Attn

end
-- ==== Proof.Block.lean ====
module

public import proofs.«01_k».proof.Proof.Entry
public import Idealize.ShloMosaic.Lib.Pipeline.Covers

/-! # The blocks of a grid point

A grid point is a batch entry, a key head and a block of 512 queries. -/

@[expose] public section

set_option maxRecDepth 16384

noncomputable section

namespace Cert.Attn

open Cert.KernelIdeal Cert.KernelIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- The grid point's batch entry. -/
def batch (t : Fin cfg0.N) : Fin 8 := grid0.coords t 0
/-- The grid point's key head. -/
def head (t : Fin cfg0.N) : Fin 4 := grid0.coords t 1
/-- The grid point's block of queries. -/
def tile (t : Fin cfg0.N) : Fin 8 := grid0.coords t 2

/-- Which block of each array a grid point has. -/
theorem index_eq : ∀ t : Fin grid0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val] := by
  decide +kernel

/-- The query block: four heads of 512 scaled queries. -/
theorem q_block (t : Fin cfg0.N) (g : Fin 4) (n : Fin 512) (d : Fin 64) :
    @Eq EReal (iblk m c 0 t (ix4 0 g n d))
      (argQ m c (ix5 (batch t) ⟨512 * (tile t).val + n.val, by omega⟩ (head t) g d) * ((0.125 * (1 / Real.log 2) : ℝ) : EReal)) := by
  rw [← q_entry]
  refine congrArg (V m c main_v6) (funext fun a => Fin.ext ?_)
  blk_simp [index_eq t]
  match a with
  | ⟨0, _⟩ => show (batch t).val * 1 + 0 = (batch t).val; omega
  | ⟨1, _⟩ => show (head t).val * 4 + g.val = 4 * (head t).val + g.val; omega
  | ⟨2, _⟩ => show (tile t).val * 512 + n.val = 512 * (tile t).val + n.val; omega
  | ⟨3, _⟩ => show 0 * 64 + d.val = d.val; omega

/-- A block that is a whole head of one batch entry lies at that entry and head. -/
theorem place {N D : ℕ} (t : Fin cfg0.N) (n : Fin N) (d : Fin D) (a : Fin 4) :
    (![(grid0.coords t 0).val, (grid0.coords t 1).val, 0, 0] : Fin 4 → ℕ) a * (![1, 1, N, D] : Fin 4 → ℕ) a
      + ((ix4 0 0 n d : (⟨4, ![1, 1, N, D]⟩ : Shape).Idx) a).val = ((ix4 (batch t) (head t) n d : (⟨4, ![8, 4, N, D]⟩ : Shape).Idx) a).val := by
  match a with
  | ⟨0, _⟩ => show (batch t).val * 1 + 0 = (batch t).val; omega
  | ⟨1, _⟩ => show (head t).val * 1 + 0 = (head t).val; omega
  | ⟨2, _⟩ => show 0 * N + n.val = n.val; omega
  | ⟨3, _⟩ => show 0 * D + d.val = d.val; omega

/-- The block of latent keys. -/
theorem k_block (t : Fin cfg0.N) (n : Fin 4096) (d : Fin 64) :
    @Eq EReal (iblk m c 1 t (ix4 0 0 n d)) (argK m c (ix4 (batch t) n (head t) d)) := by
  rw [← k_entry]
  refine congrArg (V m c main_v8) (funext fun a => Fin.ext ?_)
  blk_simp [index_eq t]
  exact place t n d a

/-- The block of context keys. -/
theorem kc_block (t : Fin cfg0.N) (n : Fin 256) (d : Fin 64) :
    @Eq EReal (iblk m c 3 t (ix4 0 0 n d)) (argKc m c (ix4 (batch t) n (head t) d)) := by
  rw [← kc_entry]
  refine congrArg (V m c main_v14) (funext fun a => Fin.ext ?_)
  blk_simp [index_eq t]
  exact place t n d a

/-- The block of latent values with their ones, at any lane. -/
theorem v_block' (t : Fin cfg0.N) (n : Fin 4096) (d : Fin 128) :
    @Eq EReal (iblk m c 2 t (ix4 0 0 n d)) (V m c main_v12 (ix4 (batch t) (head t) n d)) := by
  refine congrArg (V m c main_v12) (funext fun a => Fin.ext ?_)
  blk_simp [index_eq t]
  exact place t n d a

/-- The block of context values with their ones, at any lane. -/
theorem vc_block' (t : Fin cfg0.N) (n : Fin 256) (d : Fin 128) :
    @Eq EReal (iblk m c 4 t (ix4 0 0 n d)) (V m c main_v18 (ix4 (batch t) (head t) n d)) := by
  refine congrArg (V m c main_v18) (funext fun a => Fin.ext ?_)
  blk_simp [index_eq t]
  exact place t n d a

/-- A load of 256 rows from row `o` on reads those rows. -/
theorem ld_rows {D : ℕ} {e : EltTy} (x : Vec Ideal ⟨4, ![1, 1, 4096, D]⟩ e) (o : ℕ) (inb) (ho : o + 256 ≤ 4096) (r : Fin 256) (d : Fin D) :
    View.ld x (Rect.unit (s := ⟨4, ![1, 1, 4096, D]⟩) ![0, 0, o, 0] ![1, 1, 256, D] inb) (ix4 0 0 r d) = x (ix4 0 0 ⟨o + r.val, by omega⟩ d) :=
  View.ld_unit_apply_of _ _ _ _ _ _ fun a => by
    match a with
    | ⟨0, _⟩ => rfl
    | ⟨1, _⟩ => rfl
    | ⟨2, _⟩ => rfl
    | ⟨3, _⟩ => exact (Nat.zero_add _).symm

/-- A load of a whole head reads it. -/
theorem ld_all {D : ℕ} {e : EltTy} (x : Vec Ideal ⟨4, ![1, 1, 256, D]⟩ e) (inb) (r : Fin 256) (d : Fin D) :
    View.ld x (Rect.unit (s := ⟨4, ![1, 1, 256, D]⟩) ![0, 0, 0, 0] ![1, 1, 256, D] inb) (ix4 0 0 r d) = x (ix4 0 0 r d) :=
  View.ld_unit_apply_of _ _ _ _ _ _ fun a => by
    match a with
    | ⟨0, _⟩ => rfl
    | ⟨1, _⟩ => rfl
    | ⟨2, _⟩ => exact (Nat.zero_add _).symm
    | ⟨3, _⟩ => exact (Nat.zero_add _).symm

variable (x1 : Vec Ideal S1x1x4096x64 .bf16) (x3 : Vec Ideal S1x1x256x64 .bf16)
variable (x2 : Vec Ideal S1x1x4096x128 .bf16) (x4 : Vec Ideal S1x1x256x128 .bf16)

/-- The first sixteen chunks are the latent keys, 256 at a time; -/
theorem keys_latent (j : ℕ) (hj : j < 16) (r : Fin 256) (d : Fin 64) (hb : 256 * j + r.val < 4096) :
    keys x1 x3 j (ix4 0 0 r d) = x1 (ix4 0 0 ⟨256 * j + r.val, hb⟩ d) := by
  interval_cases j <;> exact ld_rows x1 _ _ (by norm_num) r d

/-- the last is the context's. -/
theorem keys_context (r : Fin 256) (d : Fin 64) : keys x1 x3 16 (ix4 0 0 r d) = x3 (ix4 0 0 r d) := ld_all x3 _ r d

/-- The values likewise: -/
theorem vals_latent (j : ℕ) (hj : j < 16) (r : Fin 256) (d : Fin 128) (hb : 256 * j + r.val < 4096) :
    vals x2 x4 j (ix4 0 0 r d) = x2 (ix4 0 0 ⟨256 * j + r.val, hb⟩ d) := by
  interval_cases j <;> exact ld_rows x2 _ _ (by norm_num) r d

/-- the latent ones, then the context's. -/
theorem vals_context (r : Fin 256) (d : Fin 128) : vals x2 x4 16 (ix4 0 0 r d) = x4 (ix4 0 0 r d) := ld_all x4 _ r d

/-- A query tile's rows: its heads one under the other. -/
theorem queries_rows (y : Vec Ideal S1x4x256x64 .bf16) (g : Fin 4) (p : Fin 256) (d : Fin 64) :
    queries y (ix2 ⟨256 * g.val + p.val, by omega⟩ d) = y (ix4 0 g p d) := by
  unfold queries k0_pay2
  refine (shapeCast_apply (s := S4x256x64) (t := S1024x64) _ shapeCasts_S4x256x64_S1024x64 (ix2 ⟨256 * g.val + p.val, by omega⟩ d) (ix3 g p d) (by
    rw [Shape.rowMajor_val_three, Shape.rowMajor_val_two]
    show (g.val * 256 + p.val) * 64 + d.val = (256 * g.val + p.val) * 64 + d.val
    omega)).trans ?_
  exact shapeCast_apply (s := S1x4x256x64) (t := S4x256x64) y shapeCasts_S1x4x256x64_S4x256x64 (ix3 g p d) (ix4 0 g p d) (by
    rw [Shape.rowMajor_val_three, Shape.rowMajor_val_four]
    show ((0 * 4 + g.val) * 256 + p.val) * 64 + d.val = (g.val * 256 + p.val) * 64 + d.val
    omega)

/-- A load of 256 queries of every head from query `o` of the block on reads those. -/
theorem ld_queries (x0 : Vec Ideal S1x4x512x64 .bf16) (o : ℕ) (ho : o + 256 ≤ 512) (inb) (g : Fin 4) (p : Fin 256) (d : Fin 64) :
    View.ld x0 (Rect.unit (s := S1x4x512x64) ![0, 0, o, 0] ![1, 4, 256, 64] inb) (ix4 0 g p d) = x0 (ix4 0 g ⟨o + p.val, by omega⟩ d) :=
  View.ld_unit_apply_of _ _ _ _ _ _ fun a => by
    match a with
    | ⟨0, _⟩ => rfl
    | ⟨1, _⟩ => exact (Nat.zero_add _).symm
    | ⟨2, _⟩ => rfl
    | ⟨3, _⟩ => exact (Nat.zero_add _).symm

end Cert.Attn

end
-- ==== Proof.Spec.lean ====
module

public import proofs.«01_k».proof.Proof.Online
public import proofs.«01_k».proof.KernelIdeal
public import Idealize.ShloMosaic.Lib.ValueIdx

/-! # Attention, in plain terms

Grouped-query attention over the latent keys followed by the context keys: the weights are the softmax of the scaled
products of queries and keys, and the result is the sum of the values under these weights. -/

@[expose] public section

set_option maxRecDepth 16384

noncomputable section

namespace Cert.Attn

open Cert.KernelIdeal Idealize.ShloMosaic Idealize.ShloMosaic.ValueIdx Finset

/-- Every entry is a real number. -/
def AllReal {ι : Type*} (x : ι → EReal) : Prop := ∀ i, ∃ r : ℝ, x i = r

/-- The latent rows followed by the context rows, at one batch entry, head and feature. -/
def joined (x : S8x4096x4x64.Idx → EReal) (y : S8x256x4x64.Idx → EReal) (b : Fin 8) (h : Fin 4) (d : Fin 64) (k : Fin 4352) : EReal :=
  if hk : k.val < 4096 then x (ix4 b ⟨k.val, hk⟩ h d) else y (ix4 b ⟨k.val - 4096, by omega⟩ h d)

theorem joined_real {x : S8x4096x4x64.Idx → EReal} {y : S8x256x4x64.Idx → EReal} (hx : AllReal x) (hy : AllReal y)
    (b : Fin 8) (h : Fin 4) (k : Fin 4352) : AllReal fun d => joined x y b h d k := fun d => by
  unfold joined
  split
  · exact hx _
  · exact hy _

/-- The scaled product of a query with a key, as a real number. -/
def logit (q : S8x4096x4x4x64.Idx → EReal) (x : S8x4096x4x64.Idx → EReal) (y : S8x256x4x64.Idx → EReal)
    (b : Fin 8) (n : Fin 4096) (h g : Fin 4) (k : Fin 4352) : ℝ :=
  (∑ d, q (ix5 b n h g d) * joined x y b h d k).toReal * 0.125

/-- The attention's result at a batch entry, query, head, member of the head's group, and feature. -/
def attend (q : S8x4096x4x4x64.Idx → EReal) (x : S8x4096x4x64.Idx → EReal) (v : S8x4096x4x64.Idx → EReal)
    (y w : S8x256x4x64.Idx → EReal) (b : Fin 8) (n : Fin 4096) (h g : Fin 4) (d : Fin 64) : EReal :=
  ∑ k, joined v w b h d k * ((Online.weight (logit q x y b n h g) k : ℝ) : EReal)

/-- The result array: its 1024 columns are head, member of the group, feature. -/
def result (q : S8x4096x4x4x64.Idx → EReal) (x : S8x4096x4x64.Idx → EReal) (v : S8x4096x4x64.Idx → EReal)
    (y w : S8x256x4x64.Idx → EReal) (i : S8x4096x1024.Idx) : EReal :=
  attend q x v y w (i 0) (i 1) ⟨(i 2).val / 256, Nat.div_lt_of_lt_mul (i 2).isLt⟩ ⟨(i 2).val / 64 % 4, Nat.mod_lt _ (by norm_num)⟩
    ⟨(i 2).val % 64, Nat.mod_lt _ (by norm_num)⟩

/-- A product sum of reals is a real, … -/
theorem sum_real {ι : Type*} [Fintype ι] {x y : ι → EReal} (hx : AllReal x) (hy : AllReal y) :
    ∑ d, x d * y d = (((∑ d, x d * y d).toReal : ℝ) : EReal) := by
  choose a ha using hx
  choose b hb using hy
  simp only [ha, hb, ← EReal.coe_mul, Online.coe_sum, EReal.toReal_coe]

/-- … and a real factor on every left entry comes out of it. -/
theorem sum_scaled {ι : Type*} [Fintype ι] {x y : ι → EReal} (hx : AllReal x) (hy : AllReal y) (c : ℝ) :
    ∑ d, x d * (c : EReal) * y d = (((∑ d, x d * y d).toReal * c : ℝ) : EReal) := by
  choose a ha using hx
  choose b hb using hy
  simp only [ha, hb, ← EReal.coe_mul, Online.coe_sum, EReal.toReal_coe]
  congr 1
  rw [sum_mul]
  exact sum_congr rfl fun d _ => by ring

end Cert.Attn

end
-- ==== Proof.Value.lean ====
module

public import proofs.«01_k».proof.Proof.Block
public import proofs.«01_k».proof.Proof.Spec
public import proofs.«01_k».proof.Proof.Gen.KernelIdeal.Value

/-! # What the attention kernel leaves in its result

Every grid point leaves the attention's result for its batch entry, its key head's group and its 512 queries; the grid
points together fill the array. -/

@[expose] public section

set_option maxRecDepth 16384

noncomputable section

namespace Cert.Attn

open Cert.KernelIdeal Cert.KernelIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- A chunk's keys are the joined keys at the chunk's positions. -/
theorem keys_block (t : Fin cfg0.N) (j : Fin 17) (r : Fin 256) (d : Fin 64) :
    @Eq EReal (keys (iblk m c 1 t) (iblk m c 3 t) j.val (ix4 0 0 r d))
      (joined (argK m c) (argKc m c) (batch t) (head t) d (Online.cell (j, r))) := by
  have hv := Online.cell_val (j, r)
  dsimp only at hv
  unfold joined
  by_cases hj : j.val < 16
  · rw [dif_pos (by omega), keys_latent _ _ _ hj r d (by omega), k_block]
    exact congrArg (fun i => argK m c (ix4 (batch t) i (head t) d)) (Fin.ext hv.symm)
  · obtain rfl : j = 16 := Fin.ext (by show j.val = 16; omega)
    have h16 : ((16 : Fin 17) : ℕ) = 16 := rfl
    rw [dif_neg (by omega), h16, keys_context, kc_block]
    exact congrArg (fun i => argKc m c (ix4 (batch t) i (head t) d)) (Fin.ext (by show r.val = (Online.cell ((16 : Fin 17), r)).val - 4096; omega))

/-- A chunk's values are the joined values at the chunk's positions. -/
theorem vals_block (t : Fin cfg0.N) (j : Fin 17) (r : Fin 256) (d : Fin 64) :
    @Eq EReal (vals (iblk m c 2 t) (iblk m c 4 t) j.val (ix4 0 0 r ⟨d.val, by omega⟩))
      (joined (argV m c) (argVc m c) (batch t) (head t) d (Online.cell (j, r))) := by
  have hv := Online.cell_val (j, r)
  dsimp only at hv
  unfold joined
  by_cases hj : j.val < 16
  · rw [dif_pos (by omega), vals_latent _ _ _ hj r _ (by omega), v_block', v_entry]
    exact congrArg (fun i => argV m c (ix4 (batch t) i (head t) d)) (Fin.ext hv.symm)
  · obtain rfl : j = 16 := Fin.ext (by show j.val = 16; omega)
    have h16 : ((16 : Fin 17) : ℕ) = 16 := rfl
    rw [dif_neg (by omega), h16, vals_context, vc_block', vc_entry]
    exact congrArg (fun i => argVc m c (ix4 (batch t) i (head t) d)) (Fin.ext (by show r.val = (Online.cell ((16 : Fin 17), r)).val - 4096; omega))

/-- The upper lanes of a chunk's values are ones. -/
theorem ones_block (t : Fin cfg0.N) (j : Fin 17) (r : Fin 256) (d : Fin 64) :
    @Eq EReal (vals (iblk m c 2 t) (iblk m c 4 t) j.val (ix4 0 0 r ⟨64 + d.val, by omega⟩)) 1 := by
  by_cases hj : j.val < 16
  · rw [vals_latent _ _ _ hj r _ (by omega), v_block', ones_entry]
  · obtain rfl : j = 16 := Fin.ext (by show j.val = 16; omega)
    have h16 : ((16 : Fin 17) : ℕ) = 16 := rfl
    rw [h16, vals_context, vc_block', onesc_entry]

variable (hq : AllReal (argQ m c)) (hk : AllReal (argK m c)) (hkc : AllReal (argKc m c))

include hq hk hkc in
/-- A tile of 256 queries: what is stored is the attention's result for them. -/
theorem tile_value (t : Fin cfg0.N) (y : Vec Ideal S1x4x256x64 .bf16) (n : Fin 256 → Fin 4096)
    (hy : ∀ g p d, @Eq EReal (y (ix4 0 g p d)) (argQ m c (ix5 (batch t) (n p) (head t) g d) * ((0.125 * (1 / Real.log 2) : ℝ) : EReal)))
    (p : Fin 256) (g : Fin 4) (l : Fin 64) :
    @Eq EReal (fin (aS (queries y) (keys (iblk m c 1 t) (iblk m c 3 t)) (vals (iblk m c 2 t) (iblk m c 4 t)) 17) (ix3 0 p ⟨64 * g.val + l.val, by omega⟩))
      (attend (argQ m c) (argK m c) (argV m c) (argKc m c) (argVc m c) (batch t) (n p) (head t) g l) := by
  rw [fin_apply, quot_apply, aS_apply, aS_apply]
  refine Online.quotient_eq _ _ (1 / Real.log 2) (one_div_mul_cancel (Real.log_pos (by norm_num)).ne') _ _ _ (fun j r => ?_) (fun j r => ?_) (fun j r => ?_)
  · show dot _ _ _ _ = _
    unfold dot logit
    rw [mul_assoc, ← sum_scaled (fun d => hq (ix5 (batch t) (n p) (head t) g d)) (joined_real hk hkc (batch t) (head t) (Online.cell (j, r)))]
    refine Finset.sum_congr rfl fun d _ => ?_
    rw [queries_rows, hy, keys_block]
  · exact vals_block m c t j r l
  · exact ones_block m c t j r l

/-- The block a grid point leaves, element by element. -/
def blockResult (t : Fin cfg0.N) (y : S1x512x256.Idx) : EReal :=
  attend (argQ m c) (argK m c) (argV m c) (argKc m c) (argVc m c) (batch t)
    ⟨512 * (tile t).val + (y 1).val, by have : (y 1).val < 512 := (y 1).isLt; omega⟩ (head t)
    ⟨(y 2).val / 64, Nat.div_lt_of_lt_mul (y 2).isLt⟩ ⟨(y 2).val % 64, Nat.mod_lt _ (by norm_num)⟩

include hq hk hkc in
/-- One of the two stores, at an element. -/
theorem piece_value (t : Fin cfg0.N) (o : ℕ) (ho : o + 256 ≤ 512) (inb) (inb') (x : S1x256x256.Idx) :
    @Eq EReal (fin (aS (queries (View.ld (iblk m c 0 t) (Rect.unit (s := S1x4x512x64) ![0, 0, o, 0] ![1, 4, 256, 64] inb)))
        (keys (iblk m c 1 t) (iblk m c 3 t)) (vals (iblk m c 2 t) (iblk m c 4 t)) 17) x)
      (blockResult m c t ((Rect.unit (s := S1x512x256) ![0, o, 0] ![1, 256, 256] inb').emb x)) := by
  obtain ⟨p, hp⟩ : ∃ p : Fin 256, p = x 1 := ⟨x 1, rfl⟩
  obtain ⟨u, hu⟩ : ∃ u : Fin 256, u = x 2 := ⟨x 2, rfl⟩
  have hx : x = ix3 0 p ⟨64 * (u.val / 64) + u.val % 64, by omega⟩ := funext fun a => by
    match a with
    | ⟨0, _⟩ => exact Fin.ext (by have : (x 0).val < 1 := (x 0).isLt; show (x 0).val = 0; omega)
    | ⟨1, _⟩ => exact hp.symm
    | ⟨2, _⟩ => exact Fin.ext (by show (x 2).val = 64 * (u.val / 64) + u.val % 64; rw [← hu]; show u.val = 64 * (u.val / 64) + u.val % 64; omega)
  have h := tile_value m c hq hk hkc t (View.ld (iblk m c 0 t) (Rect.unit (s := S1x4x512x64) ![0, 0, o, 0] ![1, 4, 256, 64] inb))
    (fun p => ⟨512 * (tile t).val + (o + p.val), by omega⟩) (fun g p d => (ld_queries _ o ho inb g p d).trans (q_block m c t g _ d))
    p ⟨u.val / 64, by omega⟩ ⟨u.val % 64, by omega⟩
  have e1 : ((Rect.unit (s := S1x512x256) ![0, o, 0] ![1, 256, 256] inb').emb x 1).val = o + p.val := by
    rw [hp]; exact Rect.idx_unit_val _ _ _ _ _
  have e2 : ((Rect.unit (s := S1x512x256) ![0, o, 0] ![1, 256, 256] inb').emb x 2).val = u.val := by
    rw [hu]; exact (Rect.idx_unit_val _ _ _ _ _).trans (Nat.zero_add _)
  refine (congrArg (fin _) hx).trans (h.trans ?_)
  unfold blockResult
  congr 1
  · exact Fin.ext (congrArg (512 * (tile t).val + ·) e1.symm)
  · exact Fin.ext (congrArg (· / 64) e2.symm)
  · exact Fin.ext (congrArg (· % 64) e2.symm)

include hq hk hkc in
/-- What the body leaves in the output block at a grid point. -/
theorem out_block (t : Fin cfg0.N) (y : S1x512x256.Idx) :
    @Eq EReal (out0_5 (iblk m c 0 t) (iblk m c 1 t) (iblk m c 2 t) (iblk m c 3 t) (iblk m c 4 t) y) (blockResult m c t y) := by
  rw [out_eq]
  refine View.canon_apply_of_pieces (Val := Elt Ideal) (e := .bf16) (blockResult m c t) _ (fun p hp => ?_) y (cover0_5 _ _ y)
  simp only [List.mem_cons, List.not_mem_nil, or_false] at hp
  rcases hp with rfl | rfl
  · exact piece_value m c hq hk hkc t 256 (by norm_num) inb_S1x4x512x64_S1x4x256x64_0_0_256_0 inb_S1x512x256_S1x256x256_0_256_0
  · exact piece_value m c hq hk hkc t 0 (by norm_num) inb_S1x4x512x64_S1x4x256x64_0_0_0_0 inb_S1x512x256_S1x256x256_0_0_0

include hq hk hkc in
/-- After the run the result array holds the attention's result. -/
theorem final_result : (dats m 0 c).arrAt 5 cfg0.N = result (argQ m c) (argK m c) (argV m c) (argKc m c) (argVc m c) := by
  refine (dats m 0 c).arrAt_eq_of_covers 5 _ (by decide +kernel) fun t hf y => ?_
  blk_simp
  rw [after0_5]
  refine (out_block m c hq hk hkc t y).trans ?_
  have y0 : (y 0).val < 1 := (y 0).isLt
  have y2 : (y 2).val < 256 := (y 2).isLt
  have e0 : (((cfg0.win 5).blk t).view.emb y 0).val = (batch t).val := by
    blk_simp [index_eq t]
    rfl
  have e1 : (((cfg0.win 5).blk t).view.emb y 1).val = 512 * (tile t).val + (y 1).val := by
    blk_simp [index_eq t]
    show (tile t).val * 512 + (y 1).val = 512 * (tile t).val + (y 1).val
    omega
  have e2 : (((cfg0.win 5).blk t).view.emb y 2).val = 256 * (head t).val + (y 2).val := by
    blk_simp [index_eq t]
    show (head t).val * 256 + (y 2).val = 256 * (head t).val + (y 2).val
    omega
  unfold blockResult result
  congr 1
  · exact Fin.ext e0.symm
  · exact Fin.ext e1.symm
  · exact Fin.ext (by show (head t).val = (((cfg0.win 5).blk t).view.emb y 2).val / 256; rw [e2]; omega)
  · exact Fin.ext (by show (y 2).val / 64 = (((cfg0.win 5).blk t).view.emb y 2).val / 64 % 4; rw [e2]; omega)
  · exact Fin.ext (by show (y 2).val % 64 = (((cfg0.win 5).blk t).view.emb y 2).val % 64; rw [e2]; omega)

end Cert.Attn

end
-- ==== Proof.Reference.lean ====
module

public import proofs.«01_k».proof.Proof.Spec
public import proofs.«01_k».proof.Proof.Entry
public import proofs.«01_k».proof.Proof.Gen.ReferenceIdeal.Read

/-! # What the reference computes

The reference's result, one operation at a time, is the attention as `Spec` states it. -/

@[expose] public section

set_option maxRecDepth 16384

noncomputable section

namespace Cert.Attn

open Cert.ReferenceIdeal Cert.ReferenceIdeal.Gen Cert.ReferenceIdeal.Read
open Idealize.ShloMosaic hiding ix0 ix1 ix2 ix3 ix4 ix5
open Idealize.ShloMosaic.TcCoe Idealize.ShloMosaic.ValueIdx Idealize.SL.Sem

variable (x0 : FVec Ideal S8x4096x4x4x64 .f32) (x1 x2 : FVec Ideal S8x4096x4x64 .f32) (x3 x4 : FVec Ideal S8x256x4x64 .f32)

/-- The reference's joined array is the latent rows followed by the context rows. -/
theorem joined_eq (b : Fin 8) (k : Fin 4352) (h : Fin 4) (d : Fin 64) :
    @Eq EReal (val_main_v0 (F := Ideal) x1 x3 (ix4 b k h d)) (joined x1 x3 b h d k) := by
  unfold joined
  split
  · next hk =>
    exact concatenate_pair_apply_left (t := S8x4352x4x64) 1 (s₁ := S8x4096x4x64) (s₂ := S8x256x4x64) _ _
      concatenates_S8x4096x4x64_S8x256x4x64_S8x4352x4x64_d1 _ rfl (ix4 b ⟨k.val, hk⟩ h d)
      (fun a => match a with | ⟨0, _⟩ => rfl | ⟨1, _⟩ => rfl | ⟨2, _⟩ => rfl | ⟨3, _⟩ => rfl)
  · next hk =>
    exact concatenate_pair_apply_right (t := S8x4352x4x64) 1 (s₁ := S8x4096x4x64) (s₂ := S8x256x4x64) _ _
      concatenates_S8x4096x4x64_S8x256x4x64_S8x4352x4x64_d1 _ rfl rfl (ix4 b ⟨k.val - 4096, by omega⟩ h d)
      (fun a ha => match a with | ⟨0, _⟩ => rfl | ⟨1, _⟩ => absurd rfl ha | ⟨2, _⟩ => rfl | ⟨3, _⟩ => rfl)
      (by show k.val - 4096 + 4096 = k.val; omega)

section Real

variable {x0 x1 x3} (h0 : AllReal x0) (h1 : AllReal x1) (h3 : AllReal x3)

include h0 h1 h3

/-- The scaled scores are the logits. -/
theorem score_eq (b : Fin 8) (h g : Fin 4) (n : Fin 4096) (k : Fin 4352) :
    @Eq EReal (val_main_v5 (F := Ideal) x0 x1 x3 (ix5 b h g n k)) ((logit x0 x1 x3 b n h g k : ℝ) : EReal) := by
  have e : @Eq EReal (val_main_v3 (F := Ideal) x0 x1 x3 (ix5 b h g n k))
      (((∑ d, x0 (ix5 b n h g d) * joined x1 x3 b h d k).toReal : ℝ) : EReal) := by
    rw [val_main_v3_apply, val_main_v2_apply]
    refine (Finset.sum_congr rfl fun d _ => ?_).trans (sum_real (fun d => h0 (ix5 b n h g d)) (joined_real h1 h3 b h k))
    refine (congrArg₂ (fun u v : EReal => u * v) ((congrArg (val_main_v0 (F := Ideal) x1 x3) (?_ : _ = ix4 b k h d)).trans (joined_eq x1 x3 b k h d))
      (congrArg x0 (?_ : _ = ix5 b n h g d))).trans (mul_comm _ _)
    · exact funext fun a => Fin.ext (by match a with | ⟨0, _⟩ => rfl | ⟨1, _⟩ => rfl | ⟨2, _⟩ => rfl | ⟨3, _⟩ => rfl)
    · exact funext fun a => Fin.ext (by match a with | ⟨0, _⟩ => rfl | ⟨1, _⟩ => rfl | ⟨2, _⟩ => rfl | ⟨3, _⟩ => rfl | ⟨4, _⟩ => rfl)
  have e4 : @Eq EReal (val_main_v4 (F := Ideal) (ix5 b h g n k)) ((0.125 : ℝ) : EReal) := by
    rw [val_main_v4_apply]; exact eighth_bits
  rw [val_main_v5_apply]
  refine (congrArg₂ (fun u v : EReal => u * v) e e4).trans ?_
  rw [← EReal.coe_mul]
  rfl

/-- The maximum the reference subtracts is a real number. -/
theorem max_real (b : Fin 8) (h g : Fin 4) (n : Fin 4096) :
    ∃ M : ℝ, @Eq EReal (val_main_v8 (F := Ideal) x0 x1 x3 (ix4 b h g n)) M := by
  obtain ⟨M, hM⟩ := Online.fold_max_real (logit x0 x1 x3 b n h g)
  refine ⟨M, ?_⟩
  have e6 : @Eq EReal (val_main_v6 (F := Ideal) x0 x1 x3 (ix4 b h g n)) M := by
    have hr : S8x4x4x4096x4352.Reduces [4] S8x4x4x4096 := by decide
    refine (Host.reduce_eq_fold_single FloatOps.maximumf _ _ _ hr _ (ix4 b h g n)).trans (Eq.trans ?_ hM)
    have e : (val_main_v5 (F := Ideal) x0 x1 x3 ∘ hr.lift (ix4 b h g n)) = fun k : Fin 4352 => ((logit x0 x1 x3 b n h g k : ℝ) : EReal) :=
      funext fun k => by
        refine (congrArg (val_main_v5 (F := Ideal) x0 x1 x3) (?_ : hr.lift (ix4 b h g n) k = ix5 b h g n k)).trans (score_eq h0 h1 h3 b h g n k)
        exact funext fun a => Fin.ext (by match a with | ⟨0, _⟩ => rfl | ⟨1, _⟩ => rfl | ⟨2, _⟩ => rfl | ⟨3, _⟩ => rfl | ⟨4, _⟩ => rfl)
    have hb : val_main_cst_0 (F := Ideal) (Shape.Idx.first h_S_) = (⊥ : EReal) := neg_inf
    rw [e, hb]
    rfl
  have e7 : @Eq EReal (val_main_v7 (F := Ideal) (ix4 b h g n)) ⊥ := by
    rw [val_main_v7_apply]; exact neg_inf
  rw [val_main_v8_apply]
  refine (congrArg₂ (fun u v : EReal => max u v) e7 e6).trans ?_
  exact max_eq_right bot_le

/-- The reference's weights are the softmax of the logits. -/
theorem weight_eq (b : Fin 8) (h g : Fin 4) (n : Fin 4096) (k : Fin 4352) :
    @Eq EReal (val_main_v16 (F := Ideal) x0 x1 x3 (ix5 b h g n k)) ((Online.weight (logit x0 x1 x3 b n h g) k : ℝ) : EReal) := by
  obtain ⟨M, hM⟩ := max_real h0 h1 h3 b h g n
  have e12 : ∀ k : Fin 4352, @Eq EReal (val_main_v12 (F := Ideal) x0 x1 x3 (ix5 b h g n k))
      (Ideal.exp ((logit x0 x1 x3 b n h g k : ℝ) - (M : EReal))) := fun k => by
    rw [val_main_v12_apply, val_main_v11_apply, val_main_v10_apply, val_main_v9_apply]
    refine congrArg Ideal.exp (congrArg₂ (fun u v : EReal => u - v) (score_eq h0 h1 h3 b h g n k)
      ((congrArg (val_main_v8 (F := Ideal) x0 x1 x3) (?_ : _ = ix4 b h g n)).trans hM))
    exact funext fun a => Fin.ext (by match a with | ⟨0, _⟩ => rfl | ⟨1, _⟩ => rfl | ⟨2, _⟩ => rfl | ⟨3, _⟩ => rfl)
  have e15 : @Eq EReal (val_main_v15 (F := Ideal) x0 x1 x3 (ix5 b h g n k))
      (∑ k, Ideal.exp ((logit x0 x1 x3 b n h g k : ℝ) - (M : EReal))) := by
    rw [val_main_v15_apply, val_main_v14_apply, val_main_v13_apply]
    have hz : val_main_cst_2 (F := Ideal) (Shape.Idx.first h_S_) = (0 : EReal) := Ideal.ofBits_zero_f32
    rw [hz]
    refine (zero_add _).trans (Finset.sum_congr rfl fun k _ => ?_)
    refine (congrArg (val_main_v12 (F := Ideal) x0 x1 x3) (?_ : _ = ix5 b h g n k)).trans (e12 k)
    exact funext fun a => Fin.ext (by match a with | ⟨0, _⟩ => rfl | ⟨1, _⟩ => rfl | ⟨2, _⟩ => rfl | ⟨3, _⟩ => rfl | ⟨4, _⟩ => rfl)
  rw [val_main_v16_apply]
  exact (congrArg₂ Ideal.div (e12 k) e15).trans (Online.softmax_eq (logit x0 x1 x3 b n h g) M k)

/-- The reference's result is the attention's. -/
theorem reference_eq : @Eq (S8x4096x1024.Idx → EReal) (val_main_v20 (F := Ideal) x0 x1 x2 x3 x4) (result x0 x1 x2 x3 x4) := by
  funext i
  have i0 : (i 0).val < 8 := (i 0).isLt
  have i1 : (i 1).val < 4096 := (i 1).isLt
  have i2 : (i 2).val < 1024 := (i 2).isLt
  rw [val_main_v20_apply]
  show (val_main_v19 (F := Ideal) x0 x1 x2 x3 x4 i : EReal) = _
  rw [val_main_v19_apply, val_main_v18_apply, val_main_v17_apply]
  unfold result attend
  refine Finset.sum_congr rfl fun k _ => ?_
  refine congrArg₂ (fun u v : EReal => u * v)
    ((congrArg (val_main_v1 (F := Ideal) x2 x4) (?_ : _ = ix4 (i 0) k ⟨(i 2).val / 256, by omega⟩ ⟨(i 2).val % 64, by omega⟩)).trans
      (joined_eq x2 x4 _ _ _ _))
    ((congrArg (val_main_v16 (F := Ideal) x0 x1 x3)
      (?_ : _ = ix5 (i 0) ⟨(i 2).val / 256, by omega⟩ ⟨(i 2).val / 64 % 4, by omega⟩ (i 1) k)).trans (weight_eq h0 h1 h3 _ _ _ _ _))
  · refine funext fun a => Fin.ext ?_
    match a with
    | ⟨0, _⟩ => show (((i 0).val * 4096 + (i 1).val) * 1024 + (i 2).val) / 4194304 = (i 0).val; omega
    | ⟨1, _⟩ => rfl
    | ⟨2, _⟩ => show (((i 0).val * 4096 + (i 1).val) * 1024 + (i 2).val) / 256 % 4 = (i 2).val / 256; omega
    | ⟨3, _⟩ => show (((i 0).val * 4096 + (i 1).val) * 1024 + (i 2).val) % 64 = (i 2).val % 64; omega
  · refine funext fun a => Fin.ext ?_
    match a with
    | ⟨0, _⟩ => show (((i 0).val * 4096 + (i 1).val) * 1024 + (i 2).val) / 4194304 = (i 0).val; omega
    | ⟨1, _⟩ => show (((i 0).val * 4096 + (i 1).val) * 1024 + (i 2).val) / 256 % 4 = (i 2).val / 256; omega
    | ⟨2, _⟩ => show (((i 0).val * 4096 + (i 1).val) * 1024 + (i 2).val) / 64 % 4 = (i 2).val / 64 % 4; omega
    | ⟨3, _⟩ => show (((i 0).val * 4096 + (i 1).val) * 1024 + (i 2).val) / 1024 % 4096 = (i 1).val; omega
    | ⟨4, _⟩ => rfl

end Real

end Cert.Attn

end
-- ==== Proof.Finite.lean ====
module

public import proofs.«01_k».proof.Proof.Spec
public import proofs.«01_k».proof.Pre_finite
public import Idealize.ShloMosaic.Lib.ReduceAll
public import Idealize.ShloMosaic.Lib.Pipeline.Value

/-! # The precondition

The precondition's word is one exactly when the magnitudes of queries and keys lie below infinity: these arrays then
hold real numbers. -/

@[expose] public section

set_option maxRecDepth 16384

noncomputable section

namespace Cert.Attn

open Idealize.ShloMosaic Cert.Pre_finite

/-- The shape facts the precondition's function states. -/
theorem pre_facts : Cert.Pre_finite.Facts where
  bcast_S_S8x4096x4x4x64 := by decide
  reducesTo_S8x4096x4x4x64_S_d0_1_2_3_4 := by decide
  h_S_ := by decide
  bcast_S_S8x4096x4x64 := by decide
  reducesTo_S8x4096x4x64_S_d0_1_2_3 := by decide
  bcast_S_S8x256x4x64 := by decide
  reducesTo_S8x256x4x64_S_d0_1_2_3 := by decide

/-- The bit pattern of infinity. -/
theorem inf_bits : Ideal.ofBits .f32 0x7F800000#32 = (⊤ : EReal) := by
  simp [Ideal.ofBits, Ideal.ieee]

/-- A value whose magnitude lies below infinity is a real number. -/
theorem real_of_abs_lt (x : EReal) (h : max x (-x) < ⊤) : ∃ r : ℝ, x = r := by
  induction x with
  | bot => simp at h
  | coe r => exact ⟨r, rfl⟩
  | top => simp at h

/-- One array's comparison, all of whose elements hold, says the array holds real numbers. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) :
    AllReal x := fun i => by
  haveI : Subsingleton S_.Idx := ⟨fun a b => funext fun k => k.elim0⟩
  have e := Host.reduce_andi_all _ _ hr hu j h i
  have hbi : @Eq EReal (broadcastInDim s ![] hb (constant (F := Ideal) S_ .f32 0x7F800000#32) i) ⊤ := inf_bits
  refine real_of_abs_lt (x i) ?_
  have e' : Ideal.cmp .olt (max (x i) (-(x i)) : EReal) (broadcastInDim s ![] hb (constant (F := Ideal) S_ .f32 0x7F800000#32) i) = 1#1 := e
  rw [hbi] at e'
  by_contra hc
  simp [Ideal.cmp, hc] at e'

/-- Under the precondition queries and keys hold real numbers. -/
theorem real_of_pre [Cert.Pre_finite.Facts] (q : FVec Ideal S8x4096x4x4x64 .f32) (x v : FVec Ideal S8x4096x4x64 .f32) (y w : FVec Ideal S8x256x4x64 .f32)
    (h : Cert.Pre_finite.fn (F := Ideal) q x v y w = fun _ => 1#1) : AllReal q ∧ AllReal x ∧ AllReal y := by
  have j : S_.Idx := fun a => a.elim0
  have e := congrFun h j
  dsimp only [Cert.Pre_finite.fn] at e
  obtain ⟨e1, e3⟩ := IntOp.andi_eq_one.mp e
  obtain ⟨e1, e2⟩ := IntOp.andi_eq_one.mp e1
  exact ⟨real_of_all _ _ _ _ j e1, real_of_all _ _ _ _ j e2, real_of_all _ _ _ _ j e3⟩

end Cert.Attn

end
-- ==== Proof.Claims.lean ====
module

public import proofs.«01_k».proof.Defs
public import proofs.«01_k».proof.Proof.Value
public import proofs.«01_k».proof.Proof.Reference
public import proofs.«01_k».proof.Proof.Finite
public import proofs.«01_k».proof.Proof.Gen.Kernel.Frame
public import proofs.«01_k».proof.Proof.Gen.KernelIdeal.Frame
public import Idealize.ShloMosaic.Lib.Claim

/-! # The claims about the attention -/

@[expose] public section

noncomputable section

namespace Cert.Attn

open Idealize.ShloMosaic Idealize.SL.Sem

/-- Every execution of the reference ends with the arguments kept and no counter raised. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel and reference end with the same result: the attention of the arguments. -/
theorem algebraic [hPre : Cert.Pre_finite.Facts] : Cert.algebraic_KernelIdeal_ReferenceIdeal_pre_finite := by
  intro m g m' g' hp hm
  have hr := fun c => real_of_pre _ _ _ _ _ (hp c)
  refine ⟨fun c => result (argQ m c) (argK m c) (argV m c) (argKc m c) (argVc m c), ?_, ?_⟩
  · exact (θ_run Cert.KernelIdeal.defs _ _).mono (fun r h c =>
      ⟨(h c).1.trans (final_result m c (hr c).1 (hr c).2.1 (hr c).2.2), (h c).2⟩) (Cert.KernelIdeal.Value.run_blocks m g)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v20_eq, (hm c).1, (hm c).2.1, (hm c).2.2.1, (hm c).2.2.2.1, (hm c).2.2.2.2]
    exact reference_eq _ _ (hr c).1 (hr c).2.1 (hr c).2.2

end Cert.Attn

end
-- ==== Proof.QkvSpec.lean ====
module

public import proofs.«01_k».proof.QkvIdeal
public import Idealize.ShloMosaic.Lib.ValueIdx

/-! # Queries, keys and values, in plain terms

The tokens are normalised and modulated, projected, the queries and keys normalised head by head and rotated by the
token's row and column in the grid. -/

@[expose] public section

set_option maxRecDepth 16384

noncomputable section

namespace Cert.Proj

open Cert.QkvIdeal Idealize.ShloMosaic Idealize.ShloMosaic.ValueIdx Finset

/-- The small number both normalisations add to the mean of the squares. -/
def eps : EReal := Ideal.ofBits .f32 0x358637BD#32

/-- A token's features: normalised to unit mean square, times the gain, modulated. -/
def modulated (x : S8x4096x1024.Idx → EReal) (shift scale : S8x1x1024.Idx → EReal) (gain : S1024.Idx → EReal)
    (b : Fin 8) (n : Fin 4096) (l : Fin 1024) : EReal :=
  x (ix3 b n l) * Ideal.rsqrt (Ideal.div (∑ k, x (ix3 b n k) * x (ix3 b n k)) (Ideal.ofBits .f32 0x44800000#32) + eps)
    * gain (ix1 l) * (1 + scale (ix3 b 0 l)) + shift (ix3 b 0 l)

/-- The token's projection on one of the 1536 columns. -/
def projected (x : S8x4096x1024.Idx → EReal) (shift scale : S8x1x1024.Idx → EReal) (gain : S1024.Idx → EReal)
    (w : S1024x1536.Idx → EReal) (b : Fin 8) (n : Fin 4096) (o : Fin 1536) : EReal :=
  ∑ l, modulated x shift scale gain b n l * w (ix2 l o)

/-- A head normalised to unit mean square, times its gain. -/
def normed (X g : Fin 64 → EReal) (d : Fin 64) : EReal :=
  X d * Ideal.rsqrt (Ideal.div (∑ k, X k * X k) ((64 : ℝ) : EReal) + eps) * g d

/-- The rotation's frequencies: ten thousand to the power minus `f` sixteenths. -/
def freq (f : ℕ) : EReal :=
  FloatOps.hostPowf (F := Ideal) (φ := .f32) (Ideal.ofBits .f32 0x461C4000#32)
    (Ideal.div (-(FloatOps.sitofp (F := Ideal) .f32 (BitVec.ofNat 32 f) : EReal)) (Ideal.ofBits .f32 0x41800000#32))

/-- The angle at a position. -/
def angle (p f : ℕ) : EReal := (FloatOps.sitofp (F := Ideal) .f32 (BitVec.ofNat 32 p) : EReal) * freq f

/-- The angle of token `n` at feature `d`: the lower 32 features turn with the token's row, the upper 32 with its column. -/
def turn (n d : ℕ) : EReal := angle (if d < 32 then n / 64 else n % 64) (d % 16)

/-- The feature a feature is rotated against: the other one of its pair, sixteen further or sixteen back. -/
def partner (d : Fin 64) : Fin 64 := if h : d.val % 32 < 16 then ⟨d.val + 16, by omega⟩ else ⟨d.val - 16, by omega⟩

/-- A head rotated by its token's angles. -/
def rotated (n : ℕ) (Y : Fin 64 → EReal) (d : Fin 64) : EReal :=
  if d.val % 32 < 16 then Y d * Ideal.cos (turn n d.val) - Y (partner d) * Ideal.sin (turn n d.val)
  else Y d * Ideal.cos (turn n d.val) + Y (partner d) * Ideal.sin (turn n d.val)

section Results

variable (x : S8x4096x1024.Idx → EReal) (shift scale : S8x1x1024.Idx → EReal) (gain : S1024.Idx → EReal)
  (w : S1024x1536.Idx → EReal)

/-- A head of a token: 64 columns of the projection from column `o` on, normalised and rotated. -/
def headAt (g : S64.Idx → EReal) (o : ℕ) (ho : o + 64 ≤ 1536) (b : Fin 8) (n : Fin 4096) (d : Fin 64) : EReal :=
  rotated n.val (normed (fun k => projected x shift scale gain w b n ⟨o + k.val, by omega⟩) (fun k => g (ix1 k))) d

/-- The queries: sixteen heads, the first 1024 columns. -/
def queriesOf (g : S64.Idx → EReal) (i : S8x16x4096x64.Idx) : EReal :=
  headAt x shift scale gain w g (64 * (i 1).val) (by have : (i 1).val < 16 := (i 1).isLt; omega) (i 0) (i 2) (i 3)

/-- The keys: four heads, the next 256 columns. -/
def keysOf (g : S64.Idx → EReal) (i : S8x4x4096x64.Idx) : EReal :=
  headAt x shift scale gain w g (1024 + 64 * (i 1).val) (by have : (i 1).val < 4 := (i 1).isLt; omega) (i 0) (i 2) (i 3)

/-- The values: four heads, the last 256 columns, each followed by 64 ones. -/
def valuesOf (i : S8x4x4096x128.Idx) : EReal :=
  if h : (i 3).val < 64 then
    projected x shift scale gain w (i 0) (i 2) ⟨1280 + 64 * (i 1).val + (i 3).val, by have : (i 1).val < 4 := (i 1).isLt; omega⟩
  else 1

end Results

end Cert.Proj

end
-- ==== Proof.QkvStep.lean ====
module

public import proofs.«01_k».proof.Proof.Gen.QkvIdeal.Frame

/-! # What one visit of the projection kernel's body stores

Eight pairs of query heads, two pairs of key heads and four value heads, each cut out of one product. -/

@[expose] public section

set_option maxRecDepth 16384

noncomputable section

namespace Cert.Proj

open Cert.QkvIdeal Cert.QkvIdeal.Gen Idealize.ShloMosaic Idealize.SL.Sem

variable {F : FTy → Type} [FloatOps F]

/-- 128 columns of the product, from column `o` on. -/
def cut (o : ℕ) (p : FVec F S512x1536 .f32) (h : S512x1536.Slices ![0, o] S512x128) : FVec F S512x128 .f32 :=
  extractStridedSlice S512x128 ![0, o] p h

/-- Two heads normalised and rotated: `k0_pay14` on the kernel's own pairing matrix. -/
def turned (cs sn : Vec F S512x128 .f32) (g : Vec F S1x128 .f32) (e : Vec F S128x128 .bf16) (c : FVec F S512x128 .f32) : FVec F S512x128 .bf16 :=
  k0_pay14 (k0_pay7 cs) (k0_pay8 sn) (k0_pay9 (F := F)) c g e

/-- One of the two heads, as it is stored. -/
def half (o : ℕ) (r : FVec F S512x128 .bf16) (h : S512x128.Slices ![0, o] S512x64) : FVec F S1x1x512x64 .bf16 :=
  shapeCast S1x1x512x64 (extractStridedSlice S512x64 ![0, o] r h) shapeCasts_S512x64_S1x1x512x64

/-- A value head as it is stored: the lower 64 lanes, then ones. -/
def withOnes (c : FVec F S512x128 .f32) : FVec F S1x1x512x128 .bf16 := k0_pay1 k0_pay6 c (k0_pay54 (F := F))

/-- The lower half's lanes in the upper half's place and the other way round. -/
def swapHalves (c : FVec F S512x128 .f32) : FVec F S512x128 .f32 := dynamicRotate 1 64#32 none c rotates_S512x128_d1

variable (x0 : Vec F S1x512x1024 .f32) (x1 : Vec F S1x1x1024 .f32) (x2 : Vec F S1x1x1024 .f32) (x3 : Vec F S1x1024 .f32)
  (x4 : Vec F S1024x1536 .bf16) (x5 : Vec F S2x128 .f32) (x6 : Vec F S128x128 .bf16) (x7 : Vec F S512x128 .f32) (x8 : Vec F S512x128 .f32)

/-- The product of the block's modulated tokens with the weights. -/
def product : FVec F S512x1536 .f32 :=
  k0_pay5 (View.ld x0 r0_0) (View.ld x3 r0_1) (View.ld x1 r0_2) (View.ld x2 r0_2) (View.ld x4 r0_3)

/-- The queries' pieces. -/
theorem out_queries : out0_9 x0 x1 x2 x3 x4 x5 x6 x7 x8 =
    (let R := fun o (h : S512x1536.Slices ![0, o] S512x128) =>
      turned (View.ld x7 r0_4) (View.ld x8 r0_4) (View.ld x5 r0_5) (View.ld x6 r0_6) (cut o (product x0 x1 x2 x3 x4) h)
    View.canon
      [⟨r0_22, half 64 (R 896 slices_S512x1536_o0_896_S512x128) slices_S512x128_o0_64_S512x64⟩,
       ⟨r0_21, half 0 (R 896 slices_S512x1536_o0_896_S512x128) slices_S512x128_o0_0_S512x64⟩,
       ⟨r0_20, half 64 (R 768 slices_S512x1536_o0_768_S512x128) slices_S512x128_o0_64_S512x64⟩,
       ⟨r0_19, half 0 (R 768 slices_S512x1536_o0_768_S512x128) slices_S512x128_o0_0_S512x64⟩,
       ⟨r0_18, half 64 (R 640 slices_S512x1536_o0_640_S512x128) slices_S512x128_o0_64_S512x64⟩,
       ⟨r0_17, half 0 (R 640 slices_S512x1536_o0_640_S512x128) slices_S512x128_o0_0_S512x64⟩,
       ⟨r0_16, half 64 (R 512 slices_S512x1536_o0_512_S512x128) slices_S512x128_o0_64_S512x64⟩,
       ⟨r0_15, half 0 (R 512 slices_S512x1536_o0_512_S512x128) slices_S512x128_o0_0_S512x64⟩,
       ⟨r0_14, half 64 (R 384 slices_S512x1536_o0_384_S512x128) slices_S512x128_o0_64_S512x64⟩,
       ⟨r0_13, half 0 (R 384 slices_S512x1536_o0_384_S512x128) slices_S512x128_o0_0_S512x64⟩,
       ⟨r0_12, half 64 (R 256 slices_S512x1536_o0_256_S512x128) slices_S512x128_o0_64_S512x64⟩,
       ⟨r0_11, half 0 (R 256 slices_S512x1536_o0_256_S512x128) slices_S512x128_o0_0_S512x64⟩,
       ⟨r0_10, half 64 (R 128 slices_S512x1536_o0_128_S512x128) slices_S512x128_o0_64_S512x64⟩,
       ⟨r0_9, half 0 (R 128 slices_S512x1536_o0_128_S512x128) slices_S512x128_o0_0_S512x64⟩,
       ⟨r0_8, half 64 (R 0 slices_S512x1536_o0_0_S512x128) slices_S512x128_o0_64_S512x64⟩,
       ⟨r0_7, half 0 (R 0 slices_S512x1536_o0_0_S512x128) slices_S512x128_o0_0_S512x64⟩]) := rfl

/-- The keys' pieces. -/
theorem out_keys : out0_10 x0 x1 x2 x3 x4 x5 x6 x7 x8 =
    (let R := fun o (h : S512x1536.Slices ![0, o] S512x128) =>
      turned (View.ld x7 r0_4) (View.ld x8 r0_4) (View.ld x5 r0_23) (View.ld x6 r0_6) (cut o (product x0 x1 x2 x3 x4) h)
    View.canon
      [⟨r0_27, half 64 (R 1152 slices_S512x1536_o0_1152_S512x128) slices_S512x128_o0_64_S512x64⟩,
       ⟨r0_26, half 0 (R 1152 slices_S512x1536_o0_1152_S512x128) slices_S512x128_o0_0_S512x64⟩,
       ⟨r0_25, half 64 (R 1024 slices_S512x1536_o0_1024_S512x128) slices_S512x128_o0_64_S512x64⟩,
       ⟨r0_24, half 0 (R 1024 slices_S512x1536_o0_1024_S512x128) slices_S512x128_o0_0_S512x64⟩]) := rfl

/-- The values' pieces. -/
theorem out_values : out0_11 x0 x1 x2 x3 x4 x5 x6 x7 x8 =
    (let C := fun o (h : S512x1536.Slices ![0, o] S512x128) => cut o (product x0 x1 x2 x3 x4) h
    View.canon
      [⟨r0_31, withOnes (swapHalves (C 1408 slices_S512x1536_o0_1408_S512x128))⟩,
       ⟨r0_30, withOnes (C 1408 slices_S512x1536_o0_1408_S512x128)⟩,
       ⟨r0_29, withOnes (swapHalves (C 1280 slices_S512x1536_o0_1280_S512x128))⟩,
       ⟨r0_28, withOnes (C 1280 slices_S512x1536_o0_1280_S512x128)⟩]) := rfl

end Cert.Proj

end
-- ==== Proof.QkvBody.lean ====
module

public import proofs.«01_k».proof.Proof.QkvSpec
public import proofs.«01_k».proof.Proof.QkvStep
public import proofs.«01_k».proof.Proof.Online
public import Idealize.ShloMosaic.Lib.Pipeline.Value
public import Idealize.ShloMosaic.Lib.ValueIdx
public import Idealize.ShloMosaic.Lib.KernelVsHost

/-! # The body's elements

What a visit stores, element by element, at the ideal values: two heads share a matrix of 128 lanes; a product with the
block-diagonal matrix of 64ths takes each head's mean square, a product with the pairing matrix exchanges the lanes of
each pair. -/

@[expose] public section

set_option maxRecDepth 16384

noncomputable section

namespace Cert.Proj

open Cert.QkvIdeal Cert.QkvIdeal.Gen Idealize.ShloMosaic Idealize.ShloMosaic.ValueIdx Idealize.SL.Sem Finset

/-- Lane `d` of half `u` of 128 lanes. -/
def lane (u : Fin 2) (d : Fin 64) : Fin 128 := ⟨64 * u.val + d.val, by omega⟩

/-- A product with a matrix of 128 rows, element by element. -/
theorem times_apply {φ : FTy} (x : FVec Ideal S512x128 φ) (y : FVec Ideal S128x128 φ) (r : Fin 512) (j : Fin 128) :
    matmul dot_S512x128_S128x128_S512x128_1_0_0_1_n_n none x y (constant S512x128 .f32 0x00000000#32) (ix2 r j)
      = ∑ k : Fin 128, x (ix2 r k) * y (ix2 k j) := by
  simp only [matmul]
  rw [Ideal.matmul_constant_zero_apply,
    ← Equiv.sum_comp (contrEquiv1 dot_S512x128_S128x128_S512x128_1_0_0_1_n_n 128 rfl rfl).symm]
  refine sum_congr rfl fun k _ => ?_
  have hk := contrEquiv1_symm_val dot_S512x128_S128x128_S512x128_1_0_0_1_n_n 128 rfl rfl k
  have el : dot_S512x128_S128x128_S512x128_1_0_0_1_n_n.lhsIdx (ix2 r j)
      ((contrEquiv1 dot_S512x128_S128x128_S512x128_1_0_0_1_n_n 128 rfl rfl).symm k) = ix2 r k :=
    funext fun a => Fin.ext (by
      match a with
      | ⟨0, _⟩ => rfl
      | ⟨1, _⟩ => exact (DotDims.lhsIdx_val_of_single _ rfl _ _).trans hk)
  have er : dot_S512x128_S128x128_S512x128_1_0_0_1_n_n.rhsIdx (ix2 r j)
      ((contrEquiv1 dot_S512x128_S128x128_S512x128_1_0_0_1_n_n 128 rfl rfl).symm k) = ix2 k j :=
    funext fun a => Fin.ext (by
      match a with
      | ⟨0, _⟩ => exact (DotDims.rhsIdx_val_of_single _ rfl _ _).trans hk
      | ⟨1, _⟩ => rfl)
  rw [el, er]

/-- The product with the weights, element by element. -/
theorem weights_apply {φ : FTy} (x : FVec Ideal S512x1024 φ) (y : FVec Ideal S1024x1536 φ) (r : Fin 512) (j : Fin 1536) :
    matmul dot_S512x1024_S1024x1536_S512x1536_1_0_0_1_n_n none x y (constant S512x1536 .f32 0x00000000#32) (ix2 r j)
      = ∑ k : Fin 1024, x (ix2 r k) * y (ix2 k j) := by
  simp only [matmul]
  rw [Ideal.matmul_constant_zero_apply,
    ← Equiv.sum_comp (contrEquiv1 dot_S512x1024_S1024x1536_S512x1536_1_0_0_1_n_n 1024 rfl rfl).symm]
  refine sum_congr rfl fun k _ => ?_
  have hk := contrEquiv1_symm_val dot_S512x1024_S1024x1536_S512x1536_1_0_0_1_n_n 1024 rfl rfl k
  have el : dot_S512x1024_S1024x1536_S512x1536_1_0_0_1_n_n.lhsIdx (ix2 r j)
      ((contrEquiv1 dot_S512x1024_S1024x1536_S512x1536_1_0_0_1_n_n 1024 rfl rfl).symm k) = ix2 r k :=
    funext fun a => Fin.ext (by
      match a with
      | ⟨0, _⟩ => rfl
      | ⟨1, _⟩ => exact (DotDims.lhsIdx_val_of_single _ rfl _ _).trans hk)
  have er : dot_S512x1024_S1024x1536_S512x1536_1_0_0_1_n_n.rhsIdx (ix2 r j)
      ((contrEquiv1 dot_S512x1024_S1024x1536_S512x1536_1_0_0_1_n_n 1024 rfl rfl).symm k) = ix2 k j :=
    funext fun a => Fin.ext (by
      match a with
      | ⟨0, _⟩ => exact (DotDims.rhsIdx_val_of_single _ rfl _ _).trans hk
      | ⟨1, _⟩ => rfl)
  rw [el, er]

/-- The bit pattern of one. -/
theorem one_bits : Ideal.ofBits .f32 0x3F800000#32 = 1 := by
  simp [Ideal.ofBits, Ideal.ieee, -EReal.coe_mul]
  norm_num

section Product

variable (v0 : Vec Ideal S1x512x1024 .f32) (v2 : Vec Ideal S1x1024 .f32) (v4 v6 : Vec Ideal S1x1x1024 .f32) (v26 : Vec Ideal S1024x1536 .bf16)

/-- A token of the block, modulated. -/
def tok (r : Fin 512) (l : Fin 1024) : EReal :=
  v0 (ix3 0 r l) * Ideal.rsqrt (Ideal.div (∑ k, v0 (ix3 0 r k) * v0 (ix3 0 r k)) (Ideal.ofBits .f32 0x44800000#32) + eps)
    * v2 (ix2 0 l) * (1 + v6 (ix3 0 0 l)) + v4 (ix3 0 0 l)

/-- The block's product is its modulated tokens times the weights. -/
theorem pay5_apply (r : Fin 512) (o : Fin 1536) :
    @Eq EReal (k0_pay5 v0 v2 v4 v6 v26 (ix2 r o)) (∑ l, tok v0 v2 v4 v6 r l * v26 (ix2 l o)) := by
  have hx : ∀ l, shapeCast S512x1024 v0 shapeCasts_S1x512x1024_S512x1024 (ix2 r l) = v0 (ix3 0 r l) := fun l =>
    shapeCast_apply _ _ _ _ (by rw [Shape.rowMajor_val_three, Shape.rowMajor_val_two]; simp [ix3, ix2])
  have h4 : ∀ (v : Vec Ideal S1x1x1024 .f32) l, shapeCast S1x1024 v shapeCasts_S1x1x1024_S1x1024 (ix2 0 l) = v (ix3 0 0 l) := fun v l =>
    shapeCast_apply _ _ _ _ (by rw [Shape.rowMajor_val_three, Shape.rowMajor_val_two]; simp [ix3, ix2])
  unfold k0_pay5
  refine (weights_apply _ _ r o).trans (sum_congr rfl fun l _ => congrArg₂ (fun u v : EReal => u * v) ?_ ?_)
  · rw [truncf_apply, addf_apply, mulf_apply, mulf_apply,
      broadcastTo_apply _ broadcasts_S512x1_S512x1024 (ix2 r l) (ix2 r 0) (fun b => by
        match b with
        | ⟨0, _⟩ => rfl
        | ⟨1, _⟩ => rfl),
      broadcastTo_apply _ broadcasts_S1x1024_S512x1024 (ix2 r l) (ix2 0 l) (fun b => by
        match b with
        | ⟨0, _⟩ => rfl
        | ⟨1, _⟩ => rfl),
      broadcastTo_apply _ broadcasts_S1x1024_S512x1024 (ix2 r l) (ix2 0 l) (fun b => by
        match b with
        | ⟨0, _⟩ => rfl
        | ⟨1, _⟩ => rfl), hx, h4, mulf_apply, addf_apply, h4]
    have hs : @Eq EReal (shapeCast S512x1 (multiReduction .add [1] S512 (mulf (F := Ideal) (φ := .f32) (shapeCast S512x1024 v0 shapeCasts_S1x512x1024_S512x1024)
        (shapeCast S512x1024 v0 shapeCasts_S1x512x1024_S512x1024)) 0x00000000#32 reduces_S512x1024_S512 (.inl rfl) rfl) shapeCasts_S512_S512x1 (ix2 r 0))
        (∑ k, v0 (ix3 0 r k) * v0 (ix3 0 r k)) := by
      rw [shapeCast_apply _ _ (ix2 r 0) (ix1 r) (by rw [Shape.rowMajor_val_one, Shape.rowMajor_val_two]; simp [ix1, ix2])]
      refine (Ideal.multiReduction_add_single _ 0x00000000#32 reduces_S512x1024_S512 (.inl rfl) rfl (ix1 r)).trans ?_
      refine sum_congr rfl fun k _ => ?_
      exact (congrArg (mulf (F := Ideal) (φ := .f32) _ _) (funext fun a => Fin.ext (by match a with | ⟨0, _⟩ => rfl | ⟨1, _⟩ => rfl) :
        reduces_S512x1024_S512.lift (ix1 r) k = ix2 r k)).trans (congrArg₂ (fun u v : EReal => u * v) (hx k) (hx k))
    have e : shapeCast S1x1024 v2 shapeCasts_S1x1024_S1x1024 (ix2 0 l) = v2 (ix2 0 l) := by rw [shapeCast_self]
    rw [e]
    unfold tok
    refine congrArg₂ (fun u v : EReal => u + v) ?_ rfl
    rw [mul_assoc (v0 (ix3 0 r l) * _), ← one_bits, ← hs]
    rfl
  · rw [shapeCast_self]

end Product

section Heads

variable (cs sn : Vec Ideal S512x128 .f32) (g : Vec Ideal S1x128 .f32) (e : Vec Ideal S128x128 .bf16) (c : FVec Ideal S512x128 .f32)

/-- Exchanging the lanes of each pair. -/
def other (j : Fin 128) : Fin 128 := if h : j.val % 32 < 16 then ⟨j.val + 16, by omega⟩ else ⟨j.val - 16, by omega⟩

/-- Whether two words agree, one of them with its bit of value 16 turned over: only at the pair's other lane. -/
theorem pair_word : ∀ k j : Fin 128, IntOp.cmpi .eq (BitVec.ofNat 32 k.val) (IntOp.xori (BitVec.ofNat 32 j.val) 16#32)
    = if k = other j then 1#1 else 0#1 := by
  decide +kernel

/-- The pairing matrix. -/
theorem pairing_apply (k j : Fin 128) : @Eq EReal (k0_pay9 (F := Ideal) (ix2 k j)) (if k = other j then 1 else 0) := by
  have h : k0_pay9 (F := Ideal) (ix2 k j)
      = Scalar.select (α := EReal) (IntOp.cmpi .eq (BitVec.ofNat 32 (0 * 128 + k.val)) (IntOp.xori (BitVec.ofNat 32 (0 * 128 + j.val)) 16#32))
        (Ideal.ofBits .f32 0x3F800000#32) (Ideal.ofBits .f32 0x00000000#32) := rfl
  rw [h, zero_mul, zero_add, zero_add, pair_word]
  split
  · exact one_bits
  · exact Ideal.ofBits_zero_f32

/-- A lane's element normalised by the mean square that the matrix `e` takes. -/
def scaled (r : Fin 512) (l : Fin 128) : EReal :=
  c (ix2 r l) * Ideal.rsqrt ((∑ k, c (ix2 r k) * c (ix2 r k) * e (ix2 k l)) + eps) * g (ix2 0 l)

/-- Two heads' elements, normalised and rotated. -/
theorem turned_apply (r : Fin 512) (j : Fin 128) :
    @Eq EReal (turned cs sn g e c (ix2 r j))
      (scaled g e c r j * cs (ix2 r j) + scaled g e c r (other j) * sn (ix2 r j)) := by
  have hn : ∀ l, mulf (mulf c (rsqrt (addf (matmul dot_S512x128_S128x128_S512x128_1_0_0_1_n_n none (truncf .bf16 (mulf c c) bitsLt_bf16_f32)
        (shapeCast S128x128 e shapeCasts_S128x128_S128x128) (constant S512x128 .f32 0x00000000#32))
        (broadcast S512x128 (Scalar.ofBits .f32 0x358637BD#32 : Ideal .f32)))))
        (broadcastTo S512x128 (shapeCast S1x128 g shapeCasts_S1x128_S1x128) broadcasts_S1x128_S512x128) (ix2 r l) = scaled g e c r l := fun l => by
    rw [mulf_apply, broadcastTo_apply _ broadcasts_S1x128_S512x128 (ix2 r l) (ix2 0 l) (fun b => by
      match b with
      | ⟨0, _⟩ => rfl
      | ⟨1, _⟩ => rfl), shapeCast_self, shapeCast_self, mulf_apply]
    unfold scaled
    have ht : @Eq EReal _ (∑ k, c (ix2 r k) * c (ix2 r k) * e (ix2 k l)) := times_apply (truncf .bf16 (mulf c c) bitsLt_bf16_f32) e r l
    rw [← ht]
    rfl
  unfold turned k0_pay14
  rw [truncf_apply, addf_apply]
  refine congrArg₂ (fun u v : EReal => u + v) ?_ (congrArg₂ (fun u v : EReal => u * v) ?_ ?_)
  · unfold k0_pay7
    rw [mulf_apply]
    refine congrArg₂ (fun u v : EReal => u * v) (hn j) ?_
    rw [shapeCast_self]
  · refine (times_apply _ _ r j).trans ((sum_congr rfl fun k _ => congrArg₂ (fun u v : EReal => u * v) (hn k) (pairing_apply k j)).trans ?_)
    simp only [mul_ite, mul_one, mul_zero]
    rw [sum_ite_eq' univ (other j)]
    exact if_pos (mem_univ _)
  · unfold k0_pay8
    rw [shapeCast_self]

/-- The 64th part of a sum over the lanes of one half. -/
theorem half_mean (f : Fin 128 → EReal) (he : ∀ k l, e (ix2 k l) = if k.val / 64 = l.val / 64 then ((1 / 64 : ℝ) : EReal) else 0)
    (u : Fin 2) (d : Fin 64) : ∑ k, f k * e (ix2 k (lane u d)) = Ideal.div (∑ k, f (lane u k)) ((64 : ℝ) : EReal) := by
  rw [Ideal.div_coe (by norm_num), mul_comm, Online.coe_mul_sum _ _ (by norm_num)]
  have hl : (lane u d).val / 64 = u.val := by show (64 * u.val + d.val) / 64 = u.val; omega
  rw [← (finProdFinEquiv (m := 2) (n := 64)).sum_comp, Fintype.sum_prod_type, sum_eq_single u]
  · refine sum_congr rfl fun k _ => ?_
    have hk : (finProdFinEquiv (u, k) : Fin 128) = lane u k := Fin.ext (by
      show k.val + 64 * u.val = 64 * u.val + k.val; omega)
    have hv : (lane u k).val / 64 = u.val := by show (64 * u.val + k.val) / 64 = u.val; omega
    refine (congrArg₂ (fun a b : EReal => a * b) (congrArg f hk) ((congrArg (fun a => e (ix2 a (lane u d))) hk).trans (he _ _))).trans ?_
    rw [if_pos (hv.trans hl.symm), mul_comm]
  · intro w _ hw
    refine sum_eq_zero fun k _ => ?_
    have hv : (finProdFinEquiv (w, k) : Fin 128).val / 64 = w.val := by
      show (k.val + 64 * w.val) / 64 = w.val; omega
    refine (congrArg (fun b : EReal => f (finProdFinEquiv (w, k)) * b) (he _ _)).trans ?_
    rw [if_neg (by rw [hl, hv]; exact fun h => hw (Fin.ext h)), mul_zero]
  · exact fun h => absurd (mem_univ u) h

/-- The other lane of a pair lies in the same half. -/
theorem other_lane : ∀ (u : Fin 2) (d : Fin 64), other (lane u d) = lane u (partner d) := by decide +kernel

/-- A head of two, normalised and rotated by its token's angles. -/
theorem turned_head (r : Fin 512) (u : Fin 2) (d : Fin 64) (n : ℕ) (G : Fin 64 → EReal)
    (he : ∀ k l, e (ix2 k l) = if k.val / 64 = l.val / 64 then ((1 / 64 : ℝ) : EReal) else 0)
    (hg : ∀ d, g (ix2 0 (lane u d)) = G d)
    (hc : cs (ix2 r (lane u d)) = Ideal.cos (turn n d.val))
    (hs : sn (ix2 r (lane u d)) = if d.val % 32 < 16 then -Ideal.sin (turn n d.val) else Ideal.sin (turn n d.val)) :
    @Eq EReal (turned cs sn g e c (ix2 r (lane u d))) (rotated n (normed (fun k => c (ix2 r (lane u k))) G) d) := by
  have hn : ∀ d, scaled g e c r (lane u d) = normed (fun k => c (ix2 r (lane u k))) G d := fun d => by
    unfold scaled normed
    rw [half_mean e (fun k => c (ix2 r k) * c (ix2 r k)) he, hg]
  rw [turned_apply, other_lane, hn, hn, hc, hs]
  unfold rotated
  split
  · rw [mul_neg, sub_eq_add_neg]
  · rfl

end Heads

section Stores

/-- An element of a stored head. -/
theorem half_apply (o : ℕ) (R : FVec Ideal S512x128 .bf16) (h : S512x128.Slices ![0, o] S512x64) (u : Fin 2) (ho : o = 64 * u.val) (r : Fin 512) (d : Fin 64) :
    half o R h (ix4 0 0 r d) = R (ix2 r (lane u d)) := by
  unfold half
  rw [shapeCast_apply _ _ (ix4 0 0 r d) (ix2 r d) (by rw [Shape.rowMajor_val_four, Shape.rowMajor_val_two]; simp [ix4, ix2])]
  exact extractStridedSlice_apply _ _ _ _ _ fun a => by
    match a with
    | ⟨0, _⟩ => exact (Nat.zero_add _).symm
    | ⟨1, _⟩ => show 64 * u.val + d.val = o + d.val; omega

/-- An element of 128 columns cut from the product. -/
theorem cut_apply (o : ℕ) (p : FVec Ideal S512x1536 .f32) (h : S512x1536.Slices ![0, o] S512x128) (r : Fin 512) (j : Fin 128) (i : Fin 1536)
    (hi : i.val = o + j.val) : cut o p h (ix2 r j) = p (ix2 r i) :=
  extractStridedSlice_apply _ _ _ _ _ fun a => by
    match a with
    | ⟨0, _⟩ => exact (Nat.zero_add _).symm
    | ⟨1, _⟩ => exact hi

/-- Which lanes carry values. -/
theorem mask_word : ∀ l : Fin 128, IntOp.cmpi .slt (BitVec.ofNat 32 l.val) 64#32 = if l.val < 64 then 1#1 else 0#1 := by decide +kernel

/-- A stored value head: the lower 64 lanes as they are, then ones. -/
theorem withOnes_apply (c : FVec Ideal S512x128 .f32) (r : Fin 512) (l : Fin 128) :
    @Eq EReal (withOnes c (ix4 0 0 r l)) (if l.val < 64 then c (ix2 r l) else 1) := by
  unfold withOnes k0_pay1
  rw [shapeCast_apply _ _ (ix4 0 0 r l) (ix2 r l) (by rw [Shape.rowMajor_val_four, Shape.rowMajor_val_two]; simp [ix4, ix2]), truncf_apply]
  have h : select (k0_pay6) c (k0_pay54 (F := Ideal)) (ix2 r l)
      = Scalar.select (α := EReal) (IntOp.cmpi .slt (BitVec.ofNat 32 (0 * 128 + l.val)) 64#32) (c (ix2 r l)) (Ideal.ofBits .f32 0x3F800000#32) := rfl
  rw [h, zero_mul, zero_add, mask_word]
  split
  · rfl
  · exact one_bits

/-- Exchanging the halves brings the upper half's lanes down. -/
theorem swapHalves_apply (c : FVec Ideal S512x128 .f32) (r : Fin 512) (d : Fin 64) :
    swapHalves c (ix2 r (lane 0 d)) = c (ix2 r (lane 1 d)) :=
  dynamicRotate_apply _ _ _ _ _ _ fun b => by
    match b with
    | ⟨0, _⟩ => rfl
    | ⟨1, _⟩ => show 64 * 1 + d.val = (64 * 0 + d.val + 128 - 64 % 128) % 128; omega

end Stores

end Cert.Proj

end
-- ==== Proof.QkvEntry.lean ====
module

public import proofs.«01_k».proof.Proof.QkvBody
public import Idealize.ShloMosaic.Lib.Claim
public import Idealize.ShloMosaic.Lib.Pipeline.ValueKit

/-! # What the projection kernel reads

The arrays the host prepares, in the arguments' terms: the head gains twice over, the block-diagonal matrix of 64ths, the
cosines and signed sines of every token. The host's integer divisions by 64 are the natural ones. -/

@[expose] public section

set_option maxRecDepth 16384

noncomputable section

namespace Cert.Proj

open Cert.QkvIdeal Cert.QkvIdeal.Gen
open Idealize.ShloMosaic hiding ix0 ix1 ix2 ix3 ix4 ix5
open Idealize.ShloMosaic.TcCoe Idealize.ShloMosaic.ValueIdx Idealize.SL.Sem

/-- The sign of a word. -/
def signWord (w : BitVec 32) : BitVec 32 := if w = 0 then 0 else if w.msb then -1 else 1

/-- The host's division by 64, rounded down. -/
def divWord (w : BitVec 32) : BitVec 32 :=
  Scalar.select (IntOp.andi (IntOp.cmpi .ne (signWord w) (signWord 64#32)) (IntOp.cmpi .ne (IntOp.remsi .host w 64#32) 0#32))
    (IntOp.subi (IntOp.divsi .host w 64#32) 1#32) (IntOp.divsi .host w 64#32)

/-- The host's divisor, one where it would be nought. -/
def divisorWord : BitVec 32 := Scalar.select (IntOp.cmpi .eq 64#32 0#32) 1#32 64#32

/-- The host's remainder by 64, with the divisor's sign. -/
def modWord (w : BitVec 32) : BitVec 32 :=
  Scalar.select (IntOp.andi (IntOp.cmpi .ne (IntOp.cmpi .slt (IntOp.remsi .host w divisorWord) 0#32) (IntOp.cmpi .slt divisorWord 0#32))
      (IntOp.cmpi .ne (IntOp.remsi .host w divisorWord) 0#32))
    (IntOp.addi (IntOp.remsi .host w divisorWord) divisorWord) (IntOp.remsi .host w divisorWord)

/-- On the tokens' numbers the division is the natural one. -/
theorem divWord_eq : ∀ n : Fin 4096, divWord (BitVec.ofNat 32 n.val) = BitVec.ofNat 32 (n.val / 64) := by decide +kernel

/-- On the tokens' numbers the remainder is the natural one. -/
theorem modWord_eq : ∀ n : Fin 4096, modWord (BitVec.ofNat 32 n.val) = BitVec.ofNat 32 (n.val % 64) := by decide +kernel

variable (m : (ℓ : Loc nD τ sig) → Buf (Elt Ideal) ℓ) (c : Dev nD)

/-- The tokens. -/
abbrev argX : S8x4096x1024.Idx → EReal := m ((c : Thread nD τ).loc main_arg0)
/-- The shifts. -/
abbrev argShift : S8x1x1024.Idx → EReal := m ((c : Thread nD τ).loc main_arg1)
/-- The scales. -/
abbrev argScale : S8x1x1024.Idx → EReal := m ((c : Thread nD τ).loc main_arg2)
/-- The gain of the normalisation. -/
abbrev argGain : S1024.Idx → EReal := m ((c : Thread nD τ).loc main_arg3)
/-- The weights. -/
abbrev argW : S1024x1536.Idx → EReal := m ((c : Thread nD τ).loc main_arg4)
/-- The queries' gain. -/
abbrev argGq : S64.Idx → EReal := m ((c : Thread nD τ).loc main_arg5)
/-- The keys' gain. -/
abbrev argGk : S64.Idx → EReal := m ((c : Thread nD τ).loc main_arg6)

/-- The buffers before the last stretch of the host's operations. -/
def before10 : Valuation τ sig (Elt Ideal) :=
  StableHlo.after [hostOps0, hostOps0_1, hostOps0_2, hostOps0_3, hostOps0_4, hostOps0_5, hostOps0_6, hostOps0_7, hostOps0_8, hostOps0_9].flatten
    (fun b => m (c, b))

/-- The last stretch starts from those. -/
theorem V_last (b : Ref sig .tc) : V m c b = StableHlo.after hostOps0_10 (before10 m c) (Proc.tc.devRef b) := by
  unfold V before10
  simp only [List.flatten_cons, List.flatten_nil, List.append_nil, StableHlo.after_append]

/-- The frequencies. -/
theorem freq_entry (f : Fin 16) : @Eq EReal (before10 m c (Proc.tc.devRef main_v24) (ix1 f)) (freq f.val) := by
  unfold before10
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  rfl

/-- The rows' angles. -/
theorem row_entry (n : Fin 4096) (f : Fin 16) : @Eq EReal (before10 m c (Proc.tc.devRef main_v32) (ix2 n f)) (angle (n.val / 64) f.val) := by
  unfold before10
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.ofBuf_toBuf]
  unfold angle
  rw [← divWord_eq]
  rfl

/-- The tokens' columns. -/
theorem col_entry (n : Fin 4096) : @Eq (BitVec 32) (before10 m c (Proc.tc.devRef main_v33) (ix1 n)) (BitVec.ofNat 32 (n.val % 64)) := by
  unfold before10
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.ofBuf_toBuf]
  rw [← modWord_eq]
  rfl

/-- The bit pattern of a 64th. -/
theorem sixtyfourth_bits : Ideal.ofBits .f32 0x3C800000#32 = ((1 / 64 : ℝ) : EReal) := by
  simp [Ideal.ofBits, Ideal.ieee, -EReal.coe_mul]
  norm_num

/-- Two lanes' quotients by 64 agree as words where they agree as numbers. -/
theorem half_word : ∀ p q : Fin 2, IntOp.cmpi .eq (BitVec.ofNat 32 p.val) (BitVec.ofNat 32 q.val) = if p.val = q.val then 1#1 else 0#1 := by
  decide +kernel

/-- The block-diagonal matrix. -/
theorem mean_entry (k l : Fin 128) : @Eq EReal (V m c main_v18 (ix2 k l)) (if k.val / 64 = l.val / 64 then ((1 / 64 : ℝ) : EReal) else 0) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf]
  show Scalar.select (α := EReal) (IntOp.cmpi .eq (divWord (BitVec.ofNat 32 k.val)) (divWord (BitVec.ofNat 32 l.val)))
    (Ideal.ofBits .f32 0x3C800000#32) (Ideal.ofBits .f32 0x00000000#32) = _
  rw [divWord_eq ⟨k.val, by omega⟩, divWord_eq ⟨l.val, by omega⟩, half_word ⟨k.val / 64, by omega⟩ ⟨l.val / 64, by omega⟩, sixtyfourth_bits, Ideal.ofBits_zero_f32]
  show Scalar.select (if k.val / 64 = l.val / 64 then 1#1 else 0#1) _ _ = _
  split <;> rfl

end Cert.Proj

end
-- ==== Proof.QkvAngles.lean ====
module

public import proofs.«01_k».proof.Proof.QkvEntry
public import Idealize.ShloMosaic.Lib.Claim
public import Idealize.ShloMosaic.Lib.StableHlo.RunRead
public import Idealize.ShloMosaic.Lib.Pipeline.ValueKit

/-! # The angles and gains the host lays out

The cosines and sines of a token's row and column, sixteen of each twice over, laid out for two heads side by side; the
head gains likewise. -/

@[expose] public section

set_option maxRecDepth 16384

noncomputable section

namespace Cert.Proj

open Cert.QkvIdeal Cert.QkvIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- Four arrays of sixteen columns side by side: column `d` is column `d % 16` of the array `d / 16`. -/
theorem quarters_apply (x0 x1 x2 x3 : S4096x16.Idx → EReal) (h) (n : Fin 4096) (d : Fin 64) (A : EReal)
    (h0 : d.val / 16 = 0 → x0 (ix2 n ⟨d.val % 16, by omega⟩) = A) (h1 : d.val / 16 = 1 → x1 (ix2 n ⟨d.val % 16, by omega⟩) = A)
    (h2 : d.val / 16 = 2 → x2 (ix2 n ⟨d.val % 16, by omega⟩) = A) (h3 : d.val / 16 = 3 → x3 (ix2 n ⟨d.val % 16, by omega⟩) = A) :
    concatenate S4096x64 1 [⟨S4096x16, x0⟩, ⟨S4096x16, x1⟩, ⟨S4096x16, x2⟩, ⟨S4096x16, x3⟩] h (ix2 n d) = A := by
  have hq : d.val / 16 < 4 := by omega
  have piece := fun (k : ℕ) (hk : k < 4) (x : S4096x16.Idx → EReal) (hx) (pre) (hd : 16 * k + d.val % 16 = d.val) =>
    concatenate_apply_piece (t := S4096x64) 1 [⟨S4096x16, x0⟩, ⟨S4096x16, x1⟩, ⟨S4096x16, x2⟩, ⟨S4096x16, x3⟩] h (ix2 n d) k hk S4096x16 x hx rfl (16 * k) pre
      (ix2 n ⟨d.val % 16, by omega⟩) (fun b hb => match b with | ⟨0, _⟩ => rfl | ⟨1, _⟩ => absurd rfl hb) hd
  have hc : d.val / 16 = 0 ∨ d.val / 16 = 1 ∨ d.val / 16 = 2 ∨ d.val / 16 = 3 := by omega
  rcases hc with e | e | e | e
  · exact (piece 0 (by decide) x0 rfl rfl (by omega)).trans (h0 e)
  · exact (piece 1 (by decide) x1 rfl rfl (by omega)).trans (h1 e)
  · exact (piece 2 (by decide) x2 rfl rfl (by omega)).trans (h2 e)
  · exact (piece 3 (by decide) x3 rfl rfl (by omega)).trans (h3 e)

/-- 64 columns, laid out for two heads side by side. -/
theorem twice_apply (X : S4096x64.Idx → EReal) (n : Fin 4096) (u : Fin 2) (d : Fin 64) :
    shapeCast S4096x128 (broadcastInDim S1x4096x2x64 ![0, 1, 2, 3] bcast_S1x4096x1x64_S1x4096x2x64_0_1_2_3
      (shapeCast S1x4096x1x64 X shapeCasts_S4096x64_S1x4096x1x64)) shapeCasts_S1x4096x2x64_S4096x128 (ix2 n (lane u d)) = X (ix2 n d) := by
  refine (shapeCast_apply (s := S1x4096x2x64) (t := S4096x128) _ _ (ix2 n (lane u d)) (ix4 0 n u d) (by
    rw [Shape.rowMajor_val_four, Shape.rowMajor_val_two]
    show ((0 * 4096 + n.val) * 2 + u.val) * 64 + d.val = n.val * 128 + (64 * u.val + d.val)
    omega)).trans ?_
  refine (broadcastInDim_apply _ _ _ (ix4 0 n u d) (ix4 0 n 0 d) (fun a => by
    match a with
    | ⟨0, _⟩ => rfl
    | ⟨1, _⟩ => rfl
    | ⟨2, _⟩ => rfl
    | ⟨3, _⟩ => rfl)).trans ?_
  exact shapeCast_apply (s := S4096x64) (t := S1x4096x1x64) _ _ (ix4 0 n 0 d) (ix2 n d) (by
    rw [Shape.rowMajor_val_four, Shape.rowMajor_val_two]
    show n.val * 64 + d.val = ((0 * 4096 + n.val) * 1 + 0) * 64 + d.val
    omega)

/-- 64 gains, laid out for two heads side by side. -/
theorem twiceRow_apply (X : S64.Idx → EReal) (u : Fin 2) (d : Fin 64) :
    broadcastInDim S1x128 ![1] bcast_S128_S1x128_1 (shapeCast S128 (broadcastInDim S2x64 ![0, 1] bcast_S1x64_S2x64_0_1
      (shapeCast S1x64 X shapeCasts_S64_S1x64)) shapeCasts_S2x64_S128) (ix2 0 (lane u d)) = X (ix1 d) := by
  refine (broadcastInDim_apply _ _ _ (ix2 0 (lane u d)) (ix1 (lane u d)) (fun a => by
    match a with
    | ⟨0, _⟩ => rfl)).trans ?_
  refine (shapeCast_apply (s := S2x64) (t := S128) _ _ (ix1 (lane u d)) (ix2 u d) (by
    rw [Shape.rowMajor_val_two, Shape.rowMajor_val_one]
    show u.val * 64 + d.val = 64 * u.val + d.val
    omega)).trans ?_
  refine (broadcastInDim_apply _ _ _ (ix2 u d) (ix2 0 d) (fun a => by
    match a with
    | ⟨0, _⟩ => rfl
    | ⟨1, _⟩ => rfl)).trans ?_
  exact shapeCast_apply (s := S64) (t := S1x64) _ _ (ix2 0 d) (ix1 d) (by
    rw [Shape.rowMajor_val_two, Shape.rowMajor_val_one]
    show d.val = 0 * 64 + d.val
    omega)

/-- The column's angle, as the host multiplies it out. -/
theorem col_angle (X : S4096.Idx → BitVec 32) (W : S16.Idx → EReal) (hX : ∀ n : Fin 4096, X (ix1 n) = BitVec.ofNat 32 (n.val % 64))
    (hW : ∀ f : Fin 16, W (ix1 f) = freq f.val) (n : Fin 4096) (f : Fin 16) :
    mulf (F := Ideal) (φ := .f32) (broadcastInDim S4096x16 ![0, 1] bcast_S4096x1_S4096x16_0_1 (broadcastInDim S4096x1 ![0] bcast_S4096_S4096x1_0 (sitofp .f32 X)))
        (broadcastInDim S4096x16 ![0, 1] bcast_S1x16_S4096x16_0_1 (broadcastInDim S1x16 ![1] bcast_S16_S1x16_1 W)) (ix2 n f)
      = angle (n.val % 64) f.val := by
  unfold angle
  refine congrArg₂ (fun u v : EReal => u * v) ?_ ?_
  · refine (broadcastInDim_apply _ _ _ (ix2 n f) (ix2 n 0) (fun a => by
      match a with
      | ⟨0, _⟩ => rfl
      | ⟨1, _⟩ => rfl)).trans ((broadcastInDim_apply _ _ _ (ix2 n 0) (ix1 n) (fun a => by
      match a with
      | ⟨0, _⟩ => rfl)).trans ?_)
    exact congrArg (FloatOps.sitofp (F := Ideal) .f32) (hX n)
  · exact (broadcastInDim_apply _ _ _ (ix2 n f) (ix2 0 f) (fun a => by
      match a with
      | ⟨0, _⟩ => rfl
      | ⟨1, _⟩ => rfl)).trans ((broadcastInDim_apply _ _ _ (ix2 0 f) (ix1 f) (fun a => by
      match a with
      | ⟨0, _⟩ => rfl)).trans (hW f))

section Angles

variable (σ : Valuation τ sig (Elt Ideal))
variable (hR : ∀ (n : Fin 4096) (f : Fin 16), @Eq EReal (σ (Proc.tc.devRef main_v32) (ix2 n f)) (angle (n.val / 64) f.val))
variable (hC : ∀ n : Fin 4096, @Eq (BitVec 32) (σ (Proc.tc.devRef main_v33) (ix1 n)) (BitVec.ofNat 32 (n.val % 64)))
variable (hF : ∀ f : Fin 16, @Eq EReal (σ (Proc.tc.devRef main_v24) (ix1 f)) (freq f.val))

include hR in
/-- The host's cosine of the row angle, -/
theorem cos_row (n : Fin 4096) (f : Fin 16) : @Eq EReal (StableHlo.upto hostOps0_10 σ 8 (Proc.tc.devRef main_v40) (ix2 n f)) (Ideal.cos (angle (n.val / 64) f.val)) := by
  unfold hostOps0_10
  after_reads_simp
  exact congrArg Ideal.cos (hR n f)

include hC hF in
/-- of the column angle; -/
theorem cos_col (n : Fin 4096) (f : Fin 16) : @Eq EReal (StableHlo.upto hostOps0_10 σ 8 (Proc.tc.devRef main_v41) (ix2 n f)) (Ideal.cos (angle (n.val % 64) f.val)) := by
  unfold hostOps0_10
  after_reads_simp
  exact congrArg Ideal.cos (col_angle _ _ hC hF n f)

include hR in
/-- its sine of the row angle, -/
theorem sin_row (n : Fin 4096) (f : Fin 16) : @Eq EReal (StableHlo.upto hostOps0_10 σ 15 (Proc.tc.devRef main_v45) (ix2 n f)) (Ideal.sin (angle (n.val / 64) f.val)) := by
  unfold hostOps0_10
  after_reads_simp
  exact congrArg Ideal.sin (hR n f)

include hC hF in
/-- of the column angle, -/
theorem sin_col (n : Fin 4096) (f : Fin 16) : @Eq EReal (StableHlo.upto hostOps0_10 σ 15 (Proc.tc.devRef main_v48) (ix2 n f)) (Ideal.sin (angle (n.val % 64) f.val)) := by
  unfold hostOps0_10
  after_reads_simp
  exact congrArg Ideal.sin (col_angle _ _ hC hF n f)

include hR in
/-- the negated sine of the row angle, -/
theorem neg_sin_row (n : Fin 4096) (f : Fin 16) : @Eq EReal (StableHlo.upto hostOps0_10 σ 15 (Proc.tc.devRef main_v44) (ix2 n f)) (-Ideal.sin (angle (n.val / 64) f.val)) := by
  unfold hostOps0_10
  after_reads_simp
  exact congrArg (fun x : EReal => -Ideal.sin x) (hR n f)

include hC hF in
/-- of the column angle. -/
theorem neg_sin_col (n : Fin 4096) (f : Fin 16) : @Eq EReal (StableHlo.upto hostOps0_10 σ 15 (Proc.tc.devRef main_v47) (ix2 n f)) (-Ideal.sin (angle (n.val % 64) f.val)) := by
  unfold hostOps0_10
  after_reads_simp
  exact congrArg (fun x : EReal => -Ideal.sin x) (col_angle _ _ hC hF n f)

include hR hC hF in
/-- The cosines. -/
theorem cos_from (n : Fin 4096) (u : Fin 2) (d : Fin 64) :
    @Eq EReal (StableHlo.after hostOps0_10 σ (Proc.tc.devRef main_v52) (ix2 n (lane u d))) (Ideal.cos (turn n.val d.val)) := by
  have R := cos_row σ hR n
  have C := cos_col σ hC hF n
  unfold hostOps0_10 at R C ⊢
  after_reads_simp
  refine (twice_apply _ n u d).trans (quarters_apply _ _ _ _ _ n d _ (fun e => (R _).trans ?_) (fun e => (R _).trans ?_)
    (fun e => (C _).trans ?_) (fun e => (C _).trans ?_))
  all_goals
    unfold turn
    first
      | rw [if_pos (by omega : d.val < 32)]
      | rw [if_neg (by omega : ¬ d.val < 32)]

include hR hC hF in
/-- The sines, with the sign of a column's partner. -/
theorem sin_from (n : Fin 4096) (u : Fin 2) (d : Fin 64) :
    @Eq EReal (StableHlo.after hostOps0_10 σ (Proc.tc.devRef main_v55) (ix2 n (lane u d)))
      (if d.val % 32 < 16 then -Ideal.sin (turn n.val d.val) else Ideal.sin (turn n.val d.val)) := by
  have R := sin_row σ hR n
  have C := sin_col σ hC hF n
  have R' := neg_sin_row σ hR n
  have C' := neg_sin_col σ hC hF n
  unfold hostOps0_10 at R C R' C' ⊢
  after_reads_simp
  refine (twice_apply _ n u d).trans (quarters_apply _ _ _ _ _ n d _ (fun e => (R' _).trans ?_) (fun e => (R _).trans ?_)
    (fun e => (C' _).trans ?_) (fun e => (C _).trans ?_))
  all_goals
    unfold turn
    first
      | rw [if_pos (by omega : d.val < 32)]
      | rw [if_neg (by omega : ¬ d.val < 32)]
    first
      | rw [if_pos (by omega : d.val % 32 < 16)]
      | rw [if_neg (by omega : ¬ d.val % 32 < 16)]

end Angles

/-- The cosines the kernel is handed. -/
theorem cos_entry (n : Fin 4096) (u : Fin 2) (d : Fin 64) : @Eq EReal (V m c main_v52 (ix2 n (lane u d))) (Ideal.cos (turn n.val d.val)) :=
  (congrFun (V_last m c main_v52) _).trans (cos_from (before10 m c) (row_entry m c) (col_entry m c) (freq_entry m c) n u d)

/-- The sines the kernel is handed. -/
theorem sin_entry (n : Fin 4096) (u : Fin 2) (d : Fin 64) : @Eq EReal (V m c main_v55 (ix2 n (lane u d)))
    (if d.val % 32 < 16 then -Ideal.sin (turn n.val d.val) else Ideal.sin (turn n.val d.val)) :=
  (congrFun (V_last m c main_v55) _).trans (sin_from (before10 m c) (row_entry m c) (col_entry m c) (freq_entry m c) n u d)

/-- The gains for two heads side by side. -/
theorem gain_entry (d : Fin 64) (u : Fin 2) : @Eq EReal (V m c main_v8 (ix2 0 (lane u d))) (argGq m c (ix1 d)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  exact (concatenate_pair_apply_left (t := S2x128) 0 (s₁ := S1x128) (s₂ := S1x128) _ _ _ (ix2 0 (lane u d)) rfl (ix2 0 (lane u d))
    (fun a => match a with | ⟨0, _⟩ => rfl | ⟨1, _⟩ => rfl)).trans (twiceRow_apply _ u d)

/-- The key heads' gains for two heads side by side. -/
theorem key_gain_entry (d : Fin 64) (u : Fin 2) : @Eq EReal (V m c main_v8 (ix2 1 (lane u d))) (argGk m c (ix1 d)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  exact (concatenate_pair_apply_right (t := S2x128) 0 (s₁ := S1x128) (s₂ := S1x128) _ _ _ (ix2 1 (lane u d)) rfl rfl (ix2 0 (lane u d))
    (fun a ha => match a with | ⟨0, _⟩ => absurd rfl ha | ⟨1, _⟩ => rfl) rfl).trans (twiceRow_apply _ u d)

/-- The gain of the normalisation. -/
theorem norm_entry (l : Fin 1024) : @Eq EReal (V m c main_v56 (ix2 0 l)) (argGain m c (ix1 l)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  exact broadcastInDim_apply _ _ _ (ix2 0 l) (ix1 l) (fun a => match a with | ⟨0, _⟩ => rfl)

/-- The weights. -/
theorem weight_entry (i : S1024x1536.Idx) : @Eq EReal (V m c main_v57 i) (argW m c i) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  rfl

end Cert.Proj

end
-- ==== Proof.QkvBlock.lean ====
module

public import proofs.«01_k».proof.Proof.QkvAngles
public import proofs.«01_k».proof.Proof.QkvStep
public import Idealize.ShloMosaic.Lib.Pipeline.Covers

/-! # The blocks of a grid point of the projection kernel

A grid point is a batch entry and a block of 512 tokens. -/

@[expose] public section

set_option maxRecDepth 16384

noncomputable section

namespace Cert.Proj

open Cert.QkvIdeal Cert.QkvIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- The grid point's batch entry. -/
def batch (t : Fin cfg0.N) : Fin 8 := grid0.coords t 0
/-- The grid point's block of tokens. -/
def tile (t : Fin cfg0.N) : Fin 8 := grid0.coords t 1
/-- A token of the block, among all of them. -/
def token (t : Fin cfg0.N) (r : Fin 512) : Fin 4096 := ⟨512 * (tile t).val + r.val, by omega⟩

/-- Which block of each array a grid point has. -/
theorem index_eq : ∀ t : Fin grid0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![0, 0]
    ∧ win0_5.index t = ![0, 0]
    ∧ win0_6.index t = ![0, 0]
    ∧ win0_7.index t = ![(grid0.coords t 1).val, 0]
    ∧ win0_8.index t = ![(grid0.coords t 1).val, 0]
    ∧ win0_9.index t = ![(grid0.coords t 0).val, 0, (grid0.coords t 1).val, 0]
    ∧ win0_10.index t = ![(grid0.coords t 0).val, 0, (grid0.coords t 1).val, 0]
    ∧ win0_11.index t = ![(grid0.coords t 0).val, 0, (grid0.coords t 1).val, 0] := by
  decide +kernel

/-- The load of a whole array reads it. -/
theorem ld_whole {s : Shape} {e : EltTy} (x : Vec Ideal s e) (o : Fin s.rank → ℕ) (ho : ∀ a, o a = 0) (inb) (i : s.Idx) :
    View.ld x (Rect.unit (s := s) o s.size inb) i = x i :=
  View.ld_unit_apply_of _ _ _ _ _ _ fun a => by
    rw [ho a]
    exact (Nat.zero_add _).symm

/-- The load of one of two rows reads it. -/
theorem ld_row (x : Vec Ideal S2x128 .f32) (p : Fin 2) (inb) (j : Fin 128) :
    View.ld x (Rect.unit (s := S2x128) ![p.val, 0] S1x128.size inb) (ix2 0 j) = x (ix2 p j) :=
  View.ld_unit_apply_of _ _ _ _ _ _ fun a => by
    match a with
    | ⟨0, _⟩ => rfl
    | ⟨1, _⟩ => exact (Nat.zero_add _).symm

/-- Where loads of two axes start. -/
theorem start2 (a : Fin 2) : (![0, 0] : Fin 2 → ℕ) a = 0 := by
  match a with
  | ⟨0, _⟩ => rfl
  | ⟨1, _⟩ => rfl

/-- Where loads of three axes start. -/
theorem start3 (a : Fin 3) : (![0, 0, 0] : Fin 3 → ℕ) a = 0 := by
  match a with
  | ⟨0, _⟩ => rfl
  | ⟨1, _⟩ => rfl
  | ⟨2, _⟩ => rfl

/-- The block of tokens. -/
theorem x_block (t : Fin cfg0.N) (r : Fin 512) (l : Fin 1024) :
    @Eq EReal (View.ld (iblk m c 0 t) r0_0 (ix3 0 r l)) (argX m c (ix3 (batch t) (token t r) l)) := by
  refine (ld_whole (s := S1x512x1024) (e := .f32) (iblk m c 0 t) _ start3 _ (ix3 0 r l)).trans ?_
  refine (congrArg (V m c main_arg0) (funext fun a => Fin.ext ?_)).trans (congrFun (V_main_arg0 m c) _)
  blk_simp [index_eq t]
  match a with
  | ⟨0, _⟩ => show (batch t).val * 1 + 0 = (batch t).val; omega
  | ⟨1, _⟩ => show (tile t).val * 512 + r.val = 512 * (tile t).val + r.val; omega
  | ⟨2, _⟩ => show 0 * 1024 + l.val = l.val; omega

/-- The batch entry's shift. -/
theorem shift_block (t : Fin cfg0.N) (l : Fin 1024) :
    @Eq EReal (View.ld (iblk m c 1 t) r0_2 (ix3 0 0 l)) (argShift m c (ix3 (batch t) 0 l)) := by
  refine (ld_whole (s := S1x1x1024) (e := .f32) (iblk m c 1 t) _ start3 _ (ix3 0 0 l)).trans ?_
  refine (congrArg (V m c main_arg1) (funext fun a => Fin.ext ?_)).trans (congrFun (V_main_arg1 m c) _)
  blk_simp [index_eq t]
  match a with
  | ⟨0, _⟩ => show (batch t).val * 1 + 0 = (batch t).val; omega
  | ⟨1, _⟩ => rfl
  | ⟨2, _⟩ => show 0 * 1024 + l.val = l.val; omega

/-- The batch entry's scale. -/
theorem scale_block (t : Fin cfg0.N) (l : Fin 1024) :
    @Eq EReal (View.ld (iblk m c 2 t) r0_2 (ix3 0 0 l)) (argScale m c (ix3 (batch t) 0 l)) := by
  refine (ld_whole (s := S1x1x1024) (e := .f32) (iblk m c 2 t) _ start3 _ (ix3 0 0 l)).trans ?_
  refine (congrArg (V m c main_arg2) (funext fun a => Fin.ext ?_)).trans (congrFun (V_main_arg2 m c) _)
  blk_simp [index_eq t]
  match a with
  | ⟨0, _⟩ => show (batch t).val * 1 + 0 = (batch t).val; omega
  | ⟨1, _⟩ => rfl
  | ⟨2, _⟩ => show 0 * 1024 + l.val = l.val; omega

/-- The gain of the normalisation. -/
theorem gain_block (t : Fin cfg0.N) (l : Fin 1024) :
    @Eq EReal (View.ld (iblk m c 3 t) r0_1 (ix2 0 l)) (argGain m c (ix1 l)) := by
  refine (ld_whole (s := S1x1024) (e := .f32) (iblk m c 3 t) _ start2 _ (ix2 0 l)).trans ?_
  refine (congrArg (V m c main_v56) (funext fun a => Fin.ext ?_)).trans (norm_entry m c l)
  blk_simp [index_eq t]
  match a with
  | ⟨0, _⟩ => rfl
  | ⟨1, _⟩ => show 0 * 1024 + l.val = l.val; omega

/-- The weights. -/
theorem weight_block (t : Fin cfg0.N) (l : Fin 1024) (o : Fin 1536) :
    @Eq EReal (View.ld (iblk m c 4 t) r0_3 (ix2 l o)) (argW m c (ix2 l o)) := by
  refine (ld_whole (s := S1024x1536) (e := .bf16) (iblk m c 4 t) _ start2 _ (ix2 l o)).trans ?_
  refine (congrArg (V m c main_v57) (funext fun a => Fin.ext ?_)).trans (weight_entry m c (ix2 l o))
  blk_simp [index_eq t]
  match a with
  | ⟨0, _⟩ => show 0 * 1024 + l.val = l.val; omega
  | ⟨1, _⟩ => show 0 * 1536 + o.val = o.val; omega

/-- A row of the head gains. -/
theorem heads_block (t : Fin cfg0.N) (p : Fin 2) (inb) (j : Fin 128) :
    @Eq EReal (View.ld (iblk m c 5 t) (Rect.unit (s := S2x128) ![p.val, 0] S1x128.size inb) (ix2 0 j)) (V m c main_v8 (ix2 p j)) := by
  refine (ld_row (iblk m c 5 t) p inb j).trans ?_
  refine congrArg (V m c main_v8) (funext fun a => Fin.ext ?_)
  blk_simp [index_eq t]
  match a with
  | ⟨0, _⟩ => show 0 * 2 + p.val = p.val; omega
  | ⟨1, _⟩ => show 0 * 128 + j.val = j.val; omega

/-- The averaging matrix. -/
theorem mean_block (t : Fin cfg0.N) (k l : Fin 128) :
    @Eq EReal (View.ld (iblk m c 6 t) r0_6 (ix2 k l)) (if k.val / 64 = l.val / 64 then ((1 / 64 : ℝ) : EReal) else 0) := by
  refine (ld_whole (s := S128x128) (e := .bf16) (iblk m c 6 t) _ start2 _ (ix2 k l)).trans ?_
  refine (congrArg (V m c main_v18) (funext fun a => Fin.ext ?_)).trans (mean_entry m c k l)
  blk_simp [index_eq t]
  match a with
  | ⟨0, _⟩ => show 0 * 128 + k.val = k.val; omega
  | ⟨1, _⟩ => show 0 * 128 + l.val = l.val; omega

/-- The cosines of the block's tokens. -/
theorem cos_block (t : Fin cfg0.N) (r : Fin 512) (u : Fin 2) (d : Fin 64) :
    @Eq EReal (View.ld (iblk m c 7 t) r0_4 (ix2 r (lane u d))) (Ideal.cos (turn (token t r).val d.val)) := by
  refine (ld_whole (s := S512x128) (e := .f32) (iblk m c 7 t) _ start2 _ (ix2 r (lane u d))).trans ?_
  refine (congrArg (V m c main_v52) (funext fun a => Fin.ext ?_)).trans (cos_entry m c (token t r) u d)
  blk_simp [index_eq t]
  match a with
  | ⟨0, _⟩ => show (tile t).val * 512 + r.val = 512 * (tile t).val + r.val; omega
  | ⟨1, _⟩ => show 0 * 128 + (lane u d).val = (lane u d).val; omega

/-- The sines of the block's tokens. -/
theorem sin_block (t : Fin cfg0.N) (r : Fin 512) (u : Fin 2) (d : Fin 64) :
    @Eq EReal (View.ld (iblk m c 8 t) r0_4 (ix2 r (lane u d)))
      (if d.val % 32 < 16 then -Ideal.sin (turn (token t r).val d.val) else Ideal.sin (turn (token t r).val d.val)) := by
  refine (ld_whole (s := S512x128) (e := .f32) (iblk m c 8 t) _ start2 _ (ix2 r (lane u d))).trans ?_
  refine (congrArg (V m c main_v55) (funext fun a => Fin.ext ?_)).trans (sin_entry m c (token t r) u d)
  blk_simp [index_eq t]
  match a with
  | ⟨0, _⟩ => show (tile t).val * 512 + r.val = 512 * (tile t).val + r.val; omega
  | ⟨1, _⟩ => show 0 * 128 + (lane u d).val = (lane u d).val; omega

/-- The block's product is its tokens' projection. -/
theorem product_block (t : Fin cfg0.N) (r : Fin 512) (o : Fin 1536) :
    @Eq EReal (product (iblk m c 0 t) (iblk m c 1 t) (iblk m c 2 t) (iblk m c 3 t) (iblk m c 4 t) (ix2 r o))
      (projected (argX m c) (argShift m c) (argScale m c) (argGain m c) (argW m c) (batch t) (token t r) o) := by
  refine (pay5_apply _ _ _ _ _ r o).trans ?_
  unfold projected tok modulated
  refine Finset.sum_congr rfl fun l _ => congrArg₂ (fun u v : EReal => u * v) ?_ (weight_block m c t l o)
  refine congrArg₂ (fun u v : EReal => u + v) ?_ (shift_block m c t l)
  refine congrArg₂ (fun u v : EReal => u * v) ?_ (congrArg (fun v : EReal => 1 + v) (scale_block m c t l))
  refine congrArg₂ (fun u v : EReal => u * v) ?_ (gain_block m c t l)
  refine congrArg₂ (fun u v : EReal => u * v) (x_block m c t r l) ?_
  refine congrArg (fun u : EReal => Ideal.rsqrt (Ideal.div u (Ideal.ofBits .f32 0x44800000#32) + eps)) ?_
  exact Finset.sum_congr rfl fun k _ => congrArg₂ (fun u v : EReal => u * v) (x_block m c t r k) (x_block m c t r k)

end Cert.Proj

end
-- ==== Proof.QkvValue.lean ====
module

public import proofs.«01_k».proof.Proof.QkvBlock
public import proofs.«01_k».proof.Proof.Gen.QkvIdeal.Value

/-! # What the projection kernel leaves in its results

Every grid point leaves the queries, keys and values of its batch entry and its 512 tokens; the grid points together fill
the three arrays. -/

@[expose] public section

set_option maxRecDepth 16384

noncomputable section

namespace Cert.Proj

open Cert.QkvIdeal Cert.QkvIdeal.Gen
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- A head of a grid point's token, from the kernel's arguments. -/
abbrev headOf (g : S64.Idx → EReal) (o : ℕ) (ho : o + 64 ≤ 1536) (b : Fin 8) (n : Fin 4096) (d : Fin 64) : EReal :=
  headAt (argX m c) (argShift m c) (argScale m c) (argGain m c) (argW m c) g o ho b n d

/-- The same head of the same token has the same features. -/
theorem headOf_congr (g : S64.Idx → EReal) {o o' : ℕ} (ho : o + 64 ≤ 1536) (ho' : o' + 64 ≤ 1536) (b : Fin 8) {n n' : Fin 4096} {d d' : Fin 64}
    (e : o = o') (hn : n.val = n'.val) (hd : d.val = d'.val) : headOf m c g o ho b n d = headOf m c g o' ho' b n' d' := by
  obtain rfl := e
  obtain rfl := Fin.ext hn
  obtain rfl := Fin.ext hd
  rfl

/-- An element of a block of one head. -/
theorem one_head {D : ℕ} (x : (⟨4, ![1, 1, 512, D]⟩ : Shape).Idx) : ∃ (r : Fin 512) (d : Fin D), x = ix4 0 0 r d :=
  ⟨x 2, x 3, funext fun a => by
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl⟩

/-- One of the two heads cut out of the block's product, normalised and rotated: the head's features. -/
theorem head_value (t : Fin cfg0.N) (gw : Vec Ideal S1x128 .f32) (g : S64.Idx → EReal) (hg : ∀ u d, @Eq EReal (gw (ix2 0 (lane u d))) (g (ix1 d)))
    (o oh : ℕ) (hs) (hh) (hoh : oh = 0 ∨ oh = 64) (col : ℕ) (hcol : col = o + oh) (hb : col + 64 ≤ 1536) (r : Fin 512) (d : Fin 64) :
    @Eq EReal (half oh (turned (View.ld (iblk m c 7 t) r0_4) (View.ld (iblk m c 8 t) r0_4) gw (View.ld (iblk m c 6 t) r0_6)
        (cut o (product (iblk m c 0 t) (iblk m c 1 t) (iblk m c 2 t) (iblk m c 3 t) (iblk m c 4 t)) hs)) hh (ix4 0 0 r d))
      (headOf m c g col hb (batch t) (token t r) d) := by
  obtain ⟨u, hu⟩ : ∃ u : Fin 2, oh = 64 * u.val := by
    rcases hoh with rfl | rfl
    · exact ⟨0, rfl⟩
    · exact ⟨1, rfl⟩
  refine (half_apply oh _ hh u hu r d).trans ?_
  refine (turned_head _ _ _ _ _ r u d (token t r).val (fun k => g (ix1 k)) (mean_block m c t) (hg u) (cos_block m c t r u d) (sin_block m c t r u d)).trans ?_
  unfold headOf headAt
  refine congrArg (fun X => rotated (token t r).val (normed X (fun k => g (ix1 k))) d) (funext fun k => ?_)
  refine (cut_apply o _ hs r (lane u k) ⟨col + k.val, by omega⟩ ?_).trans (product_block m c t r _)
  show col + k.val = o + (64 * u.val + k.val)
  omega

/-- The queries' block a grid point leaves. -/
def queryBlock (t : Fin cfg0.N) (y : S1x16x512x64.Idx) : EReal :=
  headOf m c (argGq m c) (64 * (y 1).val) (by have : (y 1).val < 16 := (y 1).isLt; omega) (batch t) (token t (y 2)) (y 3)

/-- The keys' block a grid point leaves. -/
def keyBlock (t : Fin cfg0.N) (y : S1x4x512x64.Idx) : EReal :=
  headOf m c (argGk m c) (1024 + 64 * (y 1).val) (by have : (y 1).val < 4 := (y 1).isLt; omega) (batch t) (token t (y 2)) (y 3)

/-- The values' block a grid point leaves. -/
def valueBlock (t : Fin cfg0.N) (y : S1x4x512x128.Idx) : EReal :=
  if h : (y 3).val < 64 then
    projected (argX m c) (argShift m c) (argScale m c) (argGain m c) (argW m c) (batch t) (token t (y 2))
      ⟨1280 + 64 * (y 1).val + (y 3).val, by have : (y 1).val < 4 := (y 1).isLt; omega⟩
  else 1

/-- Where the element of a stored head lies in its block. -/
theorem emb_val {H D : ℕ} (h : ℕ) (inb) (r : Fin 512) (d : Fin D) :
    ((Rect.unit (s := ⟨4, ![1, H, 512, D]⟩) ![0, h, 0, 0] ![1, 1, 512, D] inb).emb (ix4 0 0 r d) 1).val = h
    ∧ ((Rect.unit (s := ⟨4, ![1, H, 512, D]⟩) ![0, h, 0, 0] ![1, 1, 512, D] inb).emb (ix4 0 0 r d) 2).val = r.val
    ∧ ((Rect.unit (s := ⟨4, ![1, H, 512, D]⟩) ![0, h, 0, 0] ![1, 1, 512, D] inb).emb (ix4 0 0 r d) 3).val = d.val :=
  ⟨(Rect.idx_unit_val _ _ _ _ _).trans (Nat.add_zero h), (Rect.idx_unit_val _ _ _ _ _).trans (Nat.zero_add _),
    (Rect.idx_unit_val _ _ _ _ _).trans (Nat.zero_add _)⟩

/-- A stored query head. -/
theorem query_piece (t : Fin cfg0.N) (h o oh : ℕ) (hs) (hh) (inb) (hoh : oh = 0 ∨ oh = 64) (hcol : 64 * h = o + oh) (hb : 64 * h + 64 ≤ 1536) (x : S1x1x512x64.Idx) :
    @Eq EReal (half oh (turned (View.ld (iblk m c 7 t) r0_4) (View.ld (iblk m c 8 t) r0_4) (View.ld (iblk m c 5 t) r0_5) (View.ld (iblk m c 6 t) r0_6)
        (cut o (product (iblk m c 0 t) (iblk m c 1 t) (iblk m c 2 t) (iblk m c 3 t) (iblk m c 4 t)) hs)) hh x)
      (queryBlock m c t ((Rect.unit (s := S1x16x512x64) ![0, h, 0, 0] S1x1x512x64.size inb).emb x)) := by
  obtain ⟨r, d, rfl⟩ := one_head x
  obtain ⟨e1, e2, e3⟩ := emb_val h inb r d
  refine (head_value m c t _ (argGq m c) (fun u d => (heads_block m c t 0 _ _).trans (gain_entry m c d u)) o oh hs hh hoh (64 * h) hcol hb r d).trans ?_
  unfold queryBlock
  exact headOf_congr m c _ _ _ _ (congrArg (64 * ·) e1.symm) (congrArg (512 * (tile t).val + ·) e2.symm) e3.symm

/-- A stored key head. -/
theorem key_piece (t : Fin cfg0.N) (h o oh : ℕ) (hs) (hh) (inb) (hoh : oh = 0 ∨ oh = 64) (hcol : 1024 + 64 * h = o + oh) (hb : 1024 + 64 * h + 64 ≤ 1536) (x : S1x1x512x64.Idx) :
    @Eq EReal (half oh (turned (View.ld (iblk m c 7 t) r0_4) (View.ld (iblk m c 8 t) r0_4) (View.ld (iblk m c 5 t) r0_23) (View.ld (iblk m c 6 t) r0_6)
        (cut o (product (iblk m c 0 t) (iblk m c 1 t) (iblk m c 2 t) (iblk m c 3 t) (iblk m c 4 t)) hs)) hh x)
      (keyBlock m c t ((Rect.unit (s := S1x4x512x64) ![0, h, 0, 0] S1x1x512x64.size inb).emb x)) := by
  obtain ⟨r, d, rfl⟩ := one_head x
  obtain ⟨e1, e2, e3⟩ := emb_val h inb r d
  refine (head_value m c t _ (argGk m c) (fun u d => (heads_block m c t 1 _ _).trans (key_gain_entry m c d u)) o oh hs hh hoh (1024 + 64 * h) hcol hb r d).trans ?_
  unfold keyBlock
  exact headOf_congr m c _ _ _ _ (congrArg (1024 + 64 * ·) e1.symm) (congrArg (512 * (tile t).val + ·) e2.symm) e3.symm

/-- A stored value head, from the 128 lanes whose lower half it is. -/
theorem value_piece (t : Fin cfg0.N) (h : ℕ) (hb : h < 4) (w : FVec Ideal S512x128 .f32)
    (hw : ∀ (r : Fin 512) (d : Fin 64), w (ix2 r (lane 0 d))
      = product (F := Ideal) (iblk m c 0 t) (iblk m c 1 t) (iblk m c 2 t) (iblk m c 3 t) (iblk m c 4 t) (ix2 r ⟨1280 + 64 * h + d.val, by omega⟩))
    (inb) (x : S1x1x512x128.Idx) :
    @Eq EReal (withOnes w x) (valueBlock m c t ((Rect.unit (s := S1x4x512x128) ![0, h, 0, 0] S1x1x512x128.size inb).emb x)) := by
  obtain ⟨r, l, rfl⟩ := one_head x
  obtain ⟨e1, e2, e3⟩ := emb_val h inb r l
  refine (withOnes_apply w r l).trans ?_
  unfold valueBlock
  by_cases hl : l.val < 64
  · rw [if_pos hl, dif_pos (e3.trans_lt hl)]
    have hj : lane 0 ⟨l.val, hl⟩ = l := Fin.ext (by show 64 * 0 + l.val = l.val; omega)
    refine (congrArg (fun j => w (ix2 r j)) hj.symm).trans ((hw r ⟨l.val, hl⟩).trans ((product_block m c t r _).trans ?_))
    refine congrArg₂ (fun n o => projected (argX m c) (argShift m c) (argScale m c) (argGain m c) (argW m c) (batch t) n o)
      (Fin.ext (congrArg (512 * (tile t).val + ·) e2.symm)) (Fin.ext ?_)
    exact congrArg₂ (fun p q => 1280 + 64 * p + q) e1.symm e3.symm
  · rw [if_neg hl, dif_neg fun h' => hl (e3.symm.trans_lt h')]

/-- What the body leaves in the queries' block. -/
theorem query_block (t : Fin cfg0.N) (y : S1x16x512x64.Idx) :
    @Eq EReal (out0_9 (iblk m c 0 t) (iblk m c 1 t) (iblk m c 2 t) (iblk m c 3 t) (iblk m c 4 t) (iblk m c 5 t) (iblk m c 6 t) (iblk m c 7 t) (iblk m c 8 t) y)
      (queryBlock m c t y) := by
  rw [out_queries]
  refine View.canon_apply_of_pieces (Val := Elt Ideal) (e := .bf16) (queryBlock m c t) _ (fun p hp => ?_) y (cover0_9 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  all_goals exact query_piece m c t _ _ _ _ (by decide) (by decide) (by decide) (by norm_num) (by norm_num)

/-- What the body leaves in the keys' block. -/
theorem key_block (t : Fin cfg0.N) (y : S1x4x512x64.Idx) :
    @Eq EReal (out0_10 (iblk m c 0 t) (iblk m c 1 t) (iblk m c 2 t) (iblk m c 3 t) (iblk m c 4 t) (iblk m c 5 t) (iblk m c 6 t) (iblk m c 7 t) (iblk m c 8 t) y)
      (keyBlock m c t y) := by
  rw [out_keys]
  refine View.canon_apply_of_pieces (Val := Elt Ideal) (e := .bf16) (keyBlock m c t) _ (fun p hp => ?_) y (cover0_10 _ _ _ _ y)
  simp only [List.mem_cons, List.not_mem_nil, or_false] at hp
  rcases hp with rfl | rfl | rfl | rfl
  all_goals exact key_piece m c t _ _ _ _ (by decide) (by decide) (by decide) (by norm_num) (by norm_num)

/-- What the body leaves in the values' block. -/
theorem value_block (t : Fin cfg0.N) (y : S1x4x512x128.Idx) :
    @Eq EReal (out0_11 (iblk m c 0 t) (iblk m c 1 t) (iblk m c 2 t) (iblk m c 3 t) (iblk m c 4 t) (iblk m c 5 t) (iblk m c 6 t) (iblk m c 7 t) (iblk m c 8 t) y)
      (valueBlock m c t y) := by
  rw [out_values]
  refine View.canon_apply_of_pieces (Val := Elt Ideal) (e := .bf16) (valueBlock m c t) _ (fun p hp => ?_) y (cover0_11 _ _ _ _ y)
  simp only [List.mem_cons, List.not_mem_nil, or_false] at hp
  rcases hp with rfl | rfl | rfl | rfl
  · exact value_piece m c t 3 (by norm_num) _ (fun r d => (swapHalves_apply _ r d).trans (cut_apply 1408 _ _ r (lane 1 d) _ (by
      show 1280 + 64 * 3 + d.val = 1408 + (64 * 1 + d.val); omega))) (by decide)
  · exact value_piece m c t 2 (by norm_num) _ (fun r d => cut_apply 1408 _ _ r (lane 0 d) _ (by
      show 1280 + 64 * 2 + d.val = 1408 + (64 * 0 + d.val); omega)) (by decide)
  · exact value_piece m c t 1 (by norm_num) _ (fun r d => (swapHalves_apply _ r d).trans (cut_apply 1280 _ _ r (lane 1 d) _ (by
      show 1280 + 64 * 1 + d.val = 1280 + (64 * 1 + d.val); omega))) (by decide)
  · exact value_piece m c t 0 (by norm_num) _ (fun r d => cut_apply 1280 _ _ r (lane 0 d) _ (by
      show 1280 + 64 * 0 + d.val = 1280 + (64 * 0 + d.val); omega)) (by decide)

/-- After the run the first result holds the queries. -/
theorem final_queries : (dats m 0 c).arrAt 9 cfg0.N
    = queriesOf (argX m c) (argShift m c) (argScale m c) (argGain m c) (argW m c) (argGq m c) := by
  refine (dats m 0 c).arrAt_eq_of_covers 9 _ (by decide +kernel) fun t hf y => ?_
  blk_simp
  rw [after0_9]
  refine (query_block m c t y).trans ?_
  have y0 : (y 0).val < 1 := (y 0).isLt
  have e0 : (((cfg0.win 9).blk t).view.emb y 0).val = (batch t).val := by
    blk_simp [index_eq t]
    rfl
  have e1 : (((cfg0.win 9).blk t).view.emb y 1).val = (y 1).val := by
    blk_simp [index_eq t]
  have e2 : (((cfg0.win 9).blk t).view.emb y 2).val = 512 * (tile t).val + (y 2).val := by
    blk_simp [index_eq t]
    show (tile t).val * 512 + (y 2).val = 512 * (tile t).val + (y 2).val
    omega
  have e3 : (((cfg0.win 9).blk t).view.emb y 3).val = (y 3).val := by
    blk_simp [index_eq t]
  unfold queryBlock queriesOf
  rw [show ((cfg0.win 9).blk t).view.emb y 0 = batch t from Fin.ext e0]
  exact headOf_congr m c _ _ _ _ (congrArg (64 * ·) e1.symm) e2.symm e3.symm

/-- After the run the second result holds the keys. -/
theorem final_keys : (dats m 0 c).arrAt 10 cfg0.N
    = keysOf (argX m c) (argShift m c) (argScale m c) (argGain m c) (argW m c) (argGk m c) := by
  refine (dats m 0 c).arrAt_eq_of_covers 10 _ (by decide +kernel) fun t hf y => ?_
  blk_simp
  rw [after0_10]
  refine (key_block m c t y).trans ?_
  have y0 : (y 0).val < 1 := (y 0).isLt
  have e0 : (((cfg0.win 10).blk t).view.emb y 0).val = (batch t).val := by
    blk_simp [index_eq t]
    rfl
  have e1 : (((cfg0.win 10).blk t).view.emb y 1).val = (y 1).val := by
    blk_simp [index_eq t]
  have e2 : (((cfg0.win 10).blk t).view.emb y 2).val = 512 * (tile t).val + (y 2).val := by
    blk_simp [index_eq t]
    show (tile t).val * 512 + (y 2).val = 512 * (tile t).val + (y 2).val
    omega
  have e3 : (((cfg0.win 10).blk t).view.emb y 3).val = (y 3).val := by
    blk_simp [index_eq t]
  unfold keyBlock keysOf
  rw [show ((cfg0.win 10).blk t).view.emb y 0 = batch t from Fin.ext e0]
  exact headOf_congr m c _ _ _ _ (congrArg (1024 + 64 * ·) e1.symm) e2.symm e3.symm

/-- After the run the third result holds the values. -/
theorem final_values : (dats m 0 c).arrAt 11 cfg0.N
    = valuesOf (argX m c) (argShift m c) (argScale m c) (argGain m c) (argW m c) := by
  refine (dats m 0 c).arrAt_eq_of_covers 11 _ (by decide +kernel) fun t hf y => ?_
  blk_simp
  rw [after0_11]
  refine (value_block m c t y).trans ?_
  have y0 : (y 0).val < 1 := (y 0).isLt
  have e0 : (((cfg0.win 11).blk t).view.emb y 0).val = (batch t).val := by
    blk_simp [index_eq t]
    rfl
  have e1 : (((cfg0.win 11).blk t).view.emb y 1).val = (y 1).val := by
    blk_simp [index_eq t]
  have e2 : (((cfg0.win 11).blk t).view.emb y 2).val = 512 * (tile t).val + (y 2).val := by
    blk_simp [index_eq t]
    show (tile t).val * 512 + (y 2).val = 512 * (tile t).val + (y 2).val
    omega
  have e3 : (((cfg0.win 11).blk t).view.emb y 3).val = (y 3).val := by
    blk_simp [index_eq t]
  unfold valueBlock valuesOf
  rw [show ((cfg0.win 11).blk t).view.emb y 0 = batch t from Fin.ext e0]
  by_cases hl : (y 3).val < 64
  · rw [dif_pos hl, dif_pos (e3.trans_lt hl)]
    exact congrArg₂ (fun n o => projected (argX m c) (argShift m c) (argScale m c) (argGain m c) (argW m c) (batch t) n o)
      (Fin.ext e2.symm) (Fin.ext (congrArg₂ (fun p q => 1280 + 64 * p + q) e1.symm e3.symm))
  · rw [dif_neg hl, dif_neg fun h => hl (e3.symm.trans_lt h)]

end Cert.Proj

end
-- ==== Proof.QkvParts.lean ====
module

public import proofs.«01_k».proof.Proof.QkvSpec
public import proofs.«01_k».proof.Proof.QkvBody
public import proofs.«01_k».proof.Proof.Gen.QkvRefIdeal.Read

/-! # What the projection's reference computes, up to the rotation

The reference's modulated tokens, its projection, its normalised heads and its angles are those `QkvSpec` states. -/

@[expose] public section

set_option maxRecDepth 16384

noncomputable section

namespace Cert.Proj

open Cert.QkvRefIdeal Cert.QkvRefIdeal.Gen Cert.QkvRefIdeal.Read
open Idealize.ShloMosaic
open Idealize.ShloMosaic.TcCoe Idealize.ShloMosaic.ValueIdx Idealize.SL.Sem

/-- The bits of 64. -/
theorem sixtyfour_bits : Ideal.ofBits .f32 0x42800000#32 = ((64 : ℝ) : EReal) := by
  simp [Ideal.ofBits, Ideal.ieee, -EReal.coe_mul]
  norm_num

variable (x0 : FVec Ideal S8x4096x1024 .f32) (x1 x2 : FVec Ideal S8x1x1024 .f32) (x3 : FVec Ideal S1024 .f32)
  (x4 : FVec Ideal S1024x1536 .f32) (x5 x6 : FVec Ideal S64 .f32)

/-- The reference's root mean square's reciprocal. -/
theorem ref_root (b : Fin 8) (n : Fin 4096) :
    @Eq EReal (val_main_v7 (F := Ideal) x0 (ix3 b n 0))
      (Ideal.rsqrt (Ideal.div (∑ k, x0 (ix3 b n k) * x0 (ix3 b n k)) (Ideal.ofBits .f32 0x44800000#32) + eps)) := by
  have hs : @Eq EReal (val_main_v2 (F := Ideal) x0 (ix3 b n 0)) (∑ k, x0 (ix3 b n k) * x0 (ix3 b n k)) := by
    rw [val_main_v2_apply, val_main_v1_apply]
    have hz : val_main_cst (F := Ideal) (Shape.Idx.first h_S_) = (0 : EReal) := Ideal.ofBits_zero_f32
    rw [hz]
    refine (zero_add _).trans (Finset.sum_congr rfl fun k _ => ?_)
    refine congrArg (fun i => (x0 i * x0 i : EReal)) (?_ : _ = ix3 b n k)
    exact funext fun a => Fin.ext (by match a with | ⟨0, _⟩ => rfl | ⟨1, _⟩ => rfl | ⟨2, _⟩ => rfl)
  have hd : @Eq EReal (val_main_v3 (F := Ideal) (ix3 b n 0)) (Ideal.ofBits .f32 0x44800000#32) := by
    rw [val_main_v3_apply]
    rfl
  have he : @Eq EReal (val_main_v5 (F := Ideal) (ix3 b n 0)) eps := by
    rw [val_main_v5_apply]
    rfl
  rw [val_main_v7_apply, val_main_v6_apply, val_main_v4_apply]
  exact congrArg Ideal.rsqrt (congrArg₂ (fun u v : EReal => u + v) (congrArg₂ Ideal.div hs hd) he)

/-- The reference's modulated tokens. -/
theorem ref_modulated (b : Fin 8) (n : Fin 4096) (l : Fin 1024) :
    @Eq EReal (val_main_v18 (F := Ideal) x0 x1 x2 x3 (ix3 b n l)) (modulated x0 x1 x2 x3 b n l) := by
  rw [val_main_v18_apply, val_main_v16_apply, val_main_v12_apply, val_main_v9_apply, val_main_v8_apply, val_main_v11_apply, val_main_v10_apply,
    val_main_v15_apply, val_main_v14_apply, val_main_v13_apply, val_main_v17_apply]
  unfold modulated
  refine congrArg₂ (fun u v : EReal => u + v) (congrArg₂ (fun u v : EReal => u * v) (congrArg₂ (fun u v : EReal => u * v)
    (congrArg (fun v : EReal => x0 (ix3 b n l) * v) ?_) ?_) (congrArg₂ (fun u v : EReal => u + v) ?_ ?_)) ?_
  · refine (congrArg (val_main_v7 (F := Ideal) x0) (?_ : _ = ix3 b n 0)).trans (ref_root x0 b n)
    exact funext fun a => Fin.ext (by match a with | ⟨0, _⟩ => rfl | ⟨1, _⟩ => rfl | ⟨2, _⟩ => rfl)
  · exact congrArg x3 (funext fun a => Fin.ext (by match a with | ⟨0, _⟩ => rfl))
  · exact one_bits
  · exact congrArg x2 (funext fun a => Fin.ext (by match a with | ⟨0, _⟩ => rfl | ⟨1, _⟩ => rfl | ⟨2, _⟩ => rfl))
  · exact congrArg x1 (funext fun a => Fin.ext (by match a with | ⟨0, _⟩ => rfl | ⟨1, _⟩ => rfl | ⟨2, _⟩ => rfl))

/-- The reference's projection. -/
theorem ref_projected (b : Fin 8) (n : Fin 4096) (o : Fin 1536) :
    @Eq EReal (val_main_v19 (F := Ideal) x0 x1 x2 x3 x4 (ix3 b n o)) (projected x0 x1 x2 x3 x4 b n o) := by
  rw [val_main_v19_apply]
  unfold projected
  refine Finset.sum_congr rfl fun k _ => congrArg₂ (fun u v : EReal => u * v) ?_ ?_
  · refine (congrArg (val_main_v18 (F := Ideal) x0 x1 x2 x3) (?_ : _ = ix3 b n k)).trans (ref_modulated x0 x1 x2 x3 b n k)
    exact funext fun a => Fin.ext (by match a with | ⟨0, _⟩ => rfl | ⟨1, _⟩ => rfl | ⟨2, _⟩ => rfl)
  · exact congrArg x4 (funext fun a => Fin.ext (by match a with | ⟨0, _⟩ => rfl | ⟨1, _⟩ => rfl))

/-- A query head's features before the normalisation. -/
theorem ref_query (b : Fin 8) (n : Fin 4096) (h g : Fin 4) (d : Fin 64) :
    @Eq EReal (val_main_v21 (F := Ideal) x0 x1 x2 x3 x4 (ix5 b n h g d))
      (projected x0 x1 x2 x3 x4 b n ⟨64 * (4 * h.val + g.val) + d.val, by omega⟩) := by
  rw [val_main_v21_apply, val_main_v20_apply]
  refine (congrArg (val_main_v19 (F := Ideal) x0 x1 x2 x3 x4) (?_ : _ = ix3 b n ⟨64 * (4 * h.val + g.val) + d.val, by omega⟩)).trans
    (ref_projected x0 x1 x2 x3 x4 b n _)
  refine funext fun a => Fin.ext ?_
  match a with
  | ⟨0, _⟩ => show ((((b.val * 4096 + n.val) * 4 + h.val) * 4 + g.val) * 64 + d.val) / 4194304 = b.val; omega
  | ⟨1, _⟩ => show ((((b.val * 4096 + n.val) * 4 + h.val) * 4 + g.val) * 64 + d.val) / 1024 % 4096 = n.val; omega
  | ⟨2, _⟩ => show ((((b.val * 4096 + n.val) * 4 + h.val) * 4 + g.val) * 64 + d.val) % 1024 = 64 * (4 * h.val + g.val) + d.val; omega

/-- Where four heads of 64 features lie in a row of 256. -/
theorem place256 (b : Fin 8) (n : Fin 4096) (h : Fin 4) (d : Fin 64) :
    (((b.val * 4096 + n.val) * 4 + h.val) * 64 + d.val) / 1048576 = b.val
    ∧ (((b.val * 4096 + n.val) * 4 + h.val) * 64 + d.val) / 256 % 4096 = n.val
    ∧ (((b.val * 4096 + n.val) * 4 + h.val) * 64 + d.val) % 256 = 64 * h.val + d.val := by omega

/-- A key head's features before the normalisation. -/
theorem ref_key (b : Fin 8) (n : Fin 4096) (h : Fin 4) (d : Fin 64) :
    @Eq EReal (val_main_v37 (F := Ideal) x0 x1 x2 x3 x4 (ix4 b n h d))
      (projected x0 x1 x2 x3 x4 b n ⟨1024 + 64 * h.val + d.val, by omega⟩) := by
  obtain ⟨p0, p1, p2⟩ := place256 b n h d
  rw [val_main_v37_apply, val_main_v36_apply, val_main_v35_apply]
  refine (congrArg (val_main_v19 (F := Ideal) x0 x1 x2 x3 x4) (?_ : _ = ix3 b n ⟨1024 + 64 * h.val + d.val, by omega⟩)).trans
    (ref_projected x0 x1 x2 x3 x4 b n _)
  refine funext fun a => Fin.ext ?_
  match a with
  | ⟨0, _⟩ => exact p0
  | ⟨1, _⟩ => exact p1
  | ⟨2, _⟩ => show 1024 + (((b.val * 4096 + n.val) * 4 + h.val) * 64 + d.val) % 256 = 1024 + 64 * h.val + d.val; omega

/-- A value head's features. -/
theorem ref_value (b : Fin 8) (n : Fin 4096) (h : Fin 4) (d : Fin 64) :
    @Eq EReal (val_main_v52 (F := Ideal) x0 x1 x2 x3 x4 (ix4 b n h d))
      (projected x0 x1 x2 x3 x4 b n ⟨1280 + 64 * h.val + d.val, by omega⟩) := by
  obtain ⟨p0, p1, p2⟩ := place256 b n h d
  rw [val_main_v52_apply, val_main_v51_apply, val_main_v35_apply]
  refine (congrArg (val_main_v19 (F := Ideal) x0 x1 x2 x3 x4) (?_ : _ = ix3 b n ⟨1280 + 64 * h.val + d.val, by omega⟩)).trans
    (ref_projected x0 x1 x2 x3 x4 b n _)
  refine funext fun a => Fin.ext ?_
  match a with
  | ⟨0, _⟩ => exact p0
  | ⟨1, _⟩ => exact p1
  | ⟨2, _⟩ => show 1024 + (256 + (((b.val * 4096 + n.val) * 4 + h.val) * 64 + d.val) % 256) = 1280 + 64 * h.val + d.val; omega

/-- A query head normalised. -/
theorem ref_query_normed (b : Fin 8) (n : Fin 4096) (h g : Fin 4) (d : Fin 64) :
    @Eq EReal (val_main_v34 (F := Ideal) x0 x1 x2 x3 x4 x5 (ix5 b n h g d))
      (normed (fun k => projected x0 x1 x2 x3 x4 b n ⟨64 * (4 * h.val + g.val) + k.val, by omega⟩) (fun k => x5 (ix1 k)) d) := by
  have hs : @Eq EReal (val_main_v24 (F := Ideal) x0 x1 x2 x3 x4 (ix5 b n h g 0))
      (∑ k : Fin 64, projected x0 x1 x2 x3 x4 b n ⟨64 * (4 * h.val + g.val) + k.val, by omega⟩
        * projected x0 x1 x2 x3 x4 b n ⟨64 * (4 * h.val + g.val) + k.val, by omega⟩) := by
    rw [val_main_v24_apply, val_main_v23_apply]
    have hz : val_main_cst_3 (F := Ideal) (Shape.Idx.first h_S_) = (0 : EReal) := Ideal.ofBits_zero_f32
    rw [hz]
    refine (zero_add _).trans (Finset.sum_congr rfl fun k _ => ?_)
    rw [← ref_query]
    refine congrArg (fun i => (val_main_v21 (F := Ideal) x0 x1 x2 x3 x4 i * val_main_v21 (F := Ideal) x0 x1 x2 x3 x4 i : EReal)) (?_ : _ = ix5 b n h g k)
    exact funext fun a => Fin.ext (by match a with | ⟨0, _⟩ => rfl | ⟨1, _⟩ => rfl | ⟨2, _⟩ => rfl | ⟨3, _⟩ => rfl | ⟨4, _⟩ => rfl)
  have hd : @Eq EReal (val_main_v25 (F := Ideal) (ix5 b n h g 0)) ((64 : ℝ) : EReal) := by
    rw [val_main_v25_apply]
    exact sixtyfour_bits
  have he : @Eq EReal (val_main_v27 (F := Ideal) (ix5 b n h g 0)) eps := by
    rw [val_main_v27_apply]
    rfl
  rw [val_main_v34_apply, val_main_v31_apply, val_main_v30_apply, val_main_v33_apply, val_main_v32_apply]
  unfold normed
  refine congrArg₂ (fun u v : EReal => u * v) (congrArg₂ (fun u v : EReal => u * v) (ref_query x0 x1 x2 x3 x4 b n h g d) ?_) ?_
  · refine (congrArg (val_main_v29 (F := Ideal) x0 x1 x2 x3 x4) (?_ : _ = ix5 b n h g 0)).trans ?_
    · exact funext fun a => Fin.ext (by match a with | ⟨0, _⟩ => rfl | ⟨1, _⟩ => rfl | ⟨2, _⟩ => rfl | ⟨3, _⟩ => rfl | ⟨4, _⟩ => rfl)
    · rw [val_main_v29_apply, val_main_v28_apply, val_main_v26_apply]
      exact congrArg Ideal.rsqrt (congrArg₂ (fun u v : EReal => u + v) (congrArg₂ Ideal.div hs hd) he)
  · exact congrArg x5 (funext fun a => Fin.ext (by match a with | ⟨0, _⟩ => rfl))

/-- A key head normalised. -/
theorem ref_key_normed (b : Fin 8) (n : Fin 4096) (h : Fin 4) (d : Fin 64) :
    @Eq EReal (val_main_v50 (F := Ideal) x0 x1 x2 x3 x4 x6 (ix4 b n h d))
      (normed (fun k => projected x0 x1 x2 x3 x4 b n ⟨1024 + 64 * h.val + k.val, by omega⟩) (fun k => x6 (ix1 k)) d) := by
  have hs : @Eq EReal (val_main_v40 (F := Ideal) x0 x1 x2 x3 x4 (ix4 b n h 0))
      (∑ k : Fin 64, projected x0 x1 x2 x3 x4 b n ⟨1024 + 64 * h.val + k.val, by omega⟩
        * projected x0 x1 x2 x3 x4 b n ⟨1024 + 64 * h.val + k.val, by omega⟩) := by
    rw [val_main_v40_apply, val_main_v39_apply]
    have hz : val_main_cst_6 (F := Ideal) (Shape.Idx.first h_S_) = (0 : EReal) := Ideal.ofBits_zero_f32
    rw [hz]
    refine (zero_add _).trans (Finset.sum_congr rfl fun k _ => ?_)
    rw [← ref_key]
    refine congrArg (fun i => (val_main_v37 (F := Ideal) x0 x1 x2 x3 x4 i * val_main_v37 (F := Ideal) x0 x1 x2 x3 x4 i : EReal)) (?_ : _ = ix4 b n h k)
    exact funext fun a => Fin.ext (by match a with | ⟨0, _⟩ => rfl | ⟨1, _⟩ => rfl | ⟨2, _⟩ => rfl | ⟨3, _⟩ => rfl)
  have hd : @Eq EReal (val_main_v41 (F := Ideal) (ix4 b n h 0)) ((64 : ℝ) : EReal) := by
    rw [val_main_v41_apply]
    exact sixtyfour_bits
  have he : @Eq EReal (val_main_v43 (F := Ideal) (ix4 b n h 0)) eps := by
    rw [val_main_v43_apply]
    rfl
  rw [val_main_v50_apply, val_main_v47_apply, val_main_v46_apply, val_main_v49_apply, val_main_v48_apply]
  unfold normed
  refine congrArg₂ (fun u v : EReal => u * v) (congrArg₂ (fun u v : EReal => u * v) (ref_key x0 x1 x2 x3 x4 b n h d) ?_) ?_
  · refine (congrArg (val_main_v45 (F := Ideal) x0 x1 x2 x3 x4) (?_ : _ = ix4 b n h 0)).trans ?_
    · exact funext fun a => Fin.ext (by match a with | ⟨0, _⟩ => rfl | ⟨1, _⟩ => rfl | ⟨2, _⟩ => rfl | ⟨3, _⟩ => rfl)
    · rw [val_main_v45_apply, val_main_v44_apply, val_main_v42_apply]
      exact congrArg Ideal.rsqrt (congrArg₂ (fun u v : EReal => u + v) (congrArg₂ Ideal.div hs hd) he)
  · exact congrArg x6 (funext fun a => Fin.ext (by match a with | ⟨0, _⟩ => rfl))

/-- The reference's frequencies. -/
theorem ref_freq (f : Fin 16) : @Eq EReal (val_main_v58 (F := Ideal) (ix1 f)) (freq f.val) := by
  rw [val_main_v58_apply, val_main_v57_apply, val_main_v56_apply, val_main_v55_apply, val_main_v54_apply]
  rfl

/-- The reference's angles at a row; -/
theorem ref_row_angle (p : Fin 64) (f : Fin 16) : @Eq EReal (val_main_v64 (F := Ideal) (ix2 p f)) (angle p.val f.val) := by
  rw [val_main_v64_apply, val_main_v62_apply, val_main_v60_apply, val_main_v63_apply, val_main_v61_apply]
  unfold angle
  refine congrArg₂ (fun u v : EReal => u * v) rfl ((congrArg (val_main_v58 (F := Ideal)) (?_ : _ = ix1 f)).trans (ref_freq f))
  exact funext fun a => Fin.ext (by match a with | ⟨0, _⟩ => rfl)

/-- at a column. -/
theorem ref_col_angle (p : Fin 64) (f : Fin 16) : @Eq EReal (val_main_v70 (F := Ideal) (ix2 p f)) (angle p.val f.val) := by
  rw [val_main_v70_apply, val_main_v68_apply, val_main_v66_apply, val_main_v69_apply, val_main_v67_apply]
  unfold angle
  refine congrArg₂ (fun u v : EReal => u * v) rfl ((congrArg (val_main_v58 (F := Ideal)) (?_ : _ = ix1 f)).trans (ref_freq f))
  exact funext fun a => Fin.ext (by match a with | ⟨0, _⟩ => rfl)

/-- A token's angles: from its row, -/
theorem ref_row (n : Fin 4096) (f : Fin 16) : @Eq EReal (val_main_v73 (F := Ideal) (ix2 n f)) (angle (n.val / 64) f.val) := by
  rw [val_main_v73_apply, val_main_v72_apply, val_main_v71_apply]
  refine (congrArg (val_main_v64 (F := Ideal)) (?_ : _ = ix2 ⟨n.val / 64, by omega⟩ f)).trans (ref_row_angle _ f)
  refine funext fun a => Fin.ext ?_
  match a with
  | ⟨0, _⟩ => show (n.val * 16 + f.val) / 1024 = n.val / 64; omega
  | ⟨1, _⟩ => show (n.val * 16 + f.val) % 16 = f.val; omega

/-- from its column. -/
theorem ref_col (n : Fin 4096) (f : Fin 16) : @Eq EReal (val_main_v76 (F := Ideal) (ix2 n f)) (angle (n.val % 64) f.val) := by
  rw [val_main_v76_apply, val_main_v75_apply, val_main_v74_apply]
  refine (congrArg (val_main_v70 (F := Ideal)) (?_ : _ = ix2 ⟨n.val % 64, by omega⟩ f)).trans (ref_col_angle _ f)
  refine funext fun a => Fin.ext ?_
  match a with
  | ⟨0, _⟩ => show (n.val * 16 + f.val) / 16 % 64 = n.val % 64; omega
  | ⟨1, _⟩ => show (n.val * 16 + f.val) % 16 = f.val; omega

end Cert.Proj

end
-- ==== Proof.QkvTurn.lean ====
module

public import proofs.«01_k».proof.Proof.QkvParts

/-! # The rotation in the projection's reference

A quarter of a head's features at a time: the reference's products with the cosines and sines are the head rotated. -/

@[expose] public section

set_option maxRecDepth 16384

noncomputable section

namespace Cert.Proj

open Cert.QkvRefIdeal Cert.QkvRefIdeal.Gen Cert.QkvRefIdeal.Read
open Idealize.ShloMosaic
open Idealize.ShloMosaic.TcCoe Idealize.ShloMosaic.ValueIdx Idealize.SL.Sem

/-- A rotated feature of the first sixteen of a half. -/
theorem rotated_first {n : ℕ} {Y : Fin 64 → EReal} {d p : Fin 64} {y z c s a : EReal} (hd : d.val % 32 < 16) (hp : p.val = d.val + 16)
    (ht : turn n d.val = a) (hy : y = Y d) (hz : z = Y p) (hc : c = Ideal.cos a) (hs : s = Ideal.sin a) :
    y * c - z * s = rotated n Y d := by
  have e : partner d = p := by unfold partner; rw [dif_pos hd]; exact Fin.ext hp.symm
  unfold rotated
  rw [if_pos hd, e, ht, hy, hz, hc, hs]

/-- A rotated feature of the last sixteen of a half. -/
theorem rotated_second {n : ℕ} {Y : Fin 64 → EReal} {d p : Fin 64} {y z c s a : EReal} (hd : 16 ≤ d.val % 32) (hp : p.val + 16 = d.val)
    (ht : turn n d.val = a) (hy : y = Y d) (hz : z = Y p) (hc : c = Ideal.cos a) (hs : s = Ideal.sin a) :
    y * c + z * s = rotated n Y d := by
  have hd' : ¬ d.val % 32 < 16 := by omega
  have e : partner d = p := by unfold partner; rw [dif_neg hd']; exact Fin.ext (by show d.val - 16 = p.val; omega)
  unfold rotated
  rw [if_neg hd', e, ht, hy, hz, hc, hs]

/-- The first half of a head turns by the row, -/
theorem turn_row (n : ℕ) {d f : ℕ} (hd : d < 32) (hf : d % 16 = f) : turn n d = angle (n / 64) f := by
  unfold turn
  rw [if_pos hd, hf]

/-- the second by the column. -/
theorem turn_col (n : ℕ) {d f : ℕ} (hd : 32 ≤ d) (hf : d % 16 = f) : turn n d = angle (n % 64) f := by
  unfold turn
  rw [if_neg (by omega), hf]

/-- The tables of cosines and sines, laid out for the queries: cosine of the row, -/
theorem tab5_cos_row (n : Fin 4096) (f : Fin 16) : @Eq EReal (val_main_v82 (F := Ideal) (ix4 n 0 0 f)) (Ideal.cos (angle (n.val / 64) f.val)) := by
  rw [val_main_v82_apply, val_main_v77_apply]
  refine congrArg Ideal.cos ((congrArg (val_main_v73 (F := Ideal)) (?_ : _ = ix2 n f)).trans (ref_row n f))
  refine funext fun a => Fin.ext ?_
  match a with
  | ⟨0, _⟩ => show (((n.val * 1 + 0) * 1 + 0) * 16 + f.val) / 16 = n.val; omega
  | ⟨1, _⟩ => show (((n.val * 1 + 0) * 1 + 0) * 16 + f.val) % 16 = f.val; omega

/-- sine of the row, -/
theorem tab5_sin_row (n : Fin 4096) (f : Fin 16) : @Eq EReal (val_main_v83 (F := Ideal) (ix4 n 0 0 f)) (Ideal.sin (angle (n.val / 64) f.val)) := by
  rw [val_main_v83_apply, val_main_v78_apply]
  refine congrArg Ideal.sin ((congrArg (val_main_v73 (F := Ideal)) (?_ : _ = ix2 n f)).trans (ref_row n f))
  refine funext fun a => Fin.ext ?_
  match a with
  | ⟨0, _⟩ => show (((n.val * 1 + 0) * 1 + 0) * 16 + f.val) / 16 = n.val; omega
  | ⟨1, _⟩ => show (((n.val * 1 + 0) * 1 + 0) * 16 + f.val) % 16 = f.val; omega

/-- cosine of the column, -/
theorem tab5_cos_col (n : Fin 4096) (f : Fin 16) : @Eq EReal (val_main_v102 (F := Ideal) (ix4 n 0 0 f)) (Ideal.cos (angle (n.val % 64) f.val)) := by
  rw [val_main_v102_apply, val_main_v79_apply]
  refine congrArg Ideal.cos ((congrArg (val_main_v76 (F := Ideal)) (?_ : _ = ix2 n f)).trans (ref_col n f))
  refine funext fun a => Fin.ext ?_
  match a with
  | ⟨0, _⟩ => show (((n.val * 1 + 0) * 1 + 0) * 16 + f.val) / 16 = n.val; omega
  | ⟨1, _⟩ => show (((n.val * 1 + 0) * 1 + 0) * 16 + f.val) % 16 = f.val; omega

/-- sine of the column. -/
theorem tab5_sin_col (n : Fin 4096) (f : Fin 16) : @Eq EReal (val_main_v103 (F := Ideal) (ix4 n 0 0 f)) (Ideal.sin (angle (n.val % 64) f.val)) := by
  rw [val_main_v103_apply, val_main_v80_apply]
  refine congrArg Ideal.sin ((congrArg (val_main_v76 (F := Ideal)) (?_ : _ = ix2 n f)).trans (ref_col n f))
  refine funext fun a => Fin.ext ?_
  match a with
  | ⟨0, _⟩ => show (((n.val * 1 + 0) * 1 + 0) * 16 + f.val) / 16 = n.val; omega
  | ⟨1, _⟩ => show (((n.val * 1 + 0) * 1 + 0) * 16 + f.val) % 16 = f.val; omega

/-- The keys' tables hold the queries'. -/
theorem tables (n : Fin 4096) (f : Fin 16) :
    val_main_v124 (F := Ideal) (ix3 n 0 f) = val_main_v82 (F := Ideal) (ix4 n 0 0 f)
    ∧ val_main_v125 (F := Ideal) (ix3 n 0 f) = val_main_v83 (F := Ideal) (ix4 n 0 0 f)
    ∧ val_main_v144 (F := Ideal) (ix3 n 0 f) = val_main_v102 (F := Ideal) (ix4 n 0 0 f)
    ∧ val_main_v145 (F := Ideal) (ix3 n 0 f) = val_main_v103 (F := Ideal) (ix4 n 0 0 f) := by
  have e : idx_main_v124 (ix3 n 0 f) = idx_main_v82 (ix4 n 0 0 f) :=
    funext fun a => Fin.ext (by
      match a with
      | ⟨0, _⟩ => show ((n.val * 1 + 0) * 16 + f.val) / 16 = (((n.val * 1 + 0) * 1 + 0) * 16 + f.val) / 16; omega
      | ⟨1, _⟩ => show ((n.val * 1 + 0) * 16 + f.val) % 16 = (((n.val * 1 + 0) * 1 + 0) * 16 + f.val) % 16; omega)
  rw [val_main_v124_apply, val_main_v125_apply, val_main_v144_apply, val_main_v145_apply, val_main_v82_apply, val_main_v83_apply,
    val_main_v102_apply, val_main_v103_apply]
  exact ⟨congrArg _ e, congrArg _ e, congrArg _ e, congrArg _ e⟩

variable (x0 : FVec Ideal S8x4096x1024 .f32) (x1 x2 : FVec Ideal S8x1x1024 .f32) (x3 : FVec Ideal S1024 .f32)
  (x4 : FVec Ideal S1024x1536 .f32) (x5 x6 : FVec Ideal S64 .f32)

/-- A normalised query head's features. -/
def queryHead (b : Fin 8) (n : Fin 4096) (h g : Fin 4) (d : Fin 64) : EReal := val_main_v34 (F := Ideal) x0 x1 x2 x3 x4 x5 (ix5 b n h g d)

/-- A normalised key head's features. -/
def keyHead (b : Fin 8) (n : Fin 4096) (h : Fin 4) (d : Fin 64) : EReal := val_main_v50 (F := Ideal) x0 x1 x2 x3 x4 x6 (ix4 b n h d)

/-- The four quarters of a query head's features. -/
theorem query_quarters (b : Fin 8) (n : Fin 4096) (h g : Fin 4) (f : Fin 16) :
    @Eq EReal (val_main_v84 (F := Ideal) x0 x1 x2 x3 x4 x5 (ix5 b n h g f)) (queryHead x0 x1 x2 x3 x4 x5 b n h g ⟨f.val, by omega⟩)
    ∧ @Eq EReal (val_main_v85 (F := Ideal) x0 x1 x2 x3 x4 x5 (ix5 b n h g f)) (queryHead x0 x1 x2 x3 x4 x5 b n h g ⟨16 + f.val, by omega⟩)
    ∧ @Eq EReal (val_main_v104 (F := Ideal) x0 x1 x2 x3 x4 x5 (ix5 b n h g f)) (queryHead x0 x1 x2 x3 x4 x5 b n h g ⟨32 + f.val, by omega⟩)
    ∧ @Eq EReal (val_main_v105 (F := Ideal) x0 x1 x2 x3 x4 x5 (ix5 b n h g f)) (queryHead x0 x1 x2 x3 x4 x5 b n h g ⟨32 + (16 + f.val), by omega⟩) := by
  rw [val_main_v84_apply, val_main_v85_apply, val_main_v104_apply, val_main_v105_apply, val_main_v81_apply, val_main_v81_apply,
    val_main_v101_apply, val_main_v101_apply]
  refine ⟨congrArg (val_main_v34 (F := Ideal) x0 x1 x2 x3 x4 x5) ?_, congrArg (val_main_v34 (F := Ideal) x0 x1 x2 x3 x4 x5) ?_,
    congrArg (val_main_v34 (F := Ideal) x0 x1 x2 x3 x4 x5) ?_, congrArg (val_main_v34 (F := Ideal) x0 x1 x2 x3 x4 x5) ?_⟩ <;>
  exact funext fun a => Fin.ext (by match a with | ⟨0, _⟩ => rfl | ⟨1, _⟩ => rfl | ⟨2, _⟩ => rfl | ⟨3, _⟩ => rfl | ⟨4, _⟩ => rfl)

/-- The four quarters of a key head's features. -/
theorem key_quarters (b : Fin 8) (n : Fin 4096) (h : Fin 4) (f : Fin 16) :
    @Eq EReal (val_main_v126 (F := Ideal) x0 x1 x2 x3 x4 x6 (ix4 b n h f)) (keyHead x0 x1 x2 x3 x4 x6 b n h ⟨f.val, by omega⟩)
    ∧ @Eq EReal (val_main_v127 (F := Ideal) x0 x1 x2 x3 x4 x6 (ix4 b n h f)) (keyHead x0 x1 x2 x3 x4 x6 b n h ⟨16 + f.val, by omega⟩)
    ∧ @Eq EReal (val_main_v146 (F := Ideal) x0 x1 x2 x3 x4 x6 (ix4 b n h f)) (keyHead x0 x1 x2 x3 x4 x6 b n h ⟨32 + f.val, by omega⟩)
    ∧ @Eq EReal (val_main_v147 (F := Ideal) x0 x1 x2 x3 x4 x6 (ix4 b n h f)) (keyHead x0 x1 x2 x3 x4 x6 b n h ⟨32 + (16 + f.val), by omega⟩) := by
  rw [val_main_v126_apply, val_main_v127_apply, val_main_v146_apply, val_main_v147_apply, val_main_v123_apply, val_main_v123_apply,
    val_main_v143_apply, val_main_v143_apply]
  refine ⟨congrArg (val_main_v50 (F := Ideal) x0 x1 x2 x3 x4 x6) ?_, congrArg (val_main_v50 (F := Ideal) x0 x1 x2 x3 x4 x6) ?_,
    congrArg (val_main_v50 (F := Ideal) x0 x1 x2 x3 x4 x6) ?_, congrArg (val_main_v50 (F := Ideal) x0 x1 x2 x3 x4 x6) ?_⟩ <;>
  exact funext fun a => Fin.ext (by match a with | ⟨0, _⟩ => rfl | ⟨1, _⟩ => rfl | ⟨2, _⟩ => rfl | ⟨3, _⟩ => rfl)

/-- An index of the queries' tables. -/
theorem tab5_idx (b : Fin 8) (n : Fin 4096) (h g : Fin 4) (f : Fin 16) : idx_main_v86 (idx_main_v87 (ix5 b n h g f)) = ix4 n 0 0 f :=
  funext fun a => Fin.ext (by match a with | ⟨0, _⟩ => rfl | ⟨1, _⟩ => rfl | ⟨2, _⟩ => rfl | ⟨3, _⟩ => rfl)

/-- An index of the keys' tables. -/
theorem tab4_idx (b : Fin 8) (n : Fin 4096) (h : Fin 4) (f : Fin 16) : idx_main_v128 (idx_main_v129 (ix4 b n h f)) = ix3 n 0 f :=
  funext fun a => Fin.ext (by match a with | ⟨0, _⟩ => rfl | ⟨1, _⟩ => rfl | ⟨2, _⟩ => rfl)

/-- The four quarters of a query head rotated. -/
theorem query_turned (b : Fin 8) (n : Fin 4096) (h g : Fin 4) (f : Fin 16) :
    @Eq EReal (val_main_v92 (F := Ideal) x0 x1 x2 x3 x4 x5 (ix5 b n h g f))
      (rotated n.val (queryHead x0 x1 x2 x3 x4 x5 b n h g) ⟨f.val, by omega⟩)
    ∧ @Eq EReal (val_main_v99 (F := Ideal) x0 x1 x2 x3 x4 x5 (ix5 b n h g f))
      (rotated n.val (queryHead x0 x1 x2 x3 x4 x5 b n h g) ⟨16 + f.val, by omega⟩)
    ∧ @Eq EReal (val_main_v112 (F := Ideal) x0 x1 x2 x3 x4 x5 (ix5 b n h g f))
      (rotated n.val (queryHead x0 x1 x2 x3 x4 x5 b n h g) ⟨32 + f.val, by omega⟩)
    ∧ @Eq EReal (val_main_v119 (F := Ideal) x0 x1 x2 x3 x4 x5 (ix5 b n h g f))
      (rotated n.val (queryHead x0 x1 x2 x3 x4 x5 b n h g) ⟨32 + (16 + f.val), by omega⟩) := by
  obtain ⟨q0, q1, q2, q3⟩ := query_quarters x0 x1 x2 x3 x4 x5 b n h g f
  have hi := tab5_idx b n h g f
  have c0 := (congrArg (val_main_v82 (F := Ideal)) hi).trans (tab5_cos_row n f)
  have s0 := (congrArg (val_main_v83 (F := Ideal)) hi).trans (tab5_sin_row n f)
  have c1 := (congrArg (val_main_v102 (F := Ideal)) hi).trans (tab5_cos_col n f)
  have s1 := (congrArg (val_main_v103 (F := Ideal)) hi).trans (tab5_sin_col n f)
  rw [val_main_v92_apply, val_main_v88_apply, val_main_v91_apply, val_main_v87_apply, val_main_v86_apply, val_main_v90_apply, val_main_v89_apply,
    val_main_v99_apply, val_main_v95_apply, val_main_v98_apply, val_main_v94_apply, val_main_v93_apply, val_main_v97_apply, val_main_v96_apply,
    val_main_v112_apply, val_main_v108_apply, val_main_v111_apply, val_main_v107_apply, val_main_v106_apply, val_main_v110_apply, val_main_v109_apply,
    val_main_v119_apply, val_main_v115_apply, val_main_v118_apply, val_main_v114_apply, val_main_v113_apply, val_main_v117_apply, val_main_v116_apply]
  exact ⟨rotated_first (by show f.val % 32 < 16; omega) (by show 16 + f.val = f.val + 16; omega)
      (turn_row _ (by show f.val < 32; omega) (by show f.val % 16 = f.val; omega)) q0 q1 c0 s0,
    rotated_second (by show 16 ≤ (16 + f.val) % 32; omega) (by show f.val + 16 = 16 + f.val; omega)
      (turn_row _ (by show 16 + f.val < 32; omega) (by show (16 + f.val) % 16 = f.val; omega)) q1 q0 c0 s0,
    rotated_first (by show (32 + f.val) % 32 < 16; omega) (by show 32 + (16 + f.val) = 32 + f.val + 16; omega)
      (turn_col _ (by show 32 ≤ 32 + f.val; omega) (by show (32 + f.val) % 16 = f.val; omega)) q2 q3 c1 s1,
    rotated_second (by show 16 ≤ (32 + (16 + f.val)) % 32; omega) (by show 32 + f.val + 16 = 32 + (16 + f.val); omega)
      (turn_col _ (by show 32 ≤ 32 + (16 + f.val); omega) (by show (32 + (16 + f.val)) % 16 = f.val; omega)) q3 q2 c1 s1⟩

/-- The four quarters of a key head rotated. -/
theorem key_turned (b : Fin 8) (n : Fin 4096) (h : Fin 4) (f : Fin 16) :
    @Eq EReal (val_main_v134 (F := Ideal) x0 x1 x2 x3 x4 x6 (ix4 b n h f))
      (rotated n.val (keyHead x0 x1 x2 x3 x4 x6 b n h) ⟨f.val, by omega⟩)
    ∧ @Eq EReal (val_main_v141 (F := Ideal) x0 x1 x2 x3 x4 x6 (ix4 b n h f))
      (rotated n.val (keyHead x0 x1 x2 x3 x4 x6 b n h) ⟨16 + f.val, by omega⟩)
    ∧ @Eq EReal (val_main_v154 (F := Ideal) x0 x1 x2 x3 x4 x6 (ix4 b n h f))
      (rotated n.val (keyHead x0 x1 x2 x3 x4 x6 b n h) ⟨32 + f.val, by omega⟩)
    ∧ @Eq EReal (val_main_v161 (F := Ideal) x0 x1 x2 x3 x4 x6 (ix4 b n h f))
      (rotated n.val (keyHead x0 x1 x2 x3 x4 x6 b n h) ⟨32 + (16 + f.val), by omega⟩) := by
  obtain ⟨q0, q1, q2, q3⟩ := key_quarters x0 x1 x2 x3 x4 x6 b n h f
  obtain ⟨t0, t1, t2, t3⟩ := tables n f
  have hi := tab4_idx b n h f
  have c0 := (congrArg (val_main_v124 (F := Ideal)) hi).trans (t0.trans (tab5_cos_row n f))
  have s0 := (congrArg (val_main_v125 (F := Ideal)) hi).trans (t1.trans (tab5_sin_row n f))
  have c1 := (congrArg (val_main_v144 (F := Ideal)) hi).trans (t2.trans (tab5_cos_col n f))
  have s1 := (congrArg (val_main_v145 (F := Ideal)) hi).trans (t3.trans (tab5_sin_col n f))
  rw [val_main_v134_apply, val_main_v130_apply, val_main_v133_apply, val_main_v129_apply, val_main_v128_apply, val_main_v132_apply, val_main_v131_apply,
    val_main_v141_apply, val_main_v137_apply, val_main_v140_apply, val_main_v136_apply, val_main_v135_apply, val_main_v139_apply, val_main_v138_apply,
    val_main_v154_apply, val_main_v150_apply, val_main_v153_apply, val_main_v149_apply, val_main_v148_apply, val_main_v152_apply, val_main_v151_apply,
    val_main_v161_apply, val_main_v157_apply, val_main_v160_apply, val_main_v156_apply, val_main_v155_apply, val_main_v159_apply, val_main_v158_apply]
  exact ⟨rotated_first (by show f.val % 32 < 16; omega) (by show 16 + f.val = f.val + 16; omega)
      (turn_row _ (by show f.val < 32; omega) (by show f.val % 16 = f.val; omega)) q0 q1 c0 s0,
    rotated_second (by show 16 ≤ (16 + f.val) % 32; omega) (by show f.val + 16 = 16 + f.val; omega)
      (turn_row _ (by show 16 + f.val < 32; omega) (by show (16 + f.val) % 16 = f.val; omega)) q1 q0 c0 s0,
    rotated_first (by show (32 + f.val) % 32 < 16; omega) (by show 32 + (16 + f.val) = 32 + f.val + 16; omega)
      (turn_col _ (by show 32 ≤ 32 + f.val; omega) (by show (32 + f.val) % 16 = f.val; omega)) q2 q3 c1 s1,
    rotated_second (by show 16 ≤ (32 + (16 + f.val)) % 32; omega) (by show 32 + f.val + 16 = 32 + (16 + f.val); omega)
      (turn_col _ (by show 32 ≤ 32 + (16 + f.val); omega) (by show (32 + (16 + f.val)) % 16 = f.val; omega)) q3 q2 c1 s1⟩

end Cert.Proj

end
-- ==== Proof.QkvReference.lean ====
module

public import proofs.«01_k».proof.Proof.QkvTurn

/-! # The projection's reference computes the stated queries, keys and values -/

@[expose] public section

set_option maxRecDepth 16384

noncomputable section

namespace Cert.Proj

open Cert.QkvRefIdeal Cert.QkvRefIdeal.Gen Cert.QkvRefIdeal.Read
open Idealize.ShloMosaic
open Idealize.ShloMosaic.TcCoe Idealize.ShloMosaic.ValueIdx Idealize.SL.Sem

/-- Two arrays of query heads' features joined along the features, sixteen and sixteen. -/
theorem join5_16 (A B : FVec Ideal S8x4096x4x4x16 .f32) (b : Fin 8) (n : Fin 4096) (h g : Fin 4) (k : Fin 32) :
    concatenate S8x4096x4x4x32 4 [⟨S8x4096x4x4x16, A⟩, ⟨S8x4096x4x4x16, B⟩]
      concatenates_S8x4096x4x4x16_S8x4096x4x4x16_S8x4096x4x4x32_d4 (ix5 b n h g k)
    = if hk : k.val < 16 then A (ix5 b n h g ⟨k.val, hk⟩) else B (ix5 b n h g ⟨k.val - 16, by omega⟩) := by
  split
  · next hk =>
    exact concatenate_pair_apply_left (t := S8x4096x4x4x32) 4 (s₁ := S8x4096x4x4x16) (s₂ := S8x4096x4x4x16) _ _
      concatenates_S8x4096x4x4x16_S8x4096x4x4x16_S8x4096x4x4x32_d4 _ rfl (ix5 b n h g ⟨k.val, hk⟩)
      (fun a => match a with | ⟨0, _⟩ => rfl | ⟨1, _⟩ => rfl | ⟨2, _⟩ => rfl | ⟨3, _⟩ => rfl | ⟨4, _⟩ => rfl)
  · next hk =>
    exact concatenate_pair_apply_right (t := S8x4096x4x4x32) 4 (s₁ := S8x4096x4x4x16) (s₂ := S8x4096x4x4x16) _ _
      concatenates_S8x4096x4x4x16_S8x4096x4x4x16_S8x4096x4x4x32_d4 _ rfl rfl (ix5 b n h g ⟨k.val - 16, by omega⟩)
      (fun a ha => match a with | ⟨0, _⟩ => rfl | ⟨1, _⟩ => rfl | ⟨2, _⟩ => rfl | ⟨3, _⟩ => rfl | ⟨4, _⟩ => absurd rfl ha)
      (by show k.val - 16 + 16 = k.val; omega)

/-- Two arrays of query heads' features joined along the features, thirty-two and thirty-two. -/
theorem join5_32 (A B : FVec Ideal S8x4096x4x4x32 .f32) (b : Fin 8) (n : Fin 4096) (h g : Fin 4) (k : Fin 64) :
    concatenate S8x4096x4x4x64 4 [⟨S8x4096x4x4x32, A⟩, ⟨S8x4096x4x4x32, B⟩]
      concatenates_S8x4096x4x4x32_S8x4096x4x4x32_S8x4096x4x4x64_d4 (ix5 b n h g k)
    = if hk : k.val < 32 then A (ix5 b n h g ⟨k.val, hk⟩) else B (ix5 b n h g ⟨k.val - 32, by omega⟩) := by
  split
  · next hk =>
    exact concatenate_pair_apply_left (t := S8x4096x4x4x64) 4 (s₁ := S8x4096x4x4x32) (s₂ := S8x4096x4x4x32) _ _
      concatenates_S8x4096x4x4x32_S8x4096x4x4x32_S8x4096x4x4x64_d4 _ rfl (ix5 b n h g ⟨k.val, hk⟩)
      (fun a => match a with | ⟨0, _⟩ => rfl | ⟨1, _⟩ => rfl | ⟨2, _⟩ => rfl | ⟨3, _⟩ => rfl | ⟨4, _⟩ => rfl)
  · next hk =>
    exact concatenate_pair_apply_right (t := S8x4096x4x4x64) 4 (s₁ := S8x4096x4x4x32) (s₂ := S8x4096x4x4x32) _ _
      concatenates_S8x4096x4x4x32_S8x4096x4x4x32_S8x4096x4x4x64_d4 _ rfl rfl (ix5 b n h g ⟨k.val - 32, by omega⟩)
      (fun a ha => match a with | ⟨0, _⟩ => rfl | ⟨1, _⟩ => rfl | ⟨2, _⟩ => rfl | ⟨3, _⟩ => rfl | ⟨4, _⟩ => absurd rfl ha)
      (by show k.val - 32 + 32 = k.val; omega)

/-- Two arrays of key heads' features joined along the features, sixteen and sixteen. -/
theorem join4_16 (A B : FVec Ideal S8x4096x4x16 .f32) (b : Fin 8) (n : Fin 4096) (h : Fin 4) (k : Fin 32) :
    concatenate S8x4096x4x32 3 [⟨S8x4096x4x16, A⟩, ⟨S8x4096x4x16, B⟩] concatenates_S8x4096x4x16_S8x4096x4x16_S8x4096x4x32_d3 (ix4 b n h k)
    = if hk : k.val < 16 then A (ix4 b n h ⟨k.val, hk⟩) else B (ix4 b n h ⟨k.val - 16, by omega⟩) := by
  split
  · next hk =>
    exact concatenate_pair_apply_left (t := S8x4096x4x32) 3 (s₁ := S8x4096x4x16) (s₂ := S8x4096x4x16) _ _
      concatenates_S8x4096x4x16_S8x4096x4x16_S8x4096x4x32_d3 _ rfl (ix4 b n h ⟨k.val, hk⟩)
      (fun a => match a with | ⟨0, _⟩ => rfl | ⟨1, _⟩ => rfl | ⟨2, _⟩ => rfl | ⟨3, _⟩ => rfl)
  · next hk =>
    exact concatenate_pair_apply_right (t := S8x4096x4x32) 3 (s₁ := S8x4096x4x16) (s₂ := S8x4096x4x16) _ _
      concatenates_S8x4096x4x16_S8x4096x4x16_S8x4096x4x32_d3 _ rfl rfl (ix4 b n h ⟨k.val - 16, by omega⟩)
      (fun a ha => match a with | ⟨0, _⟩ => rfl | ⟨1, _⟩ => rfl | ⟨2, _⟩ => rfl | ⟨3, _⟩ => absurd rfl ha)
      (by show k.val - 16 + 16 = k.val; omega)

/-- Two arrays of key heads' features joined along the features, thirty-two and thirty-two. -/
theorem join4_32 (A B : FVec Ideal S8x4096x4x32 .f32) (b : Fin 8) (n : Fin 4096) (h : Fin 4) (k : Fin 64) :
    concatenate S8x4096x4x64 3 [⟨S8x4096x4x32, A⟩, ⟨S8x4096x4x32, B⟩] concatenates_S8x4096x4x32_S8x4096x4x32_S8x4096x4x64_d3 (ix4 b n h k)
    = if hk : k.val < 32 then A (ix4 b n h ⟨k.val, hk⟩) else B (ix4 b n h ⟨k.val - 32, by omega⟩) := by
  split
  · next hk =>
    exact concatenate_pair_apply_left (t := S8x4096x4x64) 3 (s₁ := S8x4096x4x32) (s₂ := S8x4096x4x32) _ _
      concatenates_S8x4096x4x32_S8x4096x4x32_S8x4096x4x64_d3 _ rfl (ix4 b n h ⟨k.val, hk⟩)
      (fun a => match a with | ⟨0, _⟩ => rfl | ⟨1, _⟩ => rfl | ⟨2, _⟩ => rfl | ⟨3, _⟩ => rfl)
  · next hk =>
    exact concatenate_pair_apply_right (t := S8x4096x4x64) 3 (s₁ := S8x4096x4x32) (s₂ := S8x4096x4x32) _ _
      concatenates_S8x4096x4x32_S8x4096x4x32_S8x4096x4x64_d3 _ rfl rfl (ix4 b n h ⟨k.val - 32, by omega⟩)
      (fun a ha => match a with | ⟨0, _⟩ => rfl | ⟨1, _⟩ => rfl | ⟨2, _⟩ => rfl | ⟨3, _⟩ => absurd rfl ha)
      (by show k.val - 32 + 32 = k.val; omega)

/-- Two arrays of value heads' features joined along the features, sixty-four and sixty-four. -/
theorem join4_64 (A B : FVec Ideal S8x4096x4x64 .f32) (b : Fin 8) (n : Fin 4096) (h : Fin 4) (k : Fin 128) :
    concatenate S8x4096x4x128 3 [⟨S8x4096x4x64, A⟩, ⟨S8x4096x4x64, B⟩] concatenates_S8x4096x4x64_S8x4096x4x64_S8x4096x4x128_d3 (ix4 b n h k)
    = if hk : k.val < 64 then A (ix4 b n h ⟨k.val, hk⟩) else B (ix4 b n h ⟨k.val - 64, by omega⟩) := by
  split
  · next hk =>
    exact concatenate_pair_apply_left (t := S8x4096x4x128) 3 (s₁ := S8x4096x4x64) (s₂ := S8x4096x4x64) _ _
      concatenates_S8x4096x4x64_S8x4096x4x64_S8x4096x4x128_d3 _ rfl (ix4 b n h ⟨k.val, hk⟩)
      (fun a => match a with | ⟨0, _⟩ => rfl | ⟨1, _⟩ => rfl | ⟨2, _⟩ => rfl | ⟨3, _⟩ => rfl)
  · next hk =>
    exact concatenate_pair_apply_right (t := S8x4096x4x128) 3 (s₁ := S8x4096x4x64) (s₂ := S8x4096x4x64) _ _
      concatenates_S8x4096x4x64_S8x4096x4x64_S8x4096x4x128_d3 _ rfl rfl (ix4 b n h ⟨k.val - 64, by omega⟩)
      (fun a ha => match a with | ⟨0, _⟩ => rfl | ⟨1, _⟩ => rfl | ⟨2, _⟩ => rfl | ⟨3, _⟩ => absurd rfl ha)
      (by show k.val - 64 + 64 = k.val; omega)

variable (x0 : FVec Ideal S8x4096x1024 .f32) (x1 x2 : FVec Ideal S8x1x1024 .f32) (x3 : FVec Ideal S1024 .f32)
  (x4 : FVec Ideal S1024x1536 .f32) (x5 x6 : FVec Ideal S64 .f32)

/-- A query head of the reference, its quarters put together, is the head rotated. -/
theorem query_rotated (b : Fin 8) (n : Fin 4096) (h g : Fin 4) (d : Fin 64) :
    @Eq EReal (val_main_v121 (F := Ideal) x0 x1 x2 x3 x4 x5 (ix5 b n h g d)) (rotated n.val (queryHead x0 x1 x2 x3 x4 x5 b n h g) d) := by
  unfold val_main_v121 val_main_v100 val_main_v120
  rw [join5_32]
  split
  · next hd =>
    rw [join5_16]
    split
    · next hf => exact (query_turned x0 x1 x2 x3 x4 x5 b n h g ⟨d.val, hf⟩).1
    · next hf =>
      refine (query_turned x0 x1 x2 x3 x4 x5 b n h g ⟨d.val - 16, by omega⟩).2.1.trans (congrArg _ (Fin.ext ?_))
      show 16 + (d.val - 16) = d.val; have hf' : ¬ d.val < 16 := hf; omega
  · next hd =>
    rw [join5_16]
    split
    · next hf =>
      refine (query_turned x0 x1 x2 x3 x4 x5 b n h g ⟨d.val - 32, hf⟩).2.2.1.trans (congrArg _ (Fin.ext ?_))
      show 32 + (d.val - 32) = d.val; omega
    · next hf =>
      refine (query_turned x0 x1 x2 x3 x4 x5 b n h g ⟨d.val - 32 - 16, by omega⟩).2.2.2.trans (congrArg _ (Fin.ext ?_))
      show 32 + (16 + (d.val - 32 - 16)) = d.val; have hf' : ¬ d.val - 32 < 16 := hf; omega

/-- A key head of the reference, its quarters put together, is the head rotated. -/
theorem key_rotated (b : Fin 8) (n : Fin 4096) (h : Fin 4) (d : Fin 64) :
    @Eq EReal (val_main_v163 (F := Ideal) x0 x1 x2 x3 x4 x6 (ix4 b n h d)) (rotated n.val (keyHead x0 x1 x2 x3 x4 x6 b n h) d) := by
  unfold val_main_v163 val_main_v142 val_main_v162
  rw [join4_32]
  split
  · next hd =>
    rw [join4_16]
    split
    · next hf => exact (key_turned x0 x1 x2 x3 x4 x6 b n h ⟨d.val, hf⟩).1
    · next hf =>
      refine (key_turned x0 x1 x2 x3 x4 x6 b n h ⟨d.val - 16, by omega⟩).2.1.trans (congrArg _ (Fin.ext ?_))
      show 16 + (d.val - 16) = d.val; have hf' : ¬ d.val < 16 := hf; omega
  · next hd =>
    rw [join4_16]
    split
    · next hf =>
      refine (key_turned x0 x1 x2 x3 x4 x6 b n h ⟨d.val - 32, hf⟩).2.2.1.trans (congrArg _ (Fin.ext ?_))
      show 32 + (d.val - 32) = d.val; omega
    · next hf =>
      refine (key_turned x0 x1 x2 x3 x4 x6 b n h ⟨d.val - 32 - 16, by omega⟩).2.2.2.trans (congrArg _ (Fin.ext ?_))
      show 32 + (16 + (d.val - 32 - 16)) = d.val; have hf' : ¬ d.val - 32 < 16 := hf; omega

/-- The reference's queries. -/
theorem reference_queries : val_main_v167 (F := Ideal) x0 x1 x2 x3 x4 x5 = queriesOf x0 x1 x2 x3 x4 x5 := by
  funext i
  have h0 : (i 0).val < 8 := (i 0).isLt
  have h1 : (i 1).val < 16 := (i 1).isLt
  have h2 : (i 2).val < 4096 := (i 2).isLt
  have h3 : (i 3).val < 64 := (i 3).isLt
  rw [val_main_v167_apply, val_main_v166_apply, val_main_v122_apply]
  refine (congrArg (val_main_v121 (F := Ideal) x0 x1 x2 x3 x4 x5)
    (?_ : _ = ix5 (i 0) (i 2) ⟨(i 1).val / 4, by omega⟩ ⟨(i 1).val % 4, by omega⟩ (i 3))).trans
    ((query_rotated x0 x1 x2 x3 x4 x5 _ _ _ _ _).trans (congrArg (fun Y => rotated (i 2).val Y (i 3)) (funext fun d => ?_)))
  · refine funext fun a => Fin.ext ?_
    match a with
    | ⟨0, _⟩ => show ((((i 0).val * 4096 + (i 2).val) * 16 + (i 1).val) * 64 + (i 3).val) / 4194304 = (i 0).val; omega
    | ⟨1, _⟩ => show ((((i 0).val * 4096 + (i 2).val) * 16 + (i 1).val) * 64 + (i 3).val) / 1024 % 4096 = (i 2).val; omega
    | ⟨2, _⟩ => show ((((i 0).val * 4096 + (i 2).val) * 16 + (i 1).val) * 64 + (i 3).val) / 256 % 4 = (i 1).val / 4; omega
    | ⟨3, _⟩ => show ((((i 0).val * 4096 + (i 2).val) * 16 + (i 1).val) * 64 + (i 3).val) / 64 % 4 = (i 1).val % 4; omega
    | ⟨4, _⟩ => show ((((i 0).val * 4096 + (i 2).val) * 16 + (i 1).val) * 64 + (i 3).val) % 64 = (i 3).val; omega
  · refine (ref_query_normed x0 x1 x2 x3 x4 x5 _ _ _ _ _).trans (congrArg (fun X => normed X (fun k => x5 (ix1 k)) d) (funext fun k => ?_))
    refine congrArg (projected x0 x1 x2 x3 x4 (i 0) (i 2)) (Fin.ext ?_)
    show 64 * (4 * ((i 1).val / 4) + (i 1).val % 4) + k.val = 64 * (i 1).val + k.val
    omega

/-- The reference's keys. -/
theorem reference_keys : val_main_v169 (F := Ideal) x0 x1 x2 x3 x4 x6 = keysOf x0 x1 x2 x3 x4 x6 := by
  funext i
  rw [val_main_v169_apply, val_main_v168_apply]
  refine (congrArg (val_main_v163 (F := Ideal) x0 x1 x2 x3 x4 x6) (?_ : _ = ix4 (i 0) (i 2) (i 1) (i 3))).trans
    ((key_rotated x0 x1 x2 x3 x4 x6 _ _ _ _).trans (congrArg (fun Y => rotated (i 2).val Y (i 3)) (funext fun d => ?_)))
  · exact funext fun a => Fin.ext (by match a with | ⟨0, _⟩ => rfl | ⟨1, _⟩ => rfl | ⟨2, _⟩ => rfl | ⟨3, _⟩ => rfl)
  · exact ref_key_normed x0 x1 x2 x3 x4 x6 _ _ _ _

/-- The reference's values. -/
theorem reference_values : val_main_v171 (F := Ideal) x0 x1 x2 x3 x4 = valuesOf x0 x1 x2 x3 x4 := by
  funext i
  rw [val_main_v171_apply, val_main_v170_apply]
  refine (congrArg (val_main_v165 (F := Ideal) x0 x1 x2 x3 x4) (?_ : _ = ix4 (i 0) (i 2) (i 1) (i 3))).trans ?_
  · exact funext fun a => Fin.ext (by match a with | ⟨0, _⟩ => rfl | ⟨1, _⟩ => rfl | ⟨2, _⟩ => rfl | ⟨3, _⟩ => rfl)
  · unfold val_main_v165 valuesOf
    refine (join4_64 _ _ (i 0) (i 2) (i 1) (i 3)).trans ?_
    by_cases hk : (i 3).val < 64
    · refine (dif_pos hk).trans ?_
      rw [dif_pos hk]
      exact ref_value x0 x1 x2 x3 x4 _ _ _ _
    · refine (dif_neg hk).trans (Eq.trans ?_ (dif_neg hk).symm)
      exact (val_main_v164_apply (F := Ideal) _).trans one_bits

end Cert.Proj

end
-- ==== Proof.QkvClaims.lean ====
module

public import proofs.«01_k».proof.Defs
public import proofs.«01_k».proof.Proof.QkvValue
public import proofs.«01_k».proof.Proof.QkvReference
public import proofs.«01_k».proof.Proof.Gen.Qkv.Frame
public import proofs.«01_k».proof.Proof.Gen.QkvIdeal.Frame
public import Idealize.ShloMosaic.Lib.Claim

/-! # The claims about the projection to queries, keys and values -/

@[expose] public section

noncomputable section

namespace Cert.Proj

open Idealize.ShloMosaic Idealize.SL.Sem

/-- Every execution of the reference ends with the arguments kept and no counter raised. -/
theorem frame_reference : Cert.quiescent_QkvRefIdeal := fun m g _ =>
  (θ_run Cert.QkvRefIdeal.defs _ _).mono (fun r h => ⟨fun c => (h c).2.2.2, sem_eq_zero_of_no_sems (by decide) r.2⟩)
    (Cert.QkvRefIdeal.Value.run (F := Ideal) m g)

/-- The reference's three results on arguments equal to given ones. -/
theorem reference_results {x0 y0 : FVec Ideal Cert.QkvRefIdeal.S8x4096x1024 .f32} {x1 y1 x2 y2 : FVec Ideal Cert.QkvRefIdeal.S8x1x1024 .f32}
    {x3 y3 : FVec Ideal Cert.QkvRefIdeal.S1024 .f32} {x4 y4 : FVec Ideal Cert.QkvRefIdeal.S1024x1536 .f32}
    {x5 y5 x6 y6 : FVec Ideal Cert.QkvRefIdeal.S64 .f32}
    (h0 : x0 = y0) (h1 : x1 = y1) (h2 : x2 = y2) (h3 : x3 = y3) (h4 : x4 = y4) (h5 : x5 = y5) (h6 : x6 = y6) :
    Cert.QkvRefIdeal.Read.val_main_v167 (F := Ideal) x0 x1 x2 x3 x4 x5 = queriesOf y0 y1 y2 y3 y4 y5
    ∧ Cert.QkvRefIdeal.Read.val_main_v169 (F := Ideal) x0 x1 x2 x3 x4 x6 = keysOf y0 y1 y2 y3 y4 y6
    ∧ Cert.QkvRefIdeal.Read.val_main_v171 (F := Ideal) x0 x1 x2 x3 x4 = valuesOf y0 y1 y2 y3 y4 := by
  subst h0 h1 h2 h3 h4 h5 h6
  exact ⟨reference_queries _ _ _ _ _ _, reference_keys _ _ _ _ _ _, reference_values _ _ _ _ _⟩

/-- Kernel and reference end with the same three results: the stated queries, keys and values of the arguments. -/
theorem algebraic : Cert.algebraic_QkvIdeal_QkvRefIdeal := by
  intro m g m' g' _ hm
  refine ⟨fun c => queriesOf (argX m c) (argShift m c) (argScale m c) (argGain m c) (argW m c) (argGq m c),
    fun c => keysOf (argX m c) (argShift m c) (argScale m c) (argGain m c) (argW m c) (argGk m c),
    fun c => valuesOf (argX m c) (argShift m c) (argScale m c) (argGain m c) (argW m c), ?_, ?_⟩
  · exact (θ_run Cert.QkvIdeal.defs _ _).mono (fun r h c =>
      ⟨(h c).1.trans (final_queries m c), (h c).2.1.trans (final_keys m c), (h c).2.2.1.trans (final_values m c), (h c).2.2.2⟩)
      (Cert.QkvIdeal.Value.run_blocks m g)
  · refine (θ_run Cert.QkvRefIdeal.defs _ _).mono (fun r h c =>
      ⟨(h c).1.trans ?_, (h c).2.1.trans ?_, (h c).2.2.1.trans ?_, (h c).2.2.2⟩) (Cert.QkvRefIdeal.Value.run (F := Ideal) m' g')
    · exact (Cert.QkvRefIdeal.Read.val_main_v167_eq _).trans
        (reference_results (hm c).1 (hm c).2.1 (hm c).2.2.1 (hm c).2.2.2.1 (hm c).2.2.2.2.1 (hm c).2.2.2.2.2.1 (hm c).2.2.2.2.2.2).1
    · exact (Cert.QkvRefIdeal.Read.val_main_v169_eq _).trans
        (reference_results (hm c).1 (hm c).2.1 (hm c).2.2.1 (hm c).2.2.2.1 (hm c).2.2.2.2.1 (hm c).2.2.2.2.2.1 (hm c).2.2.2.2.2.2).2.1
    · exact (Cert.QkvRefIdeal.Read.val_main_v171_eq _).trans
        (reference_results (hm c).1 (hm c).2.1 (hm c).2.2.1 (hm c).2.2.2.1 (hm c).2.2.2.2.1 (hm c).2.2.2.2.2.1 (hm c).2.2.2.2.2.2).2.2

end Cert.Proj

end
-- ==== Proof.OutSpec.lean ====
module

public import proofs.«01_k».proof.Proof.Gen.OutRefIdeal.Read
public import Idealize.ShloMosaic.Lib.ValueIdx

/-! # The output projection added to the tokens

What the output projection of a mixing layer leaves: each token, plus its gate times its mixed row multiplied with the
output weights. The tokens of all batch entries stand in one list. The reference computes it. -/

@[expose] public section

set_option maxRecDepth 16384

noncomputable section

namespace Cert.Residual

open Cert.OutRefIdeal Cert.OutRefIdeal.Gen Cert.OutRefIdeal.Read
open Idealize.ShloMosaic
open Idealize.ShloMosaic.TcCoe Idealize.ShloMosaic.ValueIdx Idealize.SL.Sem

variable (o : FVec Ideal S8x4096x1024 .f32) (w : FVec Ideal S1024x1024 .f32) (x : FVec Ideal S8x4096x1024 .f32)
  (g : FVec Ideal S8x1x1024 .f32)

/-- A token's feature after the projection: the token's own, plus the gate times the projected row. -/
def residual (b : Fin 8) (n : Fin 4096) (j : Fin 1024) : EReal :=
  x (ix3 b n j) + g (ix3 b 0 j) * ∑ k : Fin 1024, o (ix3 b n k) * w (ix2 k j)

/-- All tokens, the batch entries one after the other. -/
def residualOf : FVec Ideal S32768x1024 .f32 := fun i =>
  residual o w x g ⟨(i 0).val / 4096, by have : (i 0).val < 32768 := (i 0).isLt; omega⟩ ⟨(i 0).val % 4096, Nat.mod_lt _ (by norm_num)⟩ (i 1)

/-- The reference's product at an element. -/
theorem reference_product (b : Fin 8) (n : Fin 4096) (j : Fin 1024) :
    @Eq EReal (val_main_v0 (F := Ideal) o w (ix3 b n j)) (∑ k : Fin 1024, o (ix3 b n k) * w (ix2 k j)) := by
  refine (val_main_v0_apply o w (ix3 b n j)).trans (Finset.sum_congr rfl fun k _ => congrArg₂ (fun u v : EReal => u * v) ?_ ?_)
  · exact congrArg o (funext fun a => Fin.ext (by match a with | ⟨0, _⟩ => rfl | ⟨1, _⟩ => rfl | ⟨2, _⟩ => rfl))
  · exact congrArg w (funext fun a => Fin.ext (by match a with | ⟨0, _⟩ => rfl | ⟨1, _⟩ => rfl))

/-- The reference's result. -/
theorem reference_residual : val_main_v4 (F := Ideal) o w x g = residualOf o w x g := by
  funext i
  have h0 : (i 0).val < 32768 := (i 0).isLt
  have h1 : (i 1).val < 1024 := (i 1).isLt
  rw [val_main_v4_apply]
  refine (congrArg (val_main_v3 (F := Ideal) o w x g) (?_ : _ = ix3 ⟨(i 0).val / 4096, by omega⟩ ⟨(i 0).val % 4096, by omega⟩ (i 1))).trans ?_
  · refine funext fun a => Fin.ext ?_
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) % 1024 = (i 1).val; omega
  · refine (val_main_v3_apply (F := Ideal) o w x g _).trans (congrArg (fun u : EReal => x _ + u) ?_)
    refine (val_main_v2_apply (F := Ideal) o w g _).trans (congrArg₂ (fun u v : EReal => u * v) ?_ (reference_product o w _ _ _))
    refine (val_main_v1_apply (F := Ideal) g _).trans (congrArg g (funext fun a => Fin.ext ?_))
    match a with
    | ⟨0, _⟩ => rfl
    | ⟨1, _⟩ => rfl
    | ⟨2, _⟩ => rfl

end Cert.Residual

end
-- ==== Proof.OutBlock.lean ====
module

public import proofs.«01_k».proof.Proof.OutSpec
public import proofs.«01_k».proof.Proof.Gen.OutIdeal.Frame
public import Idealize.ShloMosaic.Lib.Claim
public import Idealize.ShloMosaic.Lib.Pipeline.ValueKit
public import Idealize.ShloMosaic.Lib.Pipeline.Covers
public import Idealize.ShloMosaic.Lib.KernelVsHost

/-! # The output projection's kernel: what a grid point reads and leaves

A grid point is a block of 512 tokens; eight of them make a batch entry. -/

@[expose] public section

set_option maxRecDepth 16384

noncomputable section

namespace Cert.Residual

open Cert.OutIdeal Cert.OutIdeal.Gen
open Idealize.ShloMosaic hiding ix0 ix1 ix2 ix3 ix4 ix5
open Idealize.ShloMosaic.TcCoe Idealize.ShloMosaic.ValueIdx Idealize.SL.Sem Finset

/-- The product with the output weights, element by element. -/
theorem product_apply {φ : FTy} (x : FVec Ideal S512x1024 φ) (y : FVec Ideal S1024x1024 φ) (r : Fin 512) (j : Fin 1024) :
    matmul dot_S512x1024_S1024x1024_S512x1024_1_0_0_1_n_n none x y (constant S512x1024 .f32 0x00000000#32) (ix2 r j)
      = ∑ k : Fin 1024, x (ix2 r k) * y (ix2 k j) := by
  simp only [matmul]
  rw [Ideal.matmul_constant_zero_apply,
    ← Equiv.sum_comp (contrEquiv1 dot_S512x1024_S1024x1024_S512x1024_1_0_0_1_n_n 1024 rfl rfl).symm]
  refine sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j)
      ((contrEquiv1 dot_S512x1024_S1024x1024_S512x1024_1_0_0_1_n_n 1024 rfl rfl).symm k) = ix2 r k :=
    funext fun a => Fin.ext (by
      match a with
      | ⟨0, _⟩ => rfl
      | ⟨1, _⟩ => exact (DotDims.lhsIdx_val_of_single _ rfl _ _).trans hk)
  have er : dot_S512x1024_S1024x1024_S512x1024_1_0_0_1_n_n.rhsIdx (ix2 r j)
      ((contrEquiv1 dot_S512x1024_S1024x1024_S512x1024_1_0_0_1_n_n 1024 rfl rfl).symm k) = ix2 k j :=
    funext fun a => Fin.ext (by
      match a with
      | ⟨0, _⟩ => exact (DotDims.rhsIdx_val_of_single _ rfl _ _).trans hk
      | ⟨1, _⟩ => rfl)
  rw [el, er]

/-- What the body stores, element by element. -/
theorem stored_apply (v0 : Vec Ideal S512x1024 .bf16) (v2 : Vec Ideal S512x1024 .f32) (v4 : Vec Ideal S1x1x1024 .f32)
    (v6 : Vec Ideal S1024x1024 .bf16) (r : Fin 512) (j : Fin 1024) :
    @Eq EReal (k0_pay2 v0 v2 v4 v6 (ix2 r j)) (v2 (ix2 r j) + v4 (ix3 0 0 j) * ∑ k : Fin 1024, v0 (ix2 r k) * v6 (ix2 k j)) := by
  unfold k0_pay2
  simp only [shapeCast_self]
  refine congrArg (fun u : EReal => v2 (ix2 r j) + u) (congrArg₂ (fun u v : EReal => u * v) ?_ (product_apply _ _ r j))
  refine (broadcastTo_apply _ broadcasts_S1x1024_S512x1024 (ix2 r j) (ix2 0 j) (fun b => by
        match b with
        | ⟨0, _⟩ => rfl
        | ⟨1, _⟩ => rfl)).trans ?_
  exact shapeCast_apply _ _ _ _ (by rw [Shape.rowMajor_val_three, Shape.rowMajor_val_two]; simp [ix3, ix2])

variable (m : (ℓ : Loc nD τ sig) → Buf (Elt Ideal) ℓ) (c : Dev nD)

/-- The mixed rows. -/
abbrev argO : FVec Ideal S8x4096x1024 .f32 := m ((c : Thread nD τ).loc main_arg0)
/-- The output weights. -/
abbrev argW : FVec Ideal S1024x1024 .f32 := m ((c : Thread nD τ).loc main_arg1)
/-- The tokens. -/
abbrev argX : FVec Ideal S8x4096x1024 .f32 := m ((c : Thread nD τ).loc main_arg2)
/-- The gates. -/
abbrev argG : FVec Ideal S8x1x1024 .f32 := m ((c : Thread nD τ).loc main_arg3)

/-- Joining the batch entries into one list of tokens. -/
theorem joined_apply {F : Type} (y : S8x4096x1024.Idx → F) (b : Fin 8) (n : Fin 4096) (j : Fin 1024) (r : Fin 32768)
    (hr : r.val = 4096 * b.val + n.val) :
    shapeCast S32768x1024 y shapeCasts_S8x4096x1024_S32768x1024 (ix2 r j) = y (ix3 b n j) :=
  shapeCast_apply _ _ _ _ (by
    rw [Shape.rowMajor_val_three, Shape.rowMajor_val_two]
    show (b.val * 4096 + n.val) * 1024 + j.val = r.val * 1024 + j.val
    omega)

/-- The list of mixed rows. -/
theorem rows_entry (b : Fin 8) (n : Fin 4096) (j : Fin 1024) (r : Fin 32768) (hr : r.val = 4096 * b.val + n.val) :
    @Eq EReal (V m c main_v11 (ix2 r j)) (argO m c (ix3 b n j)) := by
  unfold V
  simp only [hostOps0, List.flatten_cons, List.flatten_nil, List.append_nil, List.cons_append, List.nil_append]
  entry_read
  exact joined_apply _ b n j r hr

/-- The output weights. -/
theorem weights_entry (i : S1024x1024.Idx) : @Eq EReal (V m c main_v12 i) (argW m c i) := by
  unfold V
  simp only [hostOps0, List.flatten_cons, List.flatten_nil, List.append_nil, List.cons_append, List.nil_append]
  entry_read
  rfl

/-- The list of tokens. -/
theorem tokens_entry (b : Fin 8) (n : Fin 4096) (j : Fin 1024) (r : Fin 32768) (hr : r.val = 4096 * b.val + n.val) :
    @Eq EReal (V m c main_v13 (ix2 r j)) (argX m c (ix3 b n j)) := by
  unfold V
  simp only [hostOps0, List.flatten_cons, List.flatten_nil, List.append_nil, List.cons_append, List.nil_append]
  entry_read
  exact joined_apply _ b n j r hr

/-- The grid point's batch entry. -/
def batch (t : Fin cfg0.N) : Fin 8 := ⟨(grid0.coords t 0).val / 8, by have : (grid0.coords t 0).val < 64 := (grid0.coords t 0).isLt; omega⟩
/-- A token of the block, within its batch entry. -/
def token (t : Fin cfg0.N) (r : Fin 512) : Fin 4096 := ⟨512 * ((grid0.coords t 0).val % 8) + r.val, by omega⟩
/-- A token of the block, in the list. -/
def place (t : Fin cfg0.N) (r : Fin 512) : Fin 32768 :=
  ⟨512 * (grid0.coords t 0).val + r.val, by have : (grid0.coords t 0).val < 64 := (grid0.coords t 0).isLt; omega⟩

theorem place_eq (t : Fin cfg0.N) (r : Fin 512) : (place t r).val = 4096 * (batch t).val + (token t r).val := by
  show 512 * (grid0.coords t 0).val + r.val = 4096 * ((grid0.coords t 0).val / 8) + (512 * ((grid0.coords t 0).val % 8) + r.val)
  omega

/-- Which block of each array a grid point has. -/
theorem index_eq : ∀ t : Fin grid0.N,
    win0_0.index t = ![(grid0.coords t 0).val, 0]
    ∧ win0_1.index t = ![0, 0]
    ∧ win0_2.index t = ![(grid0.coords t 0).val, 0]
    ∧ win0_3.index t = ![(grid0.coords t 0).val / 8, 0, 0]
    ∧ win0_10.index t = ![(grid0.coords t 0).val, 0] := by
  decide +kernel

/-- The load of a whole array reads it. -/
theorem ld_whole {s : Shape} {e : EltTy} (x : Vec Ideal s e) (o : Fin s.rank → ℕ) (ho : ∀ a, o a = 0) (inb) (i : s.Idx) :
    View.ld x (Rect.unit (s := s) o s.size inb) i = x i :=
  View.ld_unit_apply_of _ _ _ _ _ _ fun a => by
    rw [ho a]
    exact (Nat.zero_add _).symm

/-- Where loads of two axes start. -/
theorem start2 (a : Fin 2) : (![0, 0] : Fin 2 → ℕ) a = 0 := by
  match a with
  | ⟨0, _⟩ => rfl
  | ⟨1, _⟩ => rfl

/-- Where loads of three axes start. -/
theorem start3 (a : Fin 3) : (![0, 0, 0] : Fin 3 → ℕ) a = 0 := by
  match a with
  | ⟨0, _⟩ => rfl
  | ⟨1, _⟩ => rfl
  | ⟨2, _⟩ => rfl

/-- The block of mixed rows. -/
theorem rows_block (t : Fin cfg0.N) (r : Fin 512) (l : Fin 1024) :
    @Eq EReal (View.ld (iblk m c 0 t) r0_0 (ix2 r l)) (argO m c (ix3 (batch t) (token t r) l)) := by
  refine (ld_whole (s := S512x1024) (e := .bf16) (iblk m c 0 t) _ start2 _ (ix2 r l)).trans ?_
  refine (congrArg (V m c main_v11) (funext fun a => Fin.ext ?_)).trans (rows_entry m c _ _ l (place t r) (place_eq t r))
  blk_simp [index_eq t]
  match a with
  | ⟨0, _⟩ => show (grid0.coords t 0).val * 512 + r.val = 512 * (grid0.coords t 0).val + r.val; omega
  | ⟨1, _⟩ => show 0 * 1024 + l.val = l.val; omega

/-- The weights. -/
theorem weights_block (t : Fin cfg0.N) (k j : Fin 1024) :
    @Eq EReal (View.ld (iblk m c 1 t) r0_2 (ix2 k j)) (argW m c (ix2 k j)) := by
  refine (ld_whole (s := S1024x1024) (e := .bf16) (iblk m c 1 t) _ start2 _ (ix2 k j)).trans ?_
  refine (congrArg (V m c main_v12) (funext fun a => Fin.ext ?_)).trans (weights_entry m c (ix2 k j))
  blk_simp [index_eq t]
  match a with
  | ⟨0, _⟩ => show 0 * 1024 + k.val = k.val; omega
  | ⟨1, _⟩ => show 0 * 1024 + j.val = j.val; omega

/-- The block of tokens. -/
theorem tokens_block (t : Fin cfg0.N) (r : Fin 512) (l : Fin 1024) :
    @Eq EReal (View.ld (iblk m c 2 t) r0_0 (ix2 r l)) (argX m c (ix3 (batch t) (token t r) l)) := by
  refine (ld_whole (s := S512x1024) (e := .f32) (iblk m c 2 t) _ start2 _ (ix2 r l)).trans ?_
  refine (congrArg (V m c main_v13) (funext fun a => Fin.ext ?_)).trans (tokens_entry m c _ _ l (place t r) (place_eq t r))
  blk_simp [index_eq t]
  match a with
  | ⟨0, _⟩ => show (grid0.coords t 0).val * 512 + r.val = 512 * (grid0.coords t 0).val + r.val; omega
  | ⟨1, _⟩ => show 0 * 1024 + l.val = l.val; omega

/-- The batch entry's gates. -/
theorem gates_block (t : Fin cfg0.N) (l : Fin 1024) :
    @Eq EReal (View.ld (iblk m c 3 t) r0_1 (ix3 0 0 l)) (argG m c (ix3 (batch t) 0 l)) := by
  refine (ld_whole (s := S1x1x1024) (e := .f32) (iblk m c 3 t) _ start3 _ (ix3 0 0 l)).trans ?_
  refine (congrArg (V m c main_arg3) (funext fun a => Fin.ext ?_)).trans (congrFun (V_main_arg3 m c) _)
  blk_simp [index_eq t]
  match a with
  | ⟨0, _⟩ => show (grid0.coords t 0).val / 8 * 1 + 0 = (grid0.coords t 0).val / 8; omega
  | ⟨1, _⟩ => rfl
  | ⟨2, _⟩ => show 0 * 1024 + l.val = l.val; omega

/-- What a grid point leaves in its block of the result. -/
theorem out_block (t : Fin cfg0.N) (r : Fin 512) (j : Fin 1024) :
    @Eq EReal (k0_pay2 (View.ld (iblk m c 0 t) r0_0) (View.ld (iblk m c 2 t) r0_0) (View.ld (iblk m c 3 t) r0_1) (View.ld (iblk m c 1 t) r0_2) (ix2 r j))
      (residual (argO m c) (argW m c) (argX m c) (argG m c) (batch t) (token t r) j) := by
  refine (stored_apply _ _ _ _ r j).trans ?_
  unfold residual
  refine congrArg₂ (fun u v : EReal => u + v) (tokens_block m c t r j) (congrArg₂ (fun u v : EReal => u * v) (gates_block m c t j) ?_)
  exact sum_congr rfl fun k _ => congrArg₂ (fun u v : EReal => u * v) (rows_block m c t r k) (weights_block m c t k j)

/-- After the run the list holds the tokens with the projection added. -/
theorem final_residual : (dats m 0 c).arrAt 10 cfg0.N = residualOf (argO m c) (argW m c) (argX m c) (argG m c) := by
  refine (dats m 0 c).arrAt_eq_of_covers 10 _ (by decide +kernel) fun t hf y => ?_
  blk_simp
  rw [after0_10]
  obtain ⟨r, hr⟩ : ∃ r : Fin 512, r = y 0 := ⟨y 0, rfl⟩
  obtain ⟨j, hj⟩ : ∃ j : Fin 1024, j = y 1 := ⟨y 1, rfl⟩
  have e0 : (((cfg0.win 10).blk t).view.emb y 0).val = (place t r).val := by
    blk_simp [index_eq t]
    rw [hr]
    show (grid0.coords t 0).val * 512 + (y 0).val = 512 * (grid0.coords t 0).val + (y 0).val
    omega
  have e1 : (((cfg0.win 10).blk t).view.emb y 1).val = j.val := by
    blk_simp [index_eq t]
    rw [hj]
  refine (View.canon_apply_of_pieces (Val := Elt Ideal) (e := .f32)
    (fun z : S512x1024.Idx => residual (argO m c) (argW m c) (argX m c) (argG m c) (batch t) (token t (z 0)) (z 1))
    _ (fun p hp => ?_) y (cover0_10 _ y)).trans ?_
  · simp only [List.mem_cons, List.not_mem_nil, or_false] at hp
    subst hp
    intro z
    have ez : z = ix2 (z 0) (z 1) := funext fun a => by
      match a with
      | ⟨0, _⟩ => rfl
      | ⟨1, _⟩ => rfl
    have z0 : (r0_0.emb z 0).val = (z 0).val := (Rect.idx_unit_val _ _ _ _ _).trans (Nat.zero_add _)
    have z1 : (r0_0.emb z 1).val = (z 1).val := (Rect.idx_unit_val _ _ _ _ _).trans (Nat.zero_add _)
    refine (congrArg (k0_pay2 _ _ _ _) ez).trans ((out_block m c t (z 0) (z 1)).trans ?_)
    exact congrArg₂ (fun u v => residual (argO m c) (argW m c) (argX m c) (argG m c) (batch t) (token t u) v)
      (Fin.ext z0.symm) (Fin.ext z1.symm)
  · have h := place_eq t r
    have ht : (token t r).val < 4096 := (token t r).isLt
    unfold residualOf
    congr 1
    · exact Fin.ext (by show (batch t).val = (((cfg0.win 10).blk t).view.emb y 0).val / 4096; rw [e0]; omega)
    · exact Fin.ext (by show (token t (y 0)).val = (((cfg0.win 10).blk t).view.emb y 0).val % 4096; rw [e0, ← hr]; omega)
    · exact Fin.ext (by show (y 1).val = (((cfg0.win 10).blk t).view.emb y 1).val; rw [e1, hj])

end Cert.Residual

end
-- ==== Proof.OutClaims.lean ====
module

public import proofs.«01_k».proof.Defs
public import proofs.«01_k».proof.Proof.OutBlock
public import proofs.«01_k».proof.Proof.Gen.Out.Frame
public import proofs.«01_k».proof.Proof.Gen.OutIdeal.Frame
public import Idealize.ShloMosaic.Lib.Claim
public import Idealize.ShloMosaic.Lib.Bf16PairInverse

/-! # The claims about the output projection -/

@[expose] public section

noncomputable section

namespace Cert.Residual

open Idealize.ShloMosaic Idealize.SL.Sem

/-- Every execution of the reference ends with the arguments kept and no counter raised. -/
theorem frame_reference : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

/-- The reference's result on arguments equal to given ones. -/
theorem reference_result {x0 y0 x2 y2 : FVec Ideal Cert.OutRefIdeal.S8x4096x1024 .f32} {x1 y1 : FVec Ideal Cert.OutRefIdeal.S1024x1024 .f32}
    {x3 y3 : FVec Ideal Cert.OutRefIdeal.S8x1x1024 .f32} (h0 : x0 = y0) (h1 : x1 = y1) (h2 : x2 = y2) (h3 : x3 = y3) :
    Cert.OutRefIdeal.Read.val_main_v4 (F := Ideal) x0 x1 x2 x3 = residualOf y0 y1 y2 y3 := by
  subst h0 h1 h2 h3
  exact reference_residual _ _ _ _

/-- The rewriting of bf16 pairs that the ideal kernel was printed with is sound at every shape it was used at. -/
theorem preserved : Cert.preserves_Out_OutIdeal :=
  ⟨IdealRules.bf16_pair.bufferStatement _ _, IdealRules.bf16_pair.bufferStatement _ _, IdealRules.bf16_pair.statement _ _,
    IdealRules.bf16_pack.statement _⟩

/-- Every execution of the kernel ends with its first result the array the grid points wrote, the arguments kept. -/
theorem run_list (m : (ℓ : Loc Cert.OutIdeal.nD Cert.OutIdeal.τ Cert.OutIdeal.sig) → Buf (Elt Ideal) ℓ) (g : Dev Cert.OutIdeal.nD → PrngReg) :
    θ_run Cert.OutIdeal.defs (onTc (τ := Cert.OutIdeal.τ) (Cert.OutIdeal.main (F := Ideal))) ⟨m, fun _ => 0, g⟩ (fun r =>
      (∀ c : Dev Cert.OutIdeal.nD,
        r.2.mem ((c.tc : Thread Cert.OutIdeal.nD Cert.OutIdeal.τ).loc Cert.OutIdeal.main_arg0) = m ((c.tc : Thread Cert.OutIdeal.nD Cert.OutIdeal.τ).loc Cert.OutIdeal.main_arg0)
        ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
        ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
        ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
        ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
        ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
        ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
        ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
        ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
        ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
        ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ ∀ c : Dev Cert.OutIdeal.nD, r.2.mem ((c.tc : Thread Cert.OutIdeal.nD Cert.OutIdeal.τ).loc Cert.OutIdeal.main_v15_0)
          = (Cert.OutIdeal.Gen.dats m 0 c).arrAt 10 Cert.OutIdeal.cfg0.N) :=
  θ_run_and (Cert.OutIdeal.Gen.unchanged m g) ((θ_run Cert.OutIdeal.defs _ _).mono
    (fun r h (c : Dev Cert.OutIdeal.nD) => (h c).1 10) (Cert.OutIdeal.Gen.run_main m g))

/-- Kernel and reference end with the same tokens. -/
theorem algebraic : Cert.algebraic_OutIdeal_OutRefIdeal := by
  intro m g m' g' _ hm
  refine ⟨fun c => residualOf (argO m c) (argW m c) (argX m c) (argG m c), ?_, ?_⟩
  · exact (θ_run Cert.OutIdeal.defs _ _).mono (fun r h c => ⟨(h.2 c).trans (final_residual m c), h.1 c⟩) (run_list m g)
  · refine (θ_run Cert.OutRefIdeal.defs _ _).mono (fun r h c => ⟨(h c).1.trans ?_, (h c).2⟩) (Cert.OutRefIdeal.Value.run (F := Ideal) m' g')
    exact (Cert.OutRefIdeal.Read.val_main_v4_eq _ _ _ _).trans
      (reference_result (hm c).1 (hm c).2.1 (hm c).2.2.1 (hm c).2.2.2.1)

end Cert.Residual

end
-- ==== Proof.FoldCases.lean ====
module

public import proofs.«01_k».proof.Proof.Gen.FoldIdeal.Frame
public import Idealize.ShloMosaic.Lib.Claim
public import Idealize.ShloMosaic.Lib.Pipeline.Value
public import Idealize.ShloMosaic.Lib.Tactic

/-! # The folded output projection: what the two kinds of grid points leave

The mixed rows come as two halves. A point of the lower half takes its rows as they are; a point of the upper half takes
the block it mirrors, its rows in reverse order. Either stores its rows first and then reads them back. -/

@[expose] public section

set_option maxRecDepth 16384

noncomputable section

namespace Cert.Folded

open Cert.FoldIdeal Cert.FoldIdeal.Gen
open Idealize.ShloMosaic Idealize.ShloMosaic.TcCoe Idealize.SL.Sem

variable {F : FTy → Type} [FloatOps F]
variable (m : (ℓ : Loc nD τ sig) → Buf (Elt F) ℓ) (c : Dev nD)

/-- Loads of two axes start at the origin. -/
theorem origin2 : (![0, 0] : Fin 2 → ℕ) = fun _ => 0 := funext fun a => by fin_cases a <;> rfl

/-- Loads of three axes start at the origin. -/
theorem origin3 : (![0, 0, 0] : Fin 3 → ℕ) = fun _ => 0 := funext fun a => by fin_cases a <;> rfl

/-- The first row of the eight at the mirrored block's end. -/
def edge (x : Vec F S1x8x1024 .bf16) : Vec F S1x1x1024 .bf16 :=
  View.ld x (Rect.unit (s := S1x8x1024) ![0, 0, 0] S1x1x1024.size inb_S1x8x1024_S1x1x1024_0_0_0)

set_option maxHeartbeats 2000000 in
/-- A point of the lower half. -/
theorem lower_left (t : Fin cfg0.N) (h0 : (t.val % 8 = 0 ∨ t.val % 8 = 1 ∨ t.val % 8 = 2 ∨ t.val % 8 = 3))
    (h1 : ¬(t.val % 8 = 4 ∨ t.val % 8 = 5 ∨ t.val % 8 = 6 ∨ t.val % 8 = 7)) :
    (outsAt0 m c t.val t.isLt).1 = k0_pay4 (k0_pay2 (X0_0 m c t)) (iblk m c 4 t) (iblk m c 5 t) (iblk m c 3 t) := by
  rw [outsAt0_A m c t h0 h1]
  dsimp only
  unfold out0_A_12
  rw [View.read_writes_eq_canon _ _ _ (cover0_A_12 c (grid0.coords t) _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S512x1024) origin2, View.readCov_unit_zero (S := S512x1024) _ origin2]
  simp only [View.readAt_eq_ld, (hs0_0 t).read_unread, (hs0_3 t).read_unread, (hs0_4 t).read_unread, (hs0_5 t).read_unread,
    View.ld_unit_zero (S := S512x1024) origin2, View.ld_unit_zero (S := S1024x1024) origin2,
    View.ld_unit_zero (S := S1x512x1024) origin3, View.ld_unit_zero (S := S1x1x1024) origin3]

set_option maxHeartbeats 2000000 in
/-- A point of the upper half. -/
theorem upper_left (t : Fin cfg0.N) (h0 : ¬(t.val % 8 = 0 ∨ t.val % 8 = 1 ∨ t.val % 8 = 2 ∨ t.val % 8 = 3))
    (h1 : (t.val % 8 = 4 ∨ t.val % 8 = 5 ∨ t.val % 8 = 6 ∨ t.val % 8 = 7)) :
    (outsAt0 m c t.val t.isLt).1 = k0_pay4 (k0_pay3 (X0_1 m c t) (edge (iblk m c 2 t))) (iblk m c 4 t) (iblk m c 5 t) (iblk m c 3 t) := by
  rw [outsAt0_B m c t h0 h1]
  dsimp only
  unfold out0_B_12
  rw [View.read_writes_eq_canon _ _ _ (cover0_B_12 c (grid0.coords t) _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S512x1024) origin2, View.readCov_unit_zero (S := S512x1024) _ origin2]
  simp only [View.readAt_eq_ld, (hs0_1 t).read_unread, (hs0_2 t).read_unread, (hs0_3 t).read_unread, (hs0_4 t).read_unread, (hs0_5 t).read_unread,
    View.ld_unit_zero (S := S512x1024) origin2, View.ld_unit_zero (S := S1024x1024) origin2,
    View.ld_unit_zero (S := S1x512x1024) origin3, View.ld_unit_zero (S := S1x1x1024) origin3]
  rfl

end Cert.Folded

end
-- ==== Proof.FoldBody.lean ====
module

public import proofs.«01_k».proof.Proof.Entry
public import proofs.«01_k».proof.Proof.OutBlock
public import proofs.«01_k».proof.Proof.FoldCases

/-! # The folded output projection: the body and the arrays it is given

The rows of the lower half are handed over in order. Those of the upper half are handed over in reverse order, and the body
turns each block round again by a product with a matrix of zeros and ones; the row this product cannot reach is the
first row of the next block. -/

@[expose] public section

set_option maxRecDepth 16384

noncomputable section

namespace Cert.Folded

open Cert.FoldIdeal Cert.FoldIdeal.Gen
open Idealize.ShloMosaic hiding ix0 ix1 ix2 ix3 ix4 ix5
open Idealize.ShloMosaic.TcCoe Idealize.ShloMosaic.ValueIdx Idealize.SL.Sem Finset

/-- Rows that the lower half's points store are the block's. -/
theorem kept_apply (x : Vec Ideal S1x512x1024 .bf16) (r : Fin 512) (l : Fin 1024) : @Eq EReal (k0_pay2 x (ix2 r l)) (x (ix3 0 r l)) := by
  unfold k0_pay2
  rw [shapeCast_self]
  exact shapeCast_apply _ _ _ _ (by
    rw [Shape.rowMajor_val_three, Shape.rowMajor_val_two]
    show (0 * 512 + r.val) * 1024 + l.val = r.val * 1024 + l.val
    omega)

/-- Whether a column is the mirror image of a row. -/
theorem mirror_word (r k : Fin 512) : IntOp.cmpi .eq (BitVec.ofNat 32 k.val) (IntOp.subi 512#32 (BitVec.ofNat 32 r.val))
    = if k.val + r.val = 512 then 1#1 else 0#1 := by
  have hr := r.isLt
  have hk := k.isLt
  have e : IntOp.subi 512#32 (BitVec.ofNat 32 r.val) = BitVec.ofNat 32 (512 - r.val) := by
    apply BitVec.eq_of_toNat_eq
    simp only [IntOp.subi, BitVec.toNat_sub, BitVec.toNat_ofNat]
    omega
  rw [e]
  by_cases h : k.val + r.val = 512
  · rw [if_pos h]
    have : k.val = 512 - r.val := by omega
    rw [this]
    simp [IntOp.cmpi]
  · rw [if_neg h]
    have : ¬ BitVec.ofNat 32 k.val = BitVec.ofNat 32 (512 - r.val) := fun q => h (by
      have := congrArg BitVec.toNat q
      simp only [BitVec.toNat_ofNat] at this
      omega)
    show BitVec.ofBool _ = _
    rw [beq_eq_false_iff_ne.mpr this]
    rfl

/-- Whether a row is the first. -/
theorem first_word (r : Fin 512) : IntOp.cmpi .eq (BitVec.ofNat 32 r.val) 0#32 = if r.val = 0 then 1#1 else 0#1 := by
  revert r
  decide +kernel

/-- A product of a square of 512 with a block of rows. -/
theorem turn_apply (x : FVec Ideal S512x512 .bf16) (y : FVec Ideal S512x1024 .bf16) (r : Fin 512) (j : Fin 1024) :
    matmul dot_S512x512_S512x1024_S512x1024_1_0_0_1_n_n none x y (constant S512x1024 .f32 0x00000000#32) (ix2 r j)
      = ∑ k : Fin 512, x (ix2 r k) * y (ix2 k j) := by
  simp only [matmul]
  rw [Ideal.matmul_constant_zero_apply,
    ← Equiv.sum_comp (contrEquiv1 dot_S512x512_S512x1024_S512x1024_1_0_0_1_n_n 512 rfl rfl).symm]
  refine sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r j)
      ((contrEquiv1 dot_S512x512_S512x1024_S512x1024_1_0_0_1_n_n 512 rfl rfl).symm k) = ix2 r k :=
    funext fun a => Fin.ext (by
      match a with
      | ⟨0, _⟩ => rfl
      | ⟨1, _⟩ => exact (DotDims.lhsIdx_val_of_single _ rfl _ _).trans hk)
  have er : dot_S512x512_S512x1024_S512x1024_1_0_0_1_n_n.rhsIdx (ix2 r j)
      ((contrEquiv1 dot_S512x512_S512x1024_S512x1024_1_0_0_1_n_n 512 rfl rfl).symm k) = ix2 k j :=
    funext fun a => Fin.ext (by
      match a with
      | ⟨0, _⟩ => exact (DotDims.rhsIdx_val_of_single _ rfl _ _).trans hk
      | ⟨1, _⟩ => rfl)
  rw [el, er]

/-- The matrix that turns a block of rows round. -/
def turning : FVec Ideal S512x512 .bf16 :=
  truncf .bf16 (select (cmpi .eq (iota .tc S512x512 32 [1] iota_S512x512_d1_w32)
    (subi (broadcast S512x512 512#32) (iota .tc S512x512 32 [0] iota_S512x512_d0_w32)))
    (broadcast S512x512 (Scalar.ofBits .f32 0x3F800000#32 : Ideal .f32)) (broadcast S512x512 (Scalar.ofBits .f32 0x00000000#32 : Ideal .f32))) bitsLt_bf16_f32

/-- Its elements: a row's one stands in the mirrored column. -/
theorem turning_apply (r k : Fin 512) : @Eq EReal (turning (ix2 r k)) (if k.val + r.val = 512 then 1 else 0) := by
  have h : turning (ix2 r k) = Scalar.select (α := EReal)
      (IntOp.cmpi .eq (BitVec.ofNat 32 (0 * 512 + k.val)) (IntOp.subi 512#32 (BitVec.ofNat 32 (0 * 512 + r.val))))
      (Ideal.ofBits .f32 0x3F800000#32) (Ideal.ofBits .f32 0x00000000#32) := rfl
  rw [h, zero_mul, zero_add, zero_add, mirror_word]
  split
  · exact Cert.Attn.one_bits
  · exact Ideal.ofBits_zero_f32

/-- A turned block's rows: the mirrored ones. -/
theorem turned_rows (y : FVec Ideal S512x1024 .bf16) (r k : Fin 512) (h : k.val + r.val = 512) (j : Fin 1024) :
    ∑ k : Fin 512, turning (ix2 r k) * y (ix2 k j) = y (ix2 k j) := by
  refine (sum_eq_single k (fun i _ hi => ?_) fun h => absurd (mem_univ k) h).trans ?_
  · refine (congrArg (fun u : EReal => u * y (ix2 i j)) (turning_apply r i)).trans ?_
    rw [if_neg (fun q => hi (Fin.ext (by omega))), zero_mul]
  · refine (congrArg (fun u : EReal => u * y (ix2 k j)) (turning_apply r k)).trans ?_
    rw [if_pos h, one_mul]

/-- What the upper half's points store: which of the two sources a row comes from. -/
theorem mirrored_apply (x : Vec Ideal S1x512x1024 .bf16) (e : Vec Ideal S1x1x1024 .bf16) (r : Fin 512) (j : Fin 1024) :
    @Eq EReal (k0_pay3 x e (ix2 r j)) (if r.val = 0 then e (ix3 0 0 j)
      else ∑ k : Fin 512, turning (ix2 r k) * k0_pay2 x (ix2 k j)) := by
  have h : k0_pay3 x e (ix2 r j) = Scalar.select (α := EReal) (IntOp.cmpi .eq (BitVec.ofNat 32 (0 * 512 + r.val)) 0#32)
      (broadcastTo S512x1024 (shapeCast S1x1024 (shapeCast S1x1024 e shapeCasts_S1x1x1024_S1x1024) shapeCasts_S1x1024_S1x1024) broadcasts_S1x1024_S512x1024 (ix2 r j))
      (matmul dot_S512x512_S512x1024_S512x1024_1_0_0_1_n_n none turning (k0_pay2 x) (constant S512x1024 .f32 0x00000000#32) (ix2 r j)) := by
    unfold k0_pay3 k0_pay2
    simp only [shapeCast_self]
    rfl
  have q1 : ∀ u v : EReal, Scalar.select 1#1 u v = u := fun _ _ => rfl
  have q0 : ∀ u v : EReal, Scalar.select 0#1 u v = v := fun _ _ => rfl
  rw [h, zero_mul, zero_add, first_word]
  split
  · refine (q1 _ _).trans ((broadcastTo_apply _ broadcasts_S1x1024_S512x1024 (ix2 r j) (ix2 0 j) (fun b => by
        match b with
        | ⟨0, _⟩ => rfl
        | ⟨1, _⟩ => rfl)).trans ?_)
    rw [shapeCast_self]
    exact shapeCast_apply _ _ _ _ (by rw [Shape.rowMajor_val_three, Shape.rowMajor_val_two]; simp [ix3, ix2])
  · exact (q0 _ _).trans (turn_apply _ _ r j)

/-- The projection is the one of the plain rows. -/
theorem stored_same (a : Vec Ideal S512x1024 .bf16) (x : Vec Ideal S512x1024 .f32) (g : Vec Ideal S1x1x1024 .f32) (w : Vec Ideal S1024x1024 .bf16) :
    k0_pay4 a x g w = Cert.OutIdeal.Gen.k0_pay2 a x g w := by
  unfold k0_pay4 Cert.OutIdeal.Gen.k0_pay2
  simp only [shapeCast_self]
  rfl

variable (m : (ℓ : Loc nD τ sig) → Buf (Elt Ideal) ℓ) (c : Dev nD)

/-- The mixed rows. -/
abbrev argO : FVec Ideal S8x4096x1024 .f32 := m ((c : Thread nD τ).loc main_arg0)
/-- The output weights. -/
abbrev argW : FVec Ideal S1024x1024 .f32 := m ((c : Thread nD τ).loc main_arg1)
/-- The tokens. -/
abbrev argX : FVec Ideal S8x4096x1024 .f32 := m ((c : Thread nD τ).loc main_arg2)
/-- The gates. -/
abbrev argG : FVec Ideal S8x1x1024 .f32 := m ((c : Thread nD τ).loc main_arg3)

/-- The lower half, in order. -/
theorem lower_entry (b : Fin 8) (i : Fin 2112) (l : Fin 1024) (n : Fin 4096) (hn : n.val = i.val) (hi : i.val ≤ 2048) :
    @Eq EReal (V m c main_v13 (ix3 b i l)) (argO m c (ix3 b n l)) := by
  unfold V
  simp only [hostOps0, List.flatten_cons, List.flatten_nil, List.append_nil, List.cons_append, List.nil_append]
  entry_read
  refine (concatenate_pair_apply_left (t := S8x2112x1024) 1 (s₁ := S8x2049x1024) (s₂ := S8x63x1024) _ _
    concatenates_S8x2049x1024_S8x63x1024_S8x2112x1024_d1 _ rfl (ix3 b ⟨i.val, by omega⟩ l)
    (fun a => match a with | ⟨0, _⟩ => rfl | ⟨1, _⟩ => rfl | ⟨2, _⟩ => rfl)).trans ?_
  refine (extractStridedSlice_apply _ _ _ _ (ix3 b n l) fun a => by
    match a with
    | ⟨0, _⟩ => exact (Nat.zero_add _).symm
    | ⟨1, _⟩ => show n.val = 0 + i.val; omega
    | ⟨2, _⟩ => exact (Nat.zero_add _).symm).trans ?_
  rfl

/-- What the arrays hold before the upper half's pieces are joined. -/
abbrev pieces (b : Ref sig .tc) : Buf (Elt Ideal) ((c : Thread nD τ).loc b) :=
  StableHlo.after (hostOps0.take 20) (fun b => m (c, b)) b

/-- The upper half's list: the first row, the reversed rows, zeros. -/
theorem upper_list : V m c main_v17 = concatenate S8x2112x1024 1
    [⟨S8x1x1024, pieces m c main_v14⟩, ⟨S8x2048x1024, pieces m c main_v16⟩, ⟨S8x63x1024, pieces m c main_v10⟩]
    concatenates_S8x1x1024_S8x2048x1024_S8x63x1024_S8x2112x1024_d1 := by
  have hs : (hostOps0 : List (HloOp τ sig (Elt Ideal))) = hostOps0.take 20 ++ (hostOps0.drop 20).take 1 ++ hostOps0.drop 21 := rfl
  unfold V
  rw [hs, StableHlo.after_append, StableHlo.after_append]
  rw [StableHlo.after_of_forall_not_mem (b := Proc.devRef .tc main_v17) (hostOps0.drop 21) _ (List.forall_iff_forall_mem.mp (by
    simp only [hostOps0, List.drop_succ_cons, List.drop_zero, List.Forall, StableHlo.unary_writes, StableHlo.reshape_writes, Finset.mem_singleton]
    repeat' apply And.intro
    all_goals exact StableHlo.devRef_ne_of_ne (by decide)))]
  simp only [hostOps0, List.drop_succ_cons, List.drop_zero, List.take_succ_cons, List.take_zero, StableHlo.after_cons (_ : HloOp τ sig (Elt Ideal)) []]
  exact StableHlo.nary_result _ _ _ _ _ _

/-- The reversed rows. -/
theorem reversed_entry (b : Fin 8) (i : Fin 2048) (l : Fin 1024) (n : Fin 4096) (hn : n.val + i.val = 4095) :
    @Eq EReal (pieces m c main_v16 (ix3 b i l)) (argO m c (ix3 b n l)) := by
  unfold pieces
  simp only [hostOps0, List.take_succ_cons, List.take_zero]
  entry_read
  refine (extractStridedSlice_apply _ _ _ _ (ix3 b n l) fun a => by
    match a with
    | ⟨0, _⟩ => exact (Nat.zero_add _).symm
    | ⟨1, _⟩ => show n.val = 2048 + (2048 - (i.val + 1)); omega
    | ⟨2, _⟩ => exact (Nat.zero_add _).symm).trans ?_
  rfl

/-- The upper half, in reverse order behind the first row. -/
theorem upper_entry (b : Fin 8) (i : Fin 2112) (l : Fin 1024) (n : Fin 4096) (hn : n.val + i.val = 4096) (hi : i.val ≤ 2048) :
    @Eq EReal (V m c main_v17 (ix3 b i l)) (argO m c (ix3 b n l)) := by
  have h1 : 1 ≤ i.val := by have := n.isLt; omega
  refine (congrFun (upper_list m c) _).trans ?_
  refine (concatenate_apply_piece (t := S8x2112x1024) 1 [⟨S8x1x1024, pieces m c main_v14⟩, ⟨S8x2048x1024, pieces m c main_v16⟩, ⟨S8x63x1024, pieces m c main_v10⟩] concatenates_S8x1x1024_S8x2048x1024_S8x63x1024_S8x2112x1024_d1 (ix3 b i l) 1 (by simp)
    S8x2048x1024 _ rfl rfl 1 rfl (ix3 b ⟨i.val - 1, by omega⟩ l)
    (fun a ha => match a with | ⟨0, _⟩ => rfl | ⟨1, _⟩ => absurd rfl ha | ⟨2, _⟩ => rfl)
    (by show 1 + (i.val - 1) = i.val; omega)).trans ?_
  exact reversed_entry m c b _ l n (by show n.val + (i.val - 1) = 4095; omega)

/-- The output weights. -/
theorem weights_entry (i : S1024x1024.Idx) : @Eq EReal (V m c main_v18 i) (argW m c i) := by
  unfold V
  simp only [hostOps0, List.flatten_cons, List.flatten_nil, List.append_nil, List.cons_append, List.nil_append]
  entry_read
  rfl

/-- The list of tokens. -/
theorem tokens_entry (b : Fin 8) (n : Fin 4096) (j : Fin 1024) (r : Fin 32768) (hr : r.val = 4096 * b.val + n.val) :
    @Eq EReal (V m c main_v19 (ix2 r j)) (argX m c (ix3 b n j)) := by
  unfold V
  simp only [hostOps0, List.flatten_cons, List.flatten_nil, List.append_nil, List.cons_append, List.nil_append]
  entry_read
  exact Cert.Residual.joined_apply _ b n j r hr

end Cert.Folded

end
-- ==== Proof.FoldBlock.lean ====
module

public import proofs.«01_k».proof.Proof.FoldBody

/-! # The folded output projection's kernel: what a grid point reads and leaves

A grid point is a block of 512 tokens; eight of them make a batch entry. The first four read the mixed rows from the lower
half; the last four read them from the upper half, which lies in reverse order. -/

@[expose] public section

set_option maxRecDepth 16384

noncomputable section

namespace Cert.Folded

open Cert.FoldIdeal Cert.FoldIdeal.Gen
open Idealize.ShloMosaic hiding ix0 ix1 ix2 ix3 ix4 ix5
open Idealize.ShloMosaic.TcCoe Idealize.ShloMosaic.ValueIdx Idealize.SL.Sem Finset

variable (m : (ℓ : Loc nD τ sig) → Buf (Elt Ideal) ℓ) (c : Dev nD)

/-- There are 64 grid points. -/
theorem points (t : Fin cfg0.N) : t.val < 64 := lt_of_lt_of_eq t.isLt N_0

/-- The grid point's batch entry. -/
def batch (t : Fin cfg0.N) : Fin 8 := ⟨t.val / 8, by have := points t; omega⟩
/-- A token of the block, within its batch entry. -/
def token (t : Fin cfg0.N) (r : Fin 512) : Fin 4096 := ⟨512 * (t.val % 8) + r.val, by omega⟩
/-- A token of the block, in the list. -/
def place (t : Fin cfg0.N) (r : Fin 512) : Fin 32768 := ⟨512 * t.val + r.val, by have := points t; omega⟩

theorem place_eq (t : Fin cfg0.N) (r : Fin 512) : (place t r).val = 4096 * (batch t).val + (token t r).val := by
  show 512 * t.val + r.val = 4096 * (t.val / 8) + (512 * (t.val % 8) + r.val)
  omega

/-- Which block of each array a grid point has. -/
theorem index_eq : ∀ t : Fin grid0.N,
    win0_0.index t = ![t.val / 8, min (t.val % 8) 3, 0]
    ∧ win0_1.index t = ![t.val / 8, min (7 - t.val % 8) 3, 0]
    ∧ win0_2.index t = ![t.val / 8, 64 * max 1 (min (8 - t.val % 8) 4), 0]
    ∧ win0_3.index t = ![0, 0]
    ∧ win0_4.index t = ![t.val, 0]
    ∧ win0_5.index t = ![t.val / 8, 0, 0]
    ∧ win0_12.index t = ![t.val, 0] := by
  decide +kernel

/-- The lower half's block. -/
theorem lower_block (t : Fin cfg0.N) (h : t.val % 8 < 4) (r : Fin 512) (l : Fin 1024) :
    @Eq EReal (X0_0 m c t (ix3 0 r l)) (argO m c (ix3 (batch t) (token t r) l)) := by
  unfold X0_0 Pipeline.Window.fill
  rw [dif_pos (moved0_0 t _)]
  refine (congrArg (V m c main_v13) (?_ : _ = ix3 (batch t) ⟨512 * (t.val % 8) + r.val, by omega⟩ l)).trans
    (lower_entry m c (batch t) _ l (token t r) rfl (by show 512 * (t.val % 8) + r.val ≤ 2048; omega))
  refine funext fun a => Fin.ext ?_
  blk_simp [index_eq t]
  match a with
  | ⟨0, _⟩ => show t.val / 8 * 1 + 0 = t.val / 8; omega
  | ⟨1, _⟩ => show min (t.val % 8) 3 * 512 + r.val = 512 * (t.val % 8) + r.val; omega
  | ⟨2, _⟩ => show 0 * 1024 + l.val = l.val; omega

/-- The upper half's block: row `k` is the token that lies `k` before the block's end. -/
theorem upper_block (t : Fin cfg0.N) (h : ¬ t.val % 8 < 4) (k r : Fin 512) (hk : k.val + r.val = 512) (l : Fin 1024) :
    @Eq EReal (X0_1 m c t (ix3 0 k l)) (argO m c (ix3 (batch t) (token t r) l)) := by
  unfold X0_1 Pipeline.Window.fill
  rw [dif_pos (moved0_1 t _)]
  refine (congrArg (V m c main_v17) (?_ : _ = ix3 (batch t) ⟨512 * (7 - t.val % 8) + k.val, by omega⟩ l)).trans
    (upper_entry m c (batch t) _ l (token t r) (by show 512 * (t.val % 8) + r.val + (512 * (7 - t.val % 8) + k.val) = 4096; omega)
      (by show 512 * (7 - t.val % 8) + k.val ≤ 2048; omega))
  refine funext fun a => Fin.ext ?_
  blk_simp [index_eq t]
  match a with
  | ⟨0, _⟩ => show t.val / 8 * 1 + 0 = t.val / 8; omega
  | ⟨1, _⟩ => show min (7 - t.val % 8) 3 * 512 + k.val = 512 * (7 - t.val % 8) + k.val; omega
  | ⟨2, _⟩ => show 0 * 1024 + l.val = l.val; omega

/-- The row behind the upper half's block is the block's first token. -/
theorem edge_block (t : Fin cfg0.N) (h : ¬ t.val % 8 < 4) (l : Fin 1024) :
    @Eq EReal (edge (F := Ideal) (iblk m c 2 t) (ix3 0 0 l)) (argO m c (ix3 (batch t) (token t 0) l)) := by
  have e : @Eq EReal (edge (F := Ideal) (iblk m c 2 t) (ix3 0 0 l)) (iblk m c 2 t (ix3 0 0 l)) :=
    View.ld_unit_apply_of _ _ _ _ _ _ fun a => by
      match a with
      | ⟨0, _⟩ => rfl
      | ⟨1, _⟩ => rfl
      | ⟨2, _⟩ => exact (Nat.zero_add _).symm
  refine e.trans ?_
  refine (congrArg (V m c main_v17) (?_ : _ = ix3 (batch t) ⟨512 * (8 - t.val % 8), by omega⟩ l)).trans
    (upper_entry m c (batch t) _ l (token t 0) (by show 512 * (t.val % 8) + 0 + 512 * (8 - t.val % 8) = 4096; omega)
      (by show 512 * (8 - t.val % 8) ≤ 2048; omega))
  refine funext fun a => Fin.ext ?_
  blk_simp [index_eq t]
  match a with
  | ⟨0, _⟩ => show t.val / 8 * 1 + 0 = t.val / 8; omega
  | ⟨1, _⟩ => show 64 * max 1 (min (8 - t.val % 8) 4) * 8 + 0 = 512 * (8 - t.val % 8); omega
  | ⟨2, _⟩ => show 0 * 1024 + l.val = l.val; omega

/-- The weights. -/
theorem weights_block (t : Fin cfg0.N) (k j : Fin 1024) :
    @Eq EReal (iblk m c 3 t (ix2 k j)) (argW m c (ix2 k j)) := by
  refine (congrArg (V m c main_v18) (funext fun a => Fin.ext ?_)).trans (weights_entry m c (ix2 k j))
  blk_simp [index_eq t]
  match a with
  | ⟨0, _⟩ => show 0 * 1024 + k.val = k.val; omega
  | ⟨1, _⟩ => show 0 * 1024 + j.val = j.val; omega

/-- The block of tokens. -/
theorem tokens_block (t : Fin cfg0.N) (r : Fin 512) (l : Fin 1024) :
    @Eq EReal (iblk m c 4 t (ix2 r l)) (argX m c (ix3 (batch t) (token t r) l)) := by
  refine (congrArg (V m c main_v19) (funext fun a => Fin.ext ?_)).trans (tokens_entry m c _ _ l (place t r) (place_eq t r))
  blk_simp [index_eq t]
  match a with
  | ⟨0, _⟩ => show t.val * 512 + r.val = 512 * t.val + r.val; omega
  | ⟨1, _⟩ => show 0 * 1024 + l.val = l.val; omega

/-- The batch entry's gates. -/
theorem gates_block (t : Fin cfg0.N) (l : Fin 1024) :
    @Eq EReal (iblk m c 5 t (ix3 0 0 l)) (argG m c (ix3 (batch t) 0 l)) := by
  refine (congrArg (V m c main_arg3) (funext fun a => Fin.ext ?_)).trans (congrFun (V_main_arg3 m c) _)
  blk_simp [index_eq t]
  match a with
  | ⟨0, _⟩ => show t.val / 8 * 1 + 0 = t.val / 8; omega
  | ⟨1, _⟩ => rfl
  | ⟨2, _⟩ => show 0 * 1024 + l.val = l.val; omega

/-- The rows a grid point of the first four takes. -/
theorem lower_rows (t : Fin cfg0.N) (h : t.val % 8 < 4) (r : Fin 512) (l : Fin 1024) :
    @Eq EReal (k0_pay2 (X0_0 m c t) (ix2 r l)) (argO m c (ix3 (batch t) (token t r) l)) :=
  (kept_apply _ r l).trans (lower_block m c t h r l)

/-- The rows a grid point of the last four takes, turned round. -/
theorem upper_rows (t : Fin cfg0.N) (h : ¬ t.val % 8 < 4) (r : Fin 512) (l : Fin 1024) :
    @Eq EReal (k0_pay3 (X0_1 m c t) (edge (F := Ideal) (iblk m c 2 t)) (ix2 r l)) (argO m c (ix3 (batch t) (token t r) l)) := by
  refine (mirrored_apply _ _ r l).trans ?_
  split
  · next h0 =>
    obtain rfl : r = 0 := Fin.ext h0
    exact edge_block m c t h l
  · next h0 =>
    refine (turned_rows _ r ⟨512 - r.val, by omega⟩ (by show 512 - r.val + r.val = 512; omega) l).trans ?_
    exact (kept_apply _ _ l).trans (upper_block m c t h _ r (by show 512 - r.val + r.val = 512; omega) l)

/-- What is stored, given the rows. -/
theorem stored_block (t : Fin cfg0.N) (a : FVec Ideal S512x1024 .bf16)
    (ha : ∀ r l, @Eq EReal (a (ix2 r l)) (argO m c (ix3 (batch t) (token t r) l))) (r : Fin 512) (j : Fin 1024) :
    @Eq EReal (k0_pay4 a (iblk m c 4 t) (iblk m c 5 t) (iblk m c 3 t) (ix2 r j))
      (Cert.Residual.residual (argO m c) (argW m c) (argX m c) (argG m c) (batch t) (token t r) j) := by
  refine (congrFun (stored_same _ _ _ _) _).trans ((Cert.Residual.stored_apply _ _ _ _ r j).trans ?_)
  unfold Cert.Residual.residual
  refine congrArg₂ (fun u v : EReal => u + v) (tokens_block m c t r j) (congrArg₂ (fun u v : EReal => u * v) (gates_block m c t j) ?_)
  exact sum_congr rfl fun k _ => congrArg₂ (fun u v : EReal => u * v) (ha r k) (weights_block m c t k j)

/-- What a grid point leaves in its block of the result. -/
theorem out_block (t : Fin cfg0.N) (r : Fin 512) (j : Fin 1024) :
    @Eq EReal ((outsAt0 m c t.val t.isLt).1 (ix2 r j))
      (Cert.Residual.residual (argO m c) (argW m c) (argX m c) (argG m c) (batch t) (token t r) j) := by
  by_cases h : t.val % 8 < 4
  · rw [lower_left m c t (by omega) (by omega)]
    exact stored_block m c t _ (lower_rows m c t h) r j
  · rw [upper_left m c t (by omega) (by omega)]
    exact stored_block m c t _ (upper_rows m c t h) r j

/-- After the run the list holds the tokens with the projection added. -/
theorem final_residual : (dats m 0 c).arrAt 12 cfg0.N = Cert.Residual.residualOf (argO m c) (argW m c) (argX m c) (argG m c) := by
  refine (dats m 0 c).arrAt_eq_of_covers 12 _ (by decide +kernel) fun t hf y => ?_
  blk_simp
  rw [after0_12]
  obtain ⟨r, hr⟩ : ∃ r : Fin 512, r = y 0 := ⟨y 0, rfl⟩
  obtain ⟨j, hj⟩ : ∃ j : Fin 1024, j = y 1 := ⟨y 1, rfl⟩
  have ey : y = ix2 r j := funext fun a => by
    match a with
    | ⟨0, _⟩ => exact hr.symm
    | ⟨1, _⟩ => exact hj.symm
  have e0 : (((cfg0.win 12).blk t).view.emb y 0).val = (place t r).val := by
    blk_simp [index_eq t]
    rw [hr]
    show t.val * 512 + (y 0).val = 512 * t.val + (y 0).val
    omega
  have e1 : (((cfg0.win 12).blk t).view.emb y 1).val = j.val := by
    blk_simp [index_eq t]
    rw [hj]
  refine (congrArg (outsAt0 m c t.val t.isLt).1 ey).trans ((out_block m c t r j).trans ?_)
  have h := place_eq t r
  have ht : (token t r).val < 4096 := (token t r).isLt
  unfold Cert.Residual.residualOf
  congr 1
  · exact Fin.ext (by show (batch t).val = (((cfg0.win 12).blk t).view.emb y 0).val / 4096; rw [e0]; omega)
  · exact Fin.ext (by show (token t r).val = (((cfg0.win 12).blk t).view.emb y 0).val % 4096; rw [e0]; omega)
  · exact Fin.ext (by show j.val = (((cfg0.win 12).blk t).view.emb y 1).val; rw [e1])

end Cert.Folded

end
-- ==== Proof.FoldClaims.lean ====
module

public import proofs.«01_k».proof.Defs
public import proofs.«01_k».proof.Proof.FoldBlock
public import proofs.«01_k».proof.Proof.OutClaims
public import proofs.«01_k».proof.Proof.Gen.Fold.Frame
public import proofs.«01_k».proof.Proof.Gen.FoldIdeal.Frame
public import Idealize.ShloMosaic.Lib.Claim
public import Idealize.ShloMosaic.Lib.Bf16PairInverse

/-! # The claims about the folded output projection -/

@[expose] public section

noncomputable section

namespace Cert.Folded

open Idealize.ShloMosaic Idealize.SL.Sem

/-- The rewriting of bf16 pairs that the ideal kernel was printed with is sound at every shape it was used at. -/
theorem preserved : Cert.preserves_Fold_FoldIdeal :=
  ⟨IdealRules.bf16_pair.bufferStatement _ _, IdealRules.bf16_pair.bufferStatement _ _, IdealRules.bf16_pair.statement _ _,
    IdealRules.bf16_pack.statement _⟩

/-- Every execution of the kernel ends with its first result the array the grid points wrote, the arguments kept. -/
theorem run_list (m : (ℓ : Loc Cert.FoldIdeal.nD Cert.FoldIdeal.τ Cert.FoldIdeal.sig) → Buf (Elt Ideal) ℓ) (g : Dev Cert.FoldIdeal.nD → PrngReg) :
    θ_run Cert.FoldIdeal.defs (onTc (τ := Cert.FoldIdeal.τ) (Cert.FoldIdeal.main (F := Ideal))) ⟨m, fun _ => 0, g⟩ (fun r =>
      (∀ c : Dev Cert.FoldIdeal.nD,
        r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
        ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
        ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
        ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
        ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4)
        ∧ r.2.mem ((c.tc : Thread Cert.FoldIdeal.nD Cert.FoldIdeal.τ).loc Cert.FoldIdeal.main_arg5) = m ((c.tc : Thread Cert.FoldIdeal.nD Cert.FoldIdeal.τ).loc Cert.FoldIdeal.main_arg5)
        ∧ r.2.mem ((c.tc : Thread Cert.FoldIdeal.nD Cert.FoldIdeal.τ).loc Cert.FoldIdeal.main_arg6) = m ((c.tc : Thread Cert.FoldIdeal.nD Cert.FoldIdeal.τ).loc Cert.FoldIdeal.main_arg6)
        ∧ r.2.mem ((c.tc : Thread Cert.FoldIdeal.nD Cert.FoldIdeal.τ).loc Cert.FoldIdeal.main_arg7) = m ((c.tc : Thread Cert.FoldIdeal.nD Cert.FoldIdeal.τ).loc Cert.FoldIdeal.main_arg7)
        ∧ r.2.mem ((c.tc : Thread Cert.FoldIdeal.nD Cert.FoldIdeal.τ).loc Cert.FoldIdeal.main_arg8) = m ((c.tc : Thread Cert.FoldIdeal.nD Cert.FoldIdeal.τ).loc Cert.FoldIdeal.main_arg8)
        ∧ r.2.mem ((c.tc : Thread Cert.FoldIdeal.nD Cert.FoldIdeal.τ).loc Cert.FoldIdeal.main_arg9) = m ((c.tc : Thread Cert.FoldIdeal.nD Cert.FoldIdeal.τ).loc Cert.FoldIdeal.main_arg9)
        ∧ r.2.mem ((c.tc : Thread Cert.FoldIdeal.nD Cert.FoldIdeal.τ).loc Cert.FoldIdeal.main_arg10) = m ((c.tc : Thread Cert.FoldIdeal.nD Cert.FoldIdeal.τ).loc Cert.FoldIdeal.main_arg10))
      ∧ ∀ c : Dev Cert.FoldIdeal.nD, r.2.mem ((c.tc : Thread Cert.FoldIdeal.nD Cert.FoldIdeal.τ).loc Cert.FoldIdeal.main_v21_0)
          = (Cert.FoldIdeal.Gen.dats m 0 c).arrAt 12 Cert.FoldIdeal.cfg0.N) :=
  θ_run_and (Cert.FoldIdeal.Gen.unchanged m g) ((θ_run Cert.FoldIdeal.defs _ _).mono
    (fun r h (c : Dev Cert.FoldIdeal.nD) => (h c).1 12) (Cert.FoldIdeal.Gen.run_main m g))

/-- Kernel and reference end with the same tokens. -/
theorem algebraic : Cert.algebraic_FoldIdeal_OutRefIdeal := by
  intro m g m' g' _ hm
  refine ⟨fun c => Cert.Residual.residualOf (argO m c) (argW m c) (argX m c) (argG m c), ?_, ?_⟩
  · exact (θ_run Cert.FoldIdeal.defs _ _).mono (fun r h c => ⟨(h.2 c).trans (final_residual m c), h.1 c⟩) (run_list m g)
  · refine (θ_run Cert.OutRefIdeal.defs _ _).mono (fun r h c => ⟨(h c).1.trans ?_, (h c).2⟩) (Cert.OutRefIdeal.Value.run (F := Ideal) m' g')
    exact (Cert.OutRefIdeal.Read.val_main_v4_eq _ _ _ _).trans
      (Cert.Residual.reference_result (hm c).1 (hm c).2.1 (hm c).2.2.1 (hm c).2.2.2.1)

end Cert.Folded

end
-- ==== Proof.CtxSpec.lean ====
module

public import proofs.«01_k».proof.CtxIdeal
public import proofs.«01_k».proof.Proof.QkvSpec

/-! # The context's keys and values, in plain terms

The context's rows are normalised and modulated by one shift and one scale, projected on the last 512 columns of the
weights; the keys are normalised head by head and not rotated. -/

@[expose] public section

set_option maxRecDepth 16384

noncomputable section

namespace Cert.Context

open Cert.CtxIdeal Idealize.ShloMosaic Idealize.ShloMosaic.ValueIdx Finset
open Cert.Proj (eps normed)

variable (x : S8x256x1024.Idx → EReal) (shift scale : S1x1x1024.Idx → EReal) (gain : S1024.Idx → EReal)
  (w : S1024x1536.Idx → EReal)

/-- A row's features: normalised to unit mean square, times the gain, modulated. -/
def modulated (b : Fin 8) (n : Fin 256) (l : Fin 1024) : EReal :=
  x (ix3 b n l) * Ideal.rsqrt (Ideal.div (∑ k, x (ix3 b n k) * x (ix3 b n k)) (Ideal.ofBits .f32 0x44800000#32) + eps)
    * gain (ix1 l) * (1 + scale (ix3 0 0 l)) + shift (ix3 0 0 l)

/-- The row's projection on one of the last 512 columns. -/
def projected (b : Fin 8) (n : Fin 256) (o : Fin 512) : EReal :=
  ∑ l, modulated x shift scale gain b n l * w (ix2 l ⟨1024 + o.val, by omega⟩)

/-- A key head of a row: 64 columns of the projection from column `o` on, normalised. -/
def headAt (g : S64.Idx → EReal) (o : ℕ) (ho : o + 64 ≤ 512) (b : Fin 8) (n : Fin 256) (d : Fin 64) : EReal :=
  normed (fun k => projected x shift scale gain w b n ⟨o + k.val, by omega⟩) (fun k => g (ix1 k)) d

/-- The keys: four heads, the first 256 of the 512 columns. -/
def keysOf (g : S64.Idx → EReal) (i : S8x4x256x64.Idx) : EReal :=
  headAt x shift scale gain w g (64 * (i 1).val) (by have : (i 1).val < 4 := (i 1).isLt; omega) (i 0) (i 2) (i 3)

/-- The values: four heads, the last 256 columns, each followed by 64 ones. -/
def valuesOf (i : S8x4x256x128.Idx) : EReal :=
  if h : (i 3).val < 64 then
    projected x shift scale gain w (i 0) (i 2) ⟨256 + 64 * (i 1).val + (i 3).val, by have : (i 1).val < 4 := (i 1).isLt; omega⟩
  else 1

end Cert.Context

end
-- ==== Proof.CtxStep.lean ====
module

public import proofs.«01_k».proof.Proof.Gen.CtxIdeal.Frame

/-! # What one visit of the context's projection kernel stores

Two pairs of key heads and four value heads, each cut out of one product. -/

@[expose] public section

set_option maxRecDepth 16384

noncomputable section

namespace Cert.Context

open Cert.CtxIdeal Cert.CtxIdeal.Gen Idealize.ShloMosaic Idealize.SL.Sem

variable {F : FTy → Type} [FloatOps F]

/-- 128 columns of the product, from column `o` on. -/
def cut (o : ℕ) (p : FVec F S256x512 .f32) (h : S256x512.Slices ![0, o] S256x128) : FVec F S256x128 .f32 :=
  extractStridedSlice S256x128 ![0, o] p h

/-- Two heads normalised and rotated: `k0_pay14` on the kernel's own pairing matrix. -/
def turned (cs sn : Vec F S256x128 .f32) (g : Vec F S1x128 .f32) (e : Vec F S128x128 .bf16) (c : FVec F S256x128 .f32) : FVec F S256x128 .bf16 :=
  k0_pay14 (k0_pay7 cs) (k0_pay8 sn) (k0_pay9 (F := F)) c g e

/-- One of the two heads, as it is stored. -/
def half (o : ℕ) (r : FVec F S256x128 .bf16) (h : S256x128.Slices ![0, o] S256x64) : FVec F S1x1x256x64 .bf16 :=
  shapeCast S1x1x256x64 (extractStridedSlice S256x64 ![0, o] r h) shapeCasts_S256x64_S1x1x256x64

/-- A value head as it is stored: the lower 64 lanes, then ones. -/
def withOnes (c : FVec F S256x128 .f32) : FVec F S1x1x256x128 .bf16 := k0_pay1 k0_pay6 c (k0_pay20 (F := F))

/-- The lower half's lanes in the upper half's place and the other way round. -/
def swapHalves (c : FVec F S256x128 .f32) : FVec F S256x128 .f32 := dynamicRotate 1 64#32 none c rotates_S256x128_d1

variable (x0 : Vec F S1x256x1024 .f32) (x1 : Vec F S1x1x1024 .f32) (x2 : Vec F S1x1x1024 .f32) (x3 : Vec F S1x1024 .f32)
  (x4 : Vec F S1024x512 .bf16) (x5 : Vec F S2x128 .f32) (x6 : Vec F S128x128 .bf16) (x7 : Vec F S256x128 .f32) (x8 : Vec F S256x128 .f32)

/-- The product of the block's modulated tokens with the weights. -/
def product : FVec F S256x512 .f32 :=
  k0_pay5 (View.ld x0 r0_0) (View.ld x3 r0_1) (View.ld x1 r0_2) (View.ld x2 r0_2) (View.ld x4 r0_3)

/-- The keys' pieces. -/
theorem out_keys : out0_9 x0 x1 x2 x3 x4 x5 x6 x7 x8 =
    (let R := fun o (h : S256x512.Slices ![0, o] S256x128) =>
      turned (View.ld x7 r0_4) (View.ld x8 r0_4) (View.ld x5 r0_5) (View.ld x6 r0_6) (cut o (product x0 x1 x2 x3 x4) h)
    View.canon
      [⟨r0_10, half 64 (R 128 slices_S256x512_o0_128_S256x128) slices_S256x128_o0_64_S256x64⟩,
       ⟨r0_9, half 0 (R 128 slices_S256x512_o0_128_S256x128) slices_S256x128_o0_0_S256x64⟩,
       ⟨r0_8, half 64 (R 0 slices_S256x512_o0_0_S256x128) slices_S256x128_o0_64_S256x64⟩,
       ⟨r0_7, half 0 (R 0 slices_S256x512_o0_0_S256x128) slices_S256x128_o0_0_S256x64⟩]) := rfl

/-- The values' pieces. -/
theorem out_values : out0_10 x0 x1 x2 x3 x4 x5 x6 x7 x8 =
    View.canon
      [⟨r0_14, withOnes (swapHalves (cut 384 (product x0 x1 x2 x3 x4) slices_S256x512_o0_384_S256x128))⟩,
       ⟨r0_13, withOnes (cut 384 (product x0 x1 x2 x3 x4) slices_S256x512_o0_384_S256x128)⟩,
       ⟨r0_12, withOnes (swapHalves (cut 256 (product x0 x1 x2 x3 x4) slices_S256x512_o0_256_S256x128))⟩,
       ⟨r0_11, withOnes (cut 256 (product x0 x1 x2 x3 x4) slices_S256x512_o0_256_S256x128)⟩] := rfl

end Cert.Context

end
-- ==== Proof.CtxBody.lean ====
module

public import proofs.«01_k».proof.Proof.CtxSpec
public import proofs.«01_k».proof.Proof.CtxStep
public import proofs.«01_k».proof.Proof.QkvBody
public import Idealize.ShloMosaic.Lib.Pipeline.Value
public import Idealize.ShloMosaic.Lib.ValueIdx
public import Idealize.ShloMosaic.Lib.KernelVsHost

/-! # The context kernel's elements

What a visit stores, element by element, at the ideal values. The kernel is the one of the layer's own tokens, handed
cosines of one and sines of nought, so that its rotation changes nothing. -/

@[expose] public section

set_option maxRecDepth 16384

noncomputable section

namespace Cert.Context

open Cert.CtxIdeal Cert.CtxIdeal.Gen Idealize.ShloMosaic Idealize.ShloMosaic.ValueIdx Idealize.SL.Sem Finset
open Cert.Proj (eps normed lane half_mean one_bits mask_word)

/-- A product with a matrix of 128 rows, element by element. -/
theorem times_apply {φ : FTy} (x : FVec Ideal S256x128 φ) (y : FVec Ideal S128x128 φ) (r : Fin 256) (j : Fin 128) :
    matmul dot_S256x128_S128x128_S256x128_1_0_0_1_n_n none x y (constant S256x128 .f32 0x00000000#32) (ix2 r j)
      = ∑ k : Fin 128, x (ix2 r k) * y (ix2 k j) := by
  simp only [matmul]
  rw [Ideal.matmul_constant_zero_apply,
    ← Equiv.sum_comp (contrEquiv1 dot_S256x128_S128x128_S256x128_1_0_0_1_n_n 128 rfl rfl).symm]
  refine sum_congr rfl fun k _ => ?_
  have hk := contrEquiv1_symm_val dot_S256x128_S128x128_S256x128_1_0_0_1_n_n 128 rfl rfl k
  have el : dot_S256x128_S128x128_S256x128_1_0_0_1_n_n.lhsIdx (ix2 r j)
      ((contrEquiv1 dot_S256x128_S128x128_S256x128_1_0_0_1_n_n 128 rfl rfl).symm k) = ix2 r k :=
    funext fun a => Fin.ext (by
      match a with
      | ⟨0, _⟩ => rfl
      | ⟨1, _⟩ => exact (DotDims.lhsIdx_val_of_single _ rfl _ _).trans hk)
  have er : dot_S256x128_S128x128_S256x128_1_0_0_1_n_n.rhsIdx (ix2 r j)
      ((contrEquiv1 dot_S256x128_S128x128_S256x128_1_0_0_1_n_n 128 rfl rfl).symm k) = ix2 k j :=
    funext fun a => Fin.ext (by
      match a with
      | ⟨0, _⟩ => exact (DotDims.rhsIdx_val_of_single _ rfl _ _).trans hk
      | ⟨1, _⟩ => rfl)
  rw [el, er]

/-- The product with the weights, element by element. -/
theorem weights_apply {φ : FTy} (x : FVec Ideal S256x1024 φ) (y : FVec Ideal S1024x512 φ) (r : Fin 256) (j : Fin 512) :
    matmul dot_S256x1024_S1024x512_S256x512_1_0_0_1_n_n none x y (constant S256x512 .f32 0x00000000#32) (ix2 r j)
      = ∑ k : Fin 1024, x (ix2 r k) * y (ix2 k j) := by
  simp only [matmul]
  rw [Ideal.matmul_constant_zero_apply,
    ← Equiv.sum_comp (contrEquiv1 dot_S256x1024_S1024x512_S256x512_1_0_0_1_n_n 1024 rfl rfl).symm]
  refine sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 r j)
      ((contrEquiv1 dot_S256x1024_S1024x512_S256x512_1_0_0_1_n_n 1024 rfl rfl).symm k) = ix2 r k :=
    funext fun a => Fin.ext (by
      match a with
      | ⟨0, _⟩ => rfl
      | ⟨1, _⟩ => exact (DotDims.lhsIdx_val_of_single _ rfl _ _).trans hk)
  have er : dot_S256x1024_S1024x512_S256x512_1_0_0_1_n_n.rhsIdx (ix2 r j)
      ((contrEquiv1 dot_S256x1024_S1024x512_S256x512_1_0_0_1_n_n 1024 rfl rfl).symm k) = ix2 k j :=
    funext fun a => Fin.ext (by
      match a with
      | ⟨0, _⟩ => exact (DotDims.rhsIdx_val_of_single _ rfl _ _).trans hk
      | ⟨1, _⟩ => rfl)
  rw [el, er]

section Product

variable (v0 : Vec Ideal S1x256x1024 .f32) (v2 : Vec Ideal S1x1024 .f32) (v4 v6 : Vec Ideal S1x1x1024 .f32) (v26 : Vec Ideal S1024x512 .bf16)

/-- A token of the block, modulated. -/
def tok (r : Fin 256) (l : Fin 1024) : EReal :=
  v0 (ix3 0 r l) * Ideal.rsqrt (Ideal.div (∑ k, v0 (ix3 0 r k) * v0 (ix3 0 r k)) (Ideal.ofBits .f32 0x44800000#32) + eps)
    * v2 (ix2 0 l) * (1 + v6 (ix3 0 0 l)) + v4 (ix3 0 0 l)

/-- The block's product is its modulated tokens times the weights. -/
theorem pay5_apply (r : Fin 256) (o : Fin 512) :
    @Eq EReal (k0_pay5 v0 v2 v4 v6 v26 (ix2 r o)) (∑ l, tok v0 v2 v4 v6 r l * v26 (ix2 l o)) := by
  have hx : ∀ l, shapeCast S256x1024 v0 shapeCasts_S1x256x1024_S256x1024 (ix2 r l) = v0 (ix3 0 r l) := fun l =>
    shapeCast_apply _ _ _ _ (by rw [Shape.rowMajor_val_three, Shape.rowMajor_val_two]; simp [ix3, ix2])
  have h4 : ∀ (v : Vec Ideal S1x1x1024 .f32) l, shapeCast S1x1024 v shapeCasts_S1x1x1024_S1x1024 (ix2 0 l) = v (ix3 0 0 l) := fun v l =>
    shapeCast_apply _ _ _ _ (by rw [Shape.rowMajor_val_three, Shape.rowMajor_val_two]; simp [ix3, ix2])
  unfold k0_pay5
  refine (weights_apply _ _ r o).trans (sum_congr rfl fun l _ => congrArg₂ (fun u v : EReal => u * v) ?_ ?_)
  · rw [truncf_apply, addf_apply, mulf_apply, mulf_apply,
      broadcastTo_apply _ broadcasts_S256x1_S256x1024 (ix2 r l) (ix2 r 0) (fun b => by
        match b with
        | ⟨0, _⟩ => rfl
        | ⟨1, _⟩ => rfl),
      broadcastTo_apply _ broadcasts_S1x1024_S256x1024 (ix2 r l) (ix2 0 l) (fun b => by
        match b with
        | ⟨0, _⟩ => rfl
        | ⟨1, _⟩ => rfl),
      broadcastTo_apply _ broadcasts_S1x1024_S256x1024 (ix2 r l) (ix2 0 l) (fun b => by
        match b with
        | ⟨0, _⟩ => rfl
        | ⟨1, _⟩ => rfl), hx, h4, mulf_apply, addf_apply, h4]
    have hs : @Eq EReal (shapeCast S256x1 (multiReduction .add [1] S256 (mulf (F := Ideal) (φ := .f32) (shapeCast S256x1024 v0 shapeCasts_S1x256x1024_S256x1024)
        (shapeCast S256x1024 v0 shapeCasts_S1x256x1024_S256x1024)) 0x00000000#32 reduces_S256x1024_S256 (.inl rfl) rfl) shapeCasts_S256_S256x1 (ix2 r 0))
        (∑ k, v0 (ix3 0 r k) * v0 (ix3 0 r k)) := by
      rw [shapeCast_apply _ _ (ix2 r 0) (ix1 r) (by rw [Shape.rowMajor_val_one, Shape.rowMajor_val_two]; simp [ix1, ix2])]
      refine (Ideal.multiReduction_add_single _ 0x00000000#32 reduces_S256x1024_S256 (.inl rfl) rfl (ix1 r)).trans ?_
      refine sum_congr rfl fun k _ => ?_
      exact (congrArg (mulf (F := Ideal) (φ := .f32) _ _) (funext fun a => Fin.ext (by match a with | ⟨0, _⟩ => rfl | ⟨1, _⟩ => rfl) :
        reduces_S256x1024_S256.lift (ix1 r) k = ix2 r k)).trans (congrArg₂ (fun u v : EReal => u * v) (hx k) (hx k))
    have e : shapeCast S1x1024 v2 shapeCasts_S1x1024_S1x1024 (ix2 0 l) = v2 (ix2 0 l) := by rw [shapeCast_self]
    rw [e]
    unfold tok
    refine congrArg₂ (fun u v : EReal => u + v) ?_ rfl
    rw [mul_assoc (v0 (ix3 0 r l) * _), ← one_bits, ← hs]
    rfl
  · rw [shapeCast_self]

end Product

section Heads

variable (cs sn : Vec Ideal S256x128 .f32) (g : Vec Ideal S1x128 .f32) (e : Vec Ideal S128x128 .bf16) (c : FVec Ideal S256x128 .f32)

/-- A lane's element normalised by the mean square that the matrix `e` takes. -/
def scaled (r : Fin 256) (l : Fin 128) : EReal :=
  c (ix2 r l) * Ideal.rsqrt ((∑ k, c (ix2 r k) * c (ix2 r k) * e (ix2 k l)) + eps) * g (ix2 0 l)

/-- Two heads' elements, normalised: a cosine of one and a sine of nought rotate nothing. -/
theorem turned_apply (r : Fin 256) (j : Fin 128) (hc : @Eq EReal (cs (ix2 r j)) 1) (hs : @Eq EReal (sn (ix2 r j)) 0) :
    @Eq EReal (turned cs sn g e c (ix2 r j)) (scaled g e c r j) := by
  have hn : ∀ l, mulf (mulf c (rsqrt (addf (matmul dot_S256x128_S128x128_S256x128_1_0_0_1_n_n none (truncf .bf16 (mulf c c) bitsLt_bf16_f32)
        (shapeCast S128x128 e shapeCasts_S128x128_S128x128) (constant S256x128 .f32 0x00000000#32))
        (broadcast S256x128 (Scalar.ofBits .f32 0x358637BD#32 : Ideal .f32)))))
        (broadcastTo S256x128 (shapeCast S1x128 g shapeCasts_S1x128_S1x128) broadcasts_S1x128_S256x128) (ix2 r l) = scaled g e c r l := fun l => by
    rw [mulf_apply, broadcastTo_apply _ broadcasts_S1x128_S256x128 (ix2 r l) (ix2 0 l) (fun b => by
      match b with
      | ⟨0, _⟩ => rfl
      | ⟨1, _⟩ => rfl), shapeCast_self, shapeCast_self, mulf_apply]
    unfold scaled
    have ht : @Eq EReal _ (∑ k, c (ix2 r k) * c (ix2 r k) * e (ix2 k l)) := times_apply (truncf .bf16 (mulf c c) bitsLt_bf16_f32) e r l
    rw [← ht]
    rfl
  unfold turned k0_pay14
  rw [truncf_apply, addf_apply]
  refine Eq.trans (congrArg₂ (fun u v : EReal => u + v) (?_ : _ = scaled g e c r j) (?_ : _ = (0 : EReal))) (add_zero _)
  · unfold k0_pay7
    rw [mulf_apply]
    refine (congrArg₂ (fun u v : EReal => u * v) (hn j) ?_).trans (mul_one _)
    rw [shapeCast_self]
    exact hc
  · rw [mulf_apply]
    refine (congrArg₂ (fun u v : EReal => u * v) rfl ?_).trans (mul_zero _)
    unfold k0_pay8
    rw [shapeCast_self]
    exact hs

/-- A head of two, normalised. -/
theorem turned_head (r : Fin 256) (u : Fin 2) (d : Fin 64) (G : Fin 64 → EReal)
    (he : ∀ k l, e (ix2 k l) = if k.val / 64 = l.val / 64 then ((1 / 64 : ℝ) : EReal) else 0)
    (hg : ∀ d, g (ix2 0 (lane u d)) = G d)
    (hc : @Eq EReal (cs (ix2 r (lane u d))) 1) (hs : @Eq EReal (sn (ix2 r (lane u d))) 0) :
    @Eq EReal (turned cs sn g e c (ix2 r (lane u d))) (normed (fun k => c (ix2 r (lane u k))) G d) := by
  rw [turned_apply cs sn g e c r _ hc hs]
  unfold scaled normed
  rw [half_mean e (fun k => c (ix2 r k) * c (ix2 r k)) he, hg]

end Heads

section Stores

/-- An element of a stored head. -/
theorem half_apply (o : ℕ) (R : FVec Ideal S256x128 .bf16) (h : S256x128.Slices ![0, o] S256x64) (u : Fin 2) (ho : o = 64 * u.val) (r : Fin 256) (d : Fin 64) :
    half o R h (ix4 0 0 r d) = R (ix2 r (lane u d)) := by
  unfold half
  rw [shapeCast_apply _ _ (ix4 0 0 r d) (ix2 r d) (by rw [Shape.rowMajor_val_four, Shape.rowMajor_val_two]; simp [ix4, ix2])]
  exact extractStridedSlice_apply _ _ _ _ _ fun a => by
    match a with
    | ⟨0, _⟩ => exact (Nat.zero_add _).symm
    | ⟨1, _⟩ => show 64 * u.val + d.val = o + d.val; omega

/-- An element of 128 columns cut from the product. -/
theorem cut_apply (o : ℕ) (p : FVec Ideal S256x512 .f32) (h : S256x512.Slices ![0, o] S256x128) (r : Fin 256) (j : Fin 128) (i : Fin 512)
    (hi : i.val = o + j.val) : cut o p h (ix2 r j) = p (ix2 r i) :=
  extractStridedSlice_apply _ _ _ _ _ fun a => by
    match a with
    | ⟨0, _⟩ => exact (Nat.zero_add _).symm
    | ⟨1, _⟩ => exact hi

/-- A stored value head: the lower 64 lanes as they are, then ones. -/
theorem withOnes_apply (c : FVec Ideal S256x128 .f32) (r : Fin 256) (l : Fin 128) :
    @Eq EReal (withOnes c (ix4 0 0 r l)) (if l.val < 64 then c (ix2 r l) else 1) := by
  unfold withOnes k0_pay1
  rw [shapeCast_apply _ _ (ix4 0 0 r l) (ix2 r l) (by rw [Shape.rowMajor_val_four, Shape.rowMajor_val_two]; simp [ix4, ix2]), truncf_apply]
  have h : select (k0_pay6) c (k0_pay20 (F := Ideal)) (ix2 r l)
      = Scalar.select (α := EReal) (IntOp.cmpi .slt (BitVec.ofNat 32 (0 * 128 + l.val)) 64#32) (c (ix2 r l)) (Ideal.ofBits .f32 0x3F800000#32) := rfl
  rw [h, zero_mul, zero_add, mask_word]
  split
  · rfl
  · exact one_bits

/-- Exchanging the halves brings the upper half's lanes down. -/
theorem swapHalves_apply (c : FVec Ideal S256x128 .f32) (r : Fin 256) (d : Fin 64) :
    swapHalves c (ix2 r (lane 0 d)) = c (ix2 r (lane 1 d)) :=
  dynamicRotate_apply _ _ _ _ _ _ fun b => by
    match b with
    | ⟨0, _⟩ => rfl
    | ⟨1, _⟩ => show 64 * 1 + d.val = (64 * 0 + d.val + 128 - 64 % 128) % 128; omega

end Stores

end Cert.Context

end
-- ==== Proof.CtxEntry.lean ====
module

public import proofs.«01_k».proof.Proof.CtxBody
public import proofs.«01_k».proof.Proof.QkvEntry
public import Idealize.ShloMosaic.Lib.Claim
public import Idealize.ShloMosaic.Lib.Pipeline.ValueKit

/-! # What the context's projection kernel reads

The arrays the host prepares, in the arguments' terms: the key heads' gains twice over, the block-diagonal matrix of 64ths,
the last 512 columns of the weights, cosines of one and sines of nought. -/

@[expose] public section

set_option maxRecDepth 16384

noncomputable section

namespace Cert.Context

open Cert.CtxIdeal Cert.CtxIdeal.Gen
open Cert.Proj (eps normed lane half_mean one_bits divWord divWord_eq half_word sixtyfourth_bits)
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- The rows. -/
abbrev argX : S8x256x1024.Idx → EReal := m ((c : Thread nD τ).loc main_arg0)
/-- The shift. -/
abbrev argShift : S1x1x1024.Idx → EReal := m ((c : Thread nD τ).loc main_arg1)
/-- The scale. -/
abbrev argScale : S1x1x1024.Idx → EReal := m ((c : Thread nD τ).loc main_arg2)
/-- The gain of the normalisation. -/
abbrev argGain : S1024.Idx → EReal := m ((c : Thread nD τ).loc main_arg3)
/-- The weights. -/
abbrev argW : S1024x1536.Idx → EReal := m ((c : Thread nD τ).loc main_arg4)
/-- The keys' gain. -/
abbrev argGk : S64.Idx → EReal := m ((c : Thread nD τ).loc main_arg6)

/-- The block-diagonal matrix. -/
theorem mean_entry (k l : Fin 128) : @Eq EReal (V m c main_v18 (ix2 k l)) (if k.val / 64 = l.val / 64 then ((1 / 64 : ℝ) : EReal) else 0) := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.ofBuf_toBuf]
  show Scalar.select (α := EReal) (IntOp.cmpi .eq (divWord (BitVec.ofNat 32 k.val)) (divWord (BitVec.ofNat 32 l.val)))
    (Ideal.ofBits .f32 0x3C800000#32) (Ideal.ofBits .f32 0x00000000#32) = _
  rw [divWord_eq ⟨k.val, by omega⟩, divWord_eq ⟨l.val, by omega⟩, half_word ⟨k.val / 64, by omega⟩ ⟨l.val / 64, by omega⟩, sixtyfourth_bits, Ideal.ofBits_zero_f32]
  show Scalar.select (if k.val / 64 = l.val / 64 then 1#1 else 0#1) _ _ = _
  split <;> rfl

/-- 64 gains, laid out for two heads side by side. -/
theorem twiceRow_apply (X : S64.Idx → EReal) (u : Fin 2) (d : Fin 64) :
    broadcastInDim S1x128 ![1] bcast_S128_S1x128_1 (shapeCast S128 (broadcastInDim S2x64 ![0, 1] bcast_S1x64_S2x64_0_1
      (shapeCast S1x64 X shapeCasts_S64_S1x64)) shapeCasts_S2x64_S128) (ix2 0 (lane u d)) = X (ix1 d) := by
  refine (broadcastInDim_apply _ _ _ (ix2 0 (lane u d)) (ix1 (lane u d)) (fun a => by
    match a with
    | ⟨0, _⟩ => rfl)).trans ?_
  refine (shapeCast_apply (s := S2x64) (t := S128) _ _ (ix1 (lane u d)) (ix2 u d) (by
    rw [Shape.rowMajor_val_two, Shape.rowMajor_val_one]
    show u.val * 64 + d.val = 64 * u.val + d.val
    omega)).trans ?_
  refine (broadcastInDim_apply _ _ _ (ix2 u d) (ix2 0 d) (fun a => by
    match a with
    | ⟨0, _⟩ => rfl
    | ⟨1, _⟩ => rfl)).trans ?_
  exact shapeCast_apply (s := S64) (t := S1x64) _ _ (ix2 0 d) (ix1 d) (by
    rw [Shape.rowMajor_val_two, Shape.rowMajor_val_one]
    show d.val = 0 * 64 + d.val
    omega)

/-- The key heads' gains for two heads side by side. -/
theorem key_gain_entry (d : Fin 64) (u : Fin 2) : @Eq EReal (V m c main_v8 (ix2 1 (lane u d))) (argGk m c (ix1 d)) := by
  unfold V
  simp only [hostOps0, hostOps0_1, hostOps0_2, hostOps0_3, hostOps0_4, hostOps0_5, hostOps0_6, List.flatten_cons, List.flatten_nil, List.append_nil, List.cons_append, List.nil_append]
  entry_read
  exact (concatenate_pair_apply_right (t := S2x128) 0 (s₁ := S1x128) (s₂ := S1x128) _ _ _ (ix2 1 (lane u d)) rfl rfl (ix2 0 (lane u d))
    (fun a ha => match a with | ⟨0, _⟩ => absurd rfl ha | ⟨1, _⟩ => rfl) rfl).trans (twiceRow_apply _ u d)

/-- The gain of the normalisation. -/
theorem norm_entry (l : Fin 1024) : @Eq EReal (V m c main_v19 (ix2 0 l)) (argGain m c (ix1 l)) := by
  unfold V
  simp only [hostOps0, hostOps0_1, hostOps0_2, hostOps0_3, hostOps0_4, hostOps0_5, hostOps0_6, List.flatten_cons, List.flatten_nil, List.append_nil, List.cons_append, List.nil_append]
  entry_read
  exact broadcastInDim_apply _ _ _ (ix2 0 l) (ix1 l) (fun a => match a with | ⟨0, _⟩ => rfl)

/-- The weights: the last 512 columns. -/
theorem weight_entry (l : Fin 1024) (o : Fin 512) : @Eq EReal (V m c main_v21 (ix2 l o)) (argW m c (ix2 l ⟨1024 + o.val, by omega⟩)) := by
  unfold V
  simp only [hostOps0, hostOps0_1, hostOps0_2, hostOps0_3, hostOps0_4, hostOps0_5, hostOps0_6, List.flatten_cons, List.flatten_nil, List.append_nil, List.cons_append, List.nil_append]
  entry_read
  exact extractStridedSlice_apply _ _ _ _ _ fun a => by
    match a with
    | ⟨0, _⟩ => exact (Nat.zero_add _).symm
    | ⟨1, _⟩ => rfl

/-- The cosines: ones. -/
theorem cos_entry (i : S256x128.Idx) : @Eq EReal (V m c main_v22 i) 1 := by
  unfold V
  simp only [hostOps0, hostOps0_1, hostOps0_2, hostOps0_3, hostOps0_4, hostOps0_5, hostOps0_6, List.flatten_cons, List.flatten_nil, List.append_nil, List.cons_append, List.nil_append]
  entry_read
  exact one_bits

/-- The sines: noughts. -/
theorem sin_entry (i : S256x128.Idx) : @Eq EReal (V m c main_v23 i) 0 := by
  unfold V
  simp only [hostOps0, hostOps0_1, hostOps0_2, hostOps0_3, hostOps0_4, hostOps0_5, hostOps0_6, List.flatten_cons, List.flatten_nil, List.append_nil, List.cons_append, List.nil_append]
  entry_read
  exact Ideal.ofBits_zero_f32

end Cert.Context

end
-- ==== Proof.CtxBlock.lean ====
module

public import proofs.«01_k».proof.Proof.CtxEntry
public import proofs.«01_k».proof.Proof.QkvBlock
public import proofs.«01_k».proof.Proof.CtxStep
public import Idealize.ShloMosaic.Lib.Pipeline.Covers

/-! # The blocks of a grid point of the context's projection kernel

A grid point is a batch entry. -/

@[expose] public section

set_option maxRecDepth 16384

noncomputable section

namespace Cert.Context

open Cert.CtxIdeal Cert.CtxIdeal.Gen
open Cert.Proj (eps normed lane half_mean one_bits divWord divWord_eq half_word sixtyfourth_bits)
open Cert.Proj (start2 start3)
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- The grid point's batch entry. -/
def batch (t : Fin cfg0.N) : Fin 8 := grid0.coords t 0

/-- Which block of each array a grid point has. -/
theorem index_eq : ∀ t : Fin grid0.N,
    win0_0.index t = ![(grid0.coords t 0).val, 0, 0]
    ∧ win0_1.index t = ![0, 0, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![(grid0.coords t 0).val, 0, 0, 0]
    ∧ win0_10.index t = ![(grid0.coords t 0).val, 0, 0, 0] := by
  decide +kernel

/-- The load of a whole array reads it. -/
theorem ld_whole {s : Shape} {e : EltTy} (x : Vec Ideal s e) (o : Fin s.rank → ℕ) (ho : ∀ a, o a = 0) (inb) (i : s.Idx) :
    View.ld x (Rect.unit (s := s) o s.size inb) i = x i :=
  View.ld_unit_apply_of _ _ _ _ _ _ fun a => by
    rw [ho a]
    exact (Nat.zero_add _).symm

/-- The load of one of two rows reads it. -/
theorem ld_row (x : Vec Ideal S2x128 .f32) (p : Fin 2) (inb) (j : Fin 128) :
    View.ld x (Rect.unit (s := S2x128) ![p.val, 0] S1x128.size inb) (ix2 0 j) = x (ix2 p j) :=
  View.ld_unit_apply_of _ _ _ _ _ _ fun a => by
    match a with
    | ⟨0, _⟩ => rfl
    | ⟨1, _⟩ => exact (Nat.zero_add _).symm

/-- The block of rows. -/
theorem x_block (t : Fin cfg0.N) (r : Fin 256) (l : Fin 1024) :
    @Eq EReal (View.ld (iblk m c 0 t) r0_0 (ix3 0 r l)) (argX m c (ix3 (batch t) r l)) := by
  refine (ld_whole (s := S1x256x1024) (e := .f32) (iblk m c 0 t) _ start3 _ (ix3 0 r l)).trans ?_
  refine (congrArg (V m c main_arg0) (funext fun a => Fin.ext ?_)).trans (congrFun (V_main_arg0 m c) _)
  blk_simp [index_eq t]
  match a with
  | ⟨0, _⟩ => show (batch t).val * 1 + 0 = (batch t).val; omega
  | ⟨1, _⟩ => show 0 * 256 + r.val = r.val; omega
  | ⟨2, _⟩ => show 0 * 1024 + l.val = l.val; omega

/-- The shift. -/
theorem shift_block (t : Fin cfg0.N) (l : Fin 1024) :
    @Eq EReal (View.ld (iblk m c 1 t) r0_2 (ix3 0 0 l)) (argShift m c (ix3 0 0 l)) := by
  refine (ld_whole (s := S1x1x1024) (e := .f32) (iblk m c 1 t) _ start3 _ (ix3 0 0 l)).trans ?_
  refine (congrArg (V m c main_arg1) (funext fun a => Fin.ext ?_)).trans (congrFun (V_main_arg1 m c) _)
  blk_simp [index_eq t]
  match a with
  | ⟨0, _⟩ => rfl
  | ⟨1, _⟩ => rfl
  | ⟨2, _⟩ => show 0 * 1024 + l.val = l.val; omega

/-- The scale. -/
theorem scale_block (t : Fin cfg0.N) (l : Fin 1024) :
    @Eq EReal (View.ld (iblk m c 2 t) r0_2 (ix3 0 0 l)) (argScale m c (ix3 0 0 l)) := by
  refine (ld_whole (s := S1x1x1024) (e := .f32) (iblk m c 2 t) _ start3 _ (ix3 0 0 l)).trans ?_
  refine (congrArg (V m c main_arg2) (funext fun a => Fin.ext ?_)).trans (congrFun (V_main_arg2 m c) _)
  blk_simp [index_eq t]
  match a with
  | ⟨0, _⟩ => rfl
  | ⟨1, _⟩ => rfl
  | ⟨2, _⟩ => show 0 * 1024 + l.val = l.val; omega

/-- The gain of the normalisation. -/
theorem gain_block (t : Fin cfg0.N) (l : Fin 1024) :
    @Eq EReal (View.ld (iblk m c 3 t) r0_1 (ix2 0 l)) (argGain m c (ix1 l)) := by
  refine (ld_whole (s := S1x1024) (e := .f32) (iblk m c 3 t) _ start2 _ (ix2 0 l)).trans ?_
  refine (congrArg (V m c main_v19) (funext fun a => Fin.ext ?_)).trans (norm_entry m c l)
  blk_simp [index_eq t]
  match a with
  | ⟨0, _⟩ => rfl
  | ⟨1, _⟩ => show 0 * 1024 + l.val = l.val; omega

/-- The weights. -/
theorem weight_block (t : Fin cfg0.N) (l : Fin 1024) (o : Fin 512) :
    @Eq EReal (View.ld (iblk m c 4 t) r0_3 (ix2 l o)) (argW m c (ix2 l ⟨1024 + o.val, by omega⟩)) := by
  refine (ld_whole (s := S1024x512) (e := .bf16) (iblk m c 4 t) _ start2 _ (ix2 l o)).trans ?_
  refine (congrArg (V m c main_v21) (funext fun a => Fin.ext ?_)).trans (weight_entry m c l o)
  blk_simp [index_eq t]
  match a with
  | ⟨0, _⟩ => show 0 * 1024 + l.val = l.val; omega
  | ⟨1, _⟩ => show 0 * 512 + o.val = o.val; omega

/-- A row of the head gains. -/
theorem heads_block (t : Fin cfg0.N) (p : Fin 2) (inb) (j : Fin 128) :
    @Eq EReal (View.ld (iblk m c 5 t) (Rect.unit (s := S2x128) ![p.val, 0] S1x128.size inb) (ix2 0 j)) (V m c main_v8 (ix2 p j)) := by
  refine (ld_row (iblk m c 5 t) p inb j).trans ?_
  refine congrArg (V m c main_v8) (funext fun a => Fin.ext ?_)
  blk_simp [index_eq t]
  match a with
  | ⟨0, _⟩ => show 0 * 2 + p.val = p.val; omega
  | ⟨1, _⟩ => show 0 * 128 + j.val = j.val; omega

/-- The averaging matrix. -/
theorem mean_block (t : Fin cfg0.N) (k l : Fin 128) :
    @Eq EReal (View.ld (iblk m c 6 t) r0_6 (ix2 k l)) (if k.val / 64 = l.val / 64 then ((1 / 64 : ℝ) : EReal) else 0) := by
  refine (ld_whole (s := S128x128) (e := .bf16) (iblk m c 6 t) _ start2 _ (ix2 k l)).trans ?_
  refine (congrArg (V m c main_v18) (funext fun a => Fin.ext ?_)).trans (mean_entry m c k l)
  blk_simp [index_eq t]
  match a with
  | ⟨0, _⟩ => show 0 * 128 + k.val = k.val; omega
  | ⟨1, _⟩ => show 0 * 128 + l.val = l.val; omega

/-- The cosines. -/
theorem cos_block (t : Fin cfg0.N) (r : Fin 256) (j : Fin 128) : @Eq EReal (View.ld (iblk m c 7 t) r0_4 (ix2 r j)) 1 := by
  refine (ld_whole (s := S256x128) (e := .f32) (iblk m c 7 t) _ start2 _ (ix2 r j)).trans ?_
  exact cos_entry m c _

/-- The sines. -/
theorem sin_block (t : Fin cfg0.N) (r : Fin 256) (j : Fin 128) : @Eq EReal (View.ld (iblk m c 8 t) r0_4 (ix2 r j)) 0 := by
  refine (ld_whole (s := S256x128) (e := .f32) (iblk m c 8 t) _ start2 _ (ix2 r j)).trans ?_
  exact sin_entry m c _

/-- The block's product is its rows' projection. -/
theorem product_block (t : Fin cfg0.N) (r : Fin 256) (o : Fin 512) :
    @Eq EReal (product (iblk m c 0 t) (iblk m c 1 t) (iblk m c 2 t) (iblk m c 3 t) (iblk m c 4 t) (ix2 r o))
      (projected (argX m c) (argShift m c) (argScale m c) (argGain m c) (argW m c) (batch t) r o) := by
  refine (pay5_apply _ _ _ _ _ r o).trans ?_
  unfold projected tok modulated
  refine Finset.sum_congr rfl fun l _ => congrArg₂ (fun u v : EReal => u * v) ?_ (weight_block m c t l o)
  refine congrArg₂ (fun u v : EReal => u + v) ?_ (shift_block m c t l)
  refine congrArg₂ (fun u v : EReal => u * v) ?_ (congrArg (fun v : EReal => 1 + v) (scale_block m c t l))
  refine congrArg₂ (fun u v : EReal => u * v) ?_ (gain_block m c t l)
  refine congrArg₂ (fun u v : EReal => u * v) (x_block m c t r l) ?_
  refine congrArg (fun u : EReal => Ideal.rsqrt (Ideal.div u (Ideal.ofBits .f32 0x44800000#32) + eps)) ?_
  exact Finset.sum_congr rfl fun k _ => congrArg₂ (fun u v : EReal => u * v) (x_block m c t r k) (x_block m c t r k)

end Cert.Context

end
-- ==== Proof.CtxValue.lean ====
module

public import proofs.«01_k».proof.Proof.CtxBlock
public import proofs.«01_k».proof.Proof.Gen.CtxIdeal.Value

/-! # What the context's projection kernel leaves in its results

Every grid point leaves the keys and values of its batch entry; the grid points together fill the two arrays. -/

@[expose] public section

set_option maxRecDepth 16384

noncomputable section

namespace Cert.Context

open Cert.CtxIdeal Cert.CtxIdeal.Gen
open Cert.Proj (normed lane)
open Idealize.ShloMosaic hiding ix0 ix1 ix2 ix3 ix4 ix5
open Idealize.ShloMosaic.TcCoe Idealize.ShloMosaic.ValueIdx Idealize.SL.Sem

variable (m : (ℓ : Loc nD τ sig) → Buf (Elt Ideal) ℓ) (c : Dev nD)

/-- A key head of a grid point's row, from the kernel's arguments. -/
abbrev headOf (g : S64.Idx → EReal) (o : ℕ) (ho : o + 64 ≤ 512) (b : Fin 8) (n : Fin 256) (d : Fin 64) : EReal :=
  headAt (argX m c) (argShift m c) (argScale m c) (argGain m c) (argW m c) g o ho b n d

/-- The same head of the same row has the same features. -/
theorem headOf_congr (g : S64.Idx → EReal) {o o' : ℕ} (ho : o + 64 ≤ 512) (ho' : o' + 64 ≤ 512) (b : Fin 8) {n n' : Fin 256} {d d' : Fin 64}
    (e : o = o') (hn : n.val = n'.val) (hd : d.val = d'.val) : headOf m c g o ho b n d = headOf m c g o' ho' b n' d' := by
  obtain rfl := e
  obtain rfl := Fin.ext hn
  obtain rfl := Fin.ext hd
  rfl

/-- An element of a block of one head. -/
theorem one_head {D : ℕ} (x : (⟨4, ![1, 1, 256, D]⟩ : Shape).Idx) : ∃ (r : Fin 256) (d : Fin D), x = ix4 0 0 r d :=
  ⟨x 2, x 3, funext fun a => by
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl⟩

/-- One of the two heads cut out of the block's product, normalised: the head's features. -/
theorem head_value (t : Fin cfg0.N) (gw : Vec Ideal S1x128 .f32) (g : S64.Idx → EReal) (hg : ∀ u d, @Eq EReal (gw (ix2 0 (lane u d))) (g (ix1 d)))
    (o oh : ℕ) (hs) (hh) (hoh : oh = 0 ∨ oh = 64) (col : ℕ) (hcol : col = o + oh) (hb : col + 64 ≤ 512) (r : Fin 256) (d : Fin 64) :
    @Eq EReal (half oh (turned (View.ld (iblk m c 7 t) r0_4) (View.ld (iblk m c 8 t) r0_4) gw (View.ld (iblk m c 6 t) r0_6)
        (cut o (product (iblk m c 0 t) (iblk m c 1 t) (iblk m c 2 t) (iblk m c 3 t) (iblk m c 4 t)) hs)) hh (ix4 0 0 r d))
      (headOf m c g col hb (batch t) r d) := by
  obtain ⟨u, hu⟩ : ∃ u : Fin 2, oh = 64 * u.val := by
    rcases hoh with rfl | rfl
    · exact ⟨0, rfl⟩
    · exact ⟨1, rfl⟩
  refine (half_apply oh _ hh u hu r d).trans ?_
  refine (turned_head _ _ _ _ _ r u d (fun k => g (ix1 k)) (mean_block m c t) (hg u) (cos_block m c t r _) (sin_block m c t r _)).trans ?_
  unfold headOf headAt
  refine congrArg (fun X => normed X (fun k => g (ix1 k)) d) (funext fun k => ?_)
  refine (cut_apply o _ hs r (lane u k) ⟨col + k.val, by omega⟩ ?_).trans (product_block m c t r _)
  show col + k.val = o + (64 * u.val + k.val)
  omega

/-- The keys' block a grid point leaves. -/
def keyBlock (t : Fin cfg0.N) (y : S1x4x256x64.Idx) : EReal :=
  headOf m c (argGk m c) (64 * (y 1).val) (by have : (y 1).val < 4 := (y 1).isLt; omega) (batch t) (y 2) (y 3)

/-- The values' block a grid point leaves. -/
def valueBlock (t : Fin cfg0.N) (y : S1x4x256x128.Idx) : EReal :=
  if h : (y 3).val < 64 then
    projected (argX m c) (argShift m c) (argScale m c) (argGain m c) (argW m c) (batch t) (y 2)
      ⟨256 + 64 * (y 1).val + (y 3).val, by have : (y 1).val < 4 := (y 1).isLt; omega⟩
  else 1

/-- Where the element of a stored head lies in its block. -/
theorem emb_val {H D : ℕ} (h : ℕ) (inb) (r : Fin 256) (d : Fin D) :
    ((Rect.unit (s := ⟨4, ![1, H, 256, D]⟩) ![0, h, 0, 0] ![1, 1, 256, D] inb).emb (ix4 0 0 r d) 1).val = h
    ∧ ((Rect.unit (s := ⟨4, ![1, H, 256, D]⟩) ![0, h, 0, 0] ![1, 1, 256, D] inb).emb (ix4 0 0 r d) 2).val = r.val
    ∧ ((Rect.unit (s := ⟨4, ![1, H, 256, D]⟩) ![0, h, 0, 0] ![1, 1, 256, D] inb).emb (ix4 0 0 r d) 3).val = d.val :=
  ⟨(Rect.idx_unit_val _ _ _ _ _).trans (Nat.add_zero h), (Rect.idx_unit_val _ _ _ _ _).trans (Nat.zero_add _),
    (Rect.idx_unit_val _ _ _ _ _).trans (Nat.zero_add _)⟩

/-- A stored key head. -/
theorem key_piece (t : Fin cfg0.N) (h o oh : ℕ) (hs) (hh) (inb) (hoh : oh = 0 ∨ oh = 64) (hcol : 64 * h = o + oh) (hb : 64 * h + 64 ≤ 512) (x : S1x1x256x64.Idx) :
    @Eq EReal (half oh (turned (View.ld (iblk m c 7 t) r0_4) (View.ld (iblk m c 8 t) r0_4) (View.ld (iblk m c 5 t) r0_5) (View.ld (iblk m c 6 t) r0_6)
        (cut o (product (iblk m c 0 t) (iblk m c 1 t) (iblk m c 2 t) (iblk m c 3 t) (iblk m c 4 t)) hs)) hh x)
      (keyBlock m c t ((Rect.unit (s := S1x4x256x64) ![0, h, 0, 0] S1x1x256x64.size inb).emb x)) := by
  obtain ⟨r, d, rfl⟩ := one_head x
  obtain ⟨e1, e2, e3⟩ := emb_val h inb r d
  refine (head_value m c t _ (argGk m c) (fun u d => (heads_block m c t 1 _ _).trans (key_gain_entry m c d u)) o oh hs hh hoh (64 * h) hcol hb r d).trans ?_
  unfold keyBlock
  exact headOf_congr m c _ _ _ _ (congrArg (64 * ·) e1.symm) e2.symm e3.symm

/-- A stored value head, from the 128 lanes whose lower half it is. -/
theorem value_piece (t : Fin cfg0.N) (h : ℕ) (hb : h < 4) (w : FVec Ideal S256x128 .f32)
    (hw : ∀ (r : Fin 256) (d : Fin 64), w (ix2 r (lane 0 d))
      = product (F := Ideal) (iblk m c 0 t) (iblk m c 1 t) (iblk m c 2 t) (iblk m c 3 t) (iblk m c 4 t) (ix2 r ⟨256 + 64 * h + d.val, by omega⟩))
    (inb) (x : S1x1x256x128.Idx) :
    @Eq EReal (withOnes w x) (valueBlock m c t ((Rect.unit (s := S1x4x256x128) ![0, h, 0, 0] S1x1x256x128.size inb).emb x)) := by
  obtain ⟨r, l, rfl⟩ := one_head x
  obtain ⟨e1, e2, e3⟩ := emb_val h inb r l
  refine (withOnes_apply w r l).trans ?_
  unfold valueBlock
  by_cases hl : l.val < 64
  · rw [if_pos hl, dif_pos (e3.trans_lt hl)]
    have hj : lane 0 ⟨l.val, hl⟩ = l := Fin.ext (by show 64 * 0 + l.val = l.val; omega)
    refine (congrArg (fun j => w (ix2 r j)) hj.symm).trans ((hw r ⟨l.val, hl⟩).trans ((product_block m c t r _).trans ?_))
    refine congrArg₂ (fun n o => projected (argX m c) (argShift m c) (argScale m c) (argGain m c) (argW m c) (batch t) n o)
      (Fin.ext e2.symm) (Fin.ext ?_)
    exact congrArg₂ (fun p q => 256 + 64 * p + q) e1.symm e3.symm
  · rw [if_neg hl, dif_neg fun h' => hl (e3.symm.trans_lt h')]

/-- What the body leaves in the keys' block. -/
theorem key_block (t : Fin cfg0.N) (y : S1x4x256x64.Idx) :
    @Eq EReal (out0_9 (iblk m c 0 t) (iblk m c 1 t) (iblk m c 2 t) (iblk m c 3 t) (iblk m c 4 t) (iblk m c 5 t) (iblk m c 6 t) (iblk m c 7 t) (iblk m c 8 t) y)
      (keyBlock m c t y) := by
  rw [out_keys]
  refine View.canon_apply_of_pieces (Val := Elt Ideal) (e := .bf16) (keyBlock m c t) _ (fun p hp => ?_) y (cover0_9 _ _ _ _ y)
  simp only [List.mem_cons, List.not_mem_nil, or_false] at hp
  rcases hp with rfl | rfl | rfl | rfl
  all_goals exact key_piece m c t _ _ _ _ (by decide) (by decide) (by decide) (by norm_num) (by norm_num)

/-- What the body leaves in the values' block. -/
theorem value_block (t : Fin cfg0.N) (y : S1x4x256x128.Idx) :
    @Eq EReal (out0_10 (iblk m c 0 t) (iblk m c 1 t) (iblk m c 2 t) (iblk m c 3 t) (iblk m c 4 t) (iblk m c 5 t) (iblk m c 6 t) (iblk m c 7 t) (iblk m c 8 t) y)
      (valueBlock m c t y) := by
  rw [out_values]
  refine View.canon_apply_of_pieces (Val := Elt Ideal) (e := .bf16) (valueBlock m c t) _ (fun p hp => ?_) y (cover0_10 _ _ _ _ y)
  simp only [List.mem_cons, List.not_mem_nil, or_false] at hp
  rcases hp with rfl | rfl | rfl | rfl
  · exact value_piece m c t 3 (by norm_num) _ (fun r d => (swapHalves_apply _ r d).trans (cut_apply 384 _ _ r (lane 1 d) _ (by
      show 256 + 64 * 3 + d.val = 384 + (64 * 1 + d.val); omega))) (by decide)
  · exact value_piece m c t 2 (by norm_num) _ (fun r d => cut_apply 384 _ _ r (lane 0 d) _ (by
      show 256 + 64 * 2 + d.val = 384 + (64 * 0 + d.val); omega)) (by decide)
  · exact value_piece m c t 1 (by norm_num) _ (fun r d => (swapHalves_apply _ r d).trans (cut_apply 256 _ _ r (lane 1 d) _ (by
      show 256 + 64 * 1 + d.val = 256 + (64 * 1 + d.val); omega))) (by decide)
  · exact value_piece m c t 0 (by norm_num) _ (fun r d => cut_apply 256 _ _ r (lane 0 d) _ (by
      show 256 + 64 * 0 + d.val = 256 + (64 * 0 + d.val); omega)) (by decide)

/-- After the run the first result holds the keys. -/
theorem final_keys : (dats m 0 c).arrAt 9 cfg0.N
    = keysOf (argX m c) (argShift m c) (argScale m c) (argGain m c) (argW m c) (argGk m c) := by
  refine (dats m 0 c).arrAt_eq_of_covers 9 _ (by decide +kernel) fun t hf y => ?_
  blk_simp
  rw [after0_9]
  refine (key_block m c t y).trans ?_
  have y0 : (y 0).val < 1 := (y 0).isLt
  have e0 : (((cfg0.win 9).blk t).view.emb y 0).val = (batch t).val := by
    blk_simp [index_eq t]
    rfl
  have e1 : (((cfg0.win 9).blk t).view.emb y 1).val = (y 1).val := by
    blk_simp [index_eq t]
  have e2 : (((cfg0.win 9).blk t).view.emb y 2).val = (y 2).val := by
    blk_simp [index_eq t]
  have e3 : (((cfg0.win 9).blk t).view.emb y 3).val = (y 3).val := by
    blk_simp [index_eq t]
  unfold keyBlock keysOf
  rw [show ((cfg0.win 9).blk t).view.emb y 0 = batch t from Fin.ext e0]
  exact headOf_congr m c _ _ _ _ (congrArg (64 * ·) e1.symm) e2.symm e3.symm

/-- After the run the second result holds the values. -/
theorem final_values : (dats m 0 c).arrAt 10 cfg0.N
    = valuesOf (argX m c) (argShift m c) (argScale m c) (argGain m c) (argW m c) := by
  refine (dats m 0 c).arrAt_eq_of_covers 10 _ (by decide +kernel) fun t hf y => ?_
  blk_simp
  rw [after0_10]
  refine (value_block m c t y).trans ?_
  have y0 : (y 0).val < 1 := (y 0).isLt
  have e0 : (((cfg0.win 10).blk t).view.emb y 0).val = (batch t).val := by
    blk_simp [index_eq t]
    rfl
  have e1 : (((cfg0.win 10).blk t).view.emb y 1).val = (y 1).val := by
    blk_simp [index_eq t]
  have e2 : (((cfg0.win 10).blk t).view.emb y 2).val = (y 2).val := by
    blk_simp [index_eq t]
  have e3 : (((cfg0.win 10).blk t).view.emb y 3).val = (y 3).val := by
    blk_simp [index_eq t]
  unfold valueBlock valuesOf
  rw [show ((cfg0.win 10).blk t).view.emb y 0 = batch t from Fin.ext e0]
  by_cases hl : (y 3).val < 64
  · rw [dif_pos hl, dif_pos (e3.trans_lt hl)]
    exact congrArg₂ (fun n o => projected (argX m c) (argShift m c) (argScale m c) (argGain m c) (argW m c) (batch t) n o)
      (Fin.ext e2.symm) (Fin.ext (congrArg₂ (fun p q => 256 + 64 * p + q) e1.symm e3.symm))
  · rw [dif_neg hl, dif_neg fun h => hl (e3.symm.trans_lt h)]

end Cert.Context

end
-- ==== Proof.CtxReference.lean ====
module

public import proofs.«01_k».proof.Proof.CtxSpec
public import proofs.«01_k».proof.Proof.QkvParts
public import proofs.«01_k».proof.Proof.Gen.CtxRefIdeal.Read

/-! # What the context's reference computes

The keys and values `CtxSpec` states: normalised and modulated rows, their projection, the keys' heads normalised, ones
after the values. -/

@[expose] public section

set_option maxRecDepth 16384

noncomputable section

namespace Cert.Context

open Cert.CtxRefIdeal Cert.CtxRefIdeal.Gen Cert.CtxRefIdeal.Read
open Cert.Proj (eps normed one_bits sixtyfour_bits)
open Idealize.ShloMosaic
open Idealize.ShloMosaic.TcCoe Idealize.ShloMosaic.ValueIdx Idealize.SL.Sem

variable (x0 : FVec Ideal S8x256x1024 .f32) (x1 x2 : FVec Ideal S1x1x1024 .f32) (x3 : FVec Ideal S1024 .f32)
  (x4 : FVec Ideal S1024x1536 .f32) (x6 : FVec Ideal S64 .f32)

/-- The reference's root mean square's reciprocal. -/
theorem ref_root (b : Fin 8) (n : Fin 256) :
    @Eq EReal (val_main_v7 (F := Ideal) x0 (ix3 b n 0))
      (Ideal.rsqrt (Ideal.div (∑ k, x0 (ix3 b n k) * x0 (ix3 b n k)) (Ideal.ofBits .f32 0x44800000#32) + eps)) := by
  have hs : @Eq EReal (val_main_v2 (F := Ideal) x0 (ix3 b n 0)) (∑ k, x0 (ix3 b n k) * x0 (ix3 b n k)) := by
    rw [val_main_v2_apply, val_main_v1_apply]
    have hz : val_main_cst (F := Ideal) (Shape.Idx.first h_S_) = (0 : EReal) := Ideal.ofBits_zero_f32
    rw [hz]
    refine (zero_add _).trans (Finset.sum_congr rfl fun k _ => ?_)
    refine congrArg (fun i => (x0 i * x0 i : EReal)) (?_ : _ = ix3 b n k)
    exact funext fun a => Fin.ext (by match a with | ⟨0, _⟩ => rfl | ⟨1, _⟩ => rfl | ⟨2, _⟩ => rfl)
  have hd : @Eq EReal (val_main_v3 (F := Ideal) (ix3 b n 0)) (Ideal.ofBits .f32 0x44800000#32) := by
    rw [val_main_v3_apply]
    rfl
  have he : @Eq EReal (val_main_v5 (F := Ideal) (ix3 b n 0)) eps := by
    rw [val_main_v5_apply]
    rfl
  rw [val_main_v7_apply, val_main_v6_apply, val_main_v4_apply]
  exact congrArg Ideal.rsqrt (congrArg₂ (fun u v : EReal => u + v) (congrArg₂ Ideal.div hs hd) he)

/-- The reference's modulated tokens. -/
theorem ref_modulated (b : Fin 8) (n : Fin 256) (l : Fin 1024) :
    @Eq EReal (val_main_v18 (F := Ideal) x0 x1 x2 x3 (ix3 b n l)) (modulated x0 x1 x2 x3 b n l) := by
  rw [val_main_v18_apply, val_main_v16_apply, val_main_v12_apply, val_main_v9_apply, val_main_v8_apply, val_main_v11_apply, val_main_v10_apply,
    val_main_v15_apply, val_main_v14_apply, val_main_v13_apply, val_main_v17_apply]
  unfold modulated
  refine congrArg₂ (fun u v : EReal => u + v) (congrArg₂ (fun u v : EReal => u * v) (congrArg₂ (fun u v : EReal => u * v)
    (congrArg (fun v : EReal => x0 (ix3 b n l) * v) ?_) ?_) (congrArg₂ (fun u v : EReal => u + v) ?_ ?_)) ?_
  · refine (congrArg (val_main_v7 (F := Ideal) x0) (?_ : _ = ix3 b n 0)).trans (ref_root x0 b n)
    exact funext fun a => Fin.ext (by match a with | ⟨0, _⟩ => rfl | ⟨1, _⟩ => rfl | ⟨2, _⟩ => rfl)
  · exact congrArg x3 (funext fun a => Fin.ext (by match a with | ⟨0, _⟩ => rfl))
  · exact one_bits
  · exact congrArg x2 (funext fun a => Fin.ext (by match a with | ⟨0, _⟩ => rfl | ⟨1, _⟩ => rfl | ⟨2, _⟩ => rfl))
  · exact congrArg x1 (funext fun a => Fin.ext (by match a with | ⟨0, _⟩ => rfl | ⟨1, _⟩ => rfl | ⟨2, _⟩ => rfl))

/-- The reference's projection. -/
theorem ref_projected (b : Fin 8) (n : Fin 256) (o : Fin 512) :
    @Eq EReal (val_main_v20 (F := Ideal) x0 x1 x2 x3 x4 (ix3 b n o)) (projected x0 x1 x2 x3 x4 b n o) := by
  rw [val_main_v20_apply]
  unfold projected
  refine Finset.sum_congr rfl fun k _ => congrArg₂ (fun u v : EReal => u * v) ?_ ?_
  · refine (congrArg (val_main_v18 (F := Ideal) x0 x1 x2 x3) (?_ : _ = ix3 b n k)).trans (ref_modulated x0 x1 x2 x3 b n k)
    exact funext fun a => Fin.ext (by match a with | ⟨0, _⟩ => rfl | ⟨1, _⟩ => rfl | ⟨2, _⟩ => rfl)
  · rw [val_main_v19_apply]
    exact congrArg x4 (funext fun a => Fin.ext (by match a with | ⟨0, _⟩ => rfl | ⟨1, _⟩ => rfl))

/-- Where four heads of 64 features lie in a row of 256. -/
theorem place256 (b : Fin 8) (n : Fin 256) (h : Fin 4) (d : Fin 64) :
    (((b.val * 256 + n.val) * 4 + h.val) * 64 + d.val) / 65536 = b.val
    ∧ (((b.val * 256 + n.val) * 4 + h.val) * 64 + d.val) / 256 % 256 = n.val
    ∧ (((b.val * 256 + n.val) * 4 + h.val) * 64 + d.val) % 256 = 64 * h.val + d.val := by omega

/-- A key head's features before the normalisation. -/
theorem ref_key (b : Fin 8) (n : Fin 256) (h : Fin 4) (d : Fin 64) :
    @Eq EReal (val_main_v22 (F := Ideal) x0 x1 x2 x3 x4 (ix4 b n h d))
      (projected x0 x1 x2 x3 x4 b n ⟨64 * h.val + d.val, by omega⟩) := by
  obtain ⟨p0, p1, p2⟩ := place256 b n h d
  rw [val_main_v22_apply, val_main_v21_apply]
  refine (congrArg (val_main_v20 (F := Ideal) x0 x1 x2 x3 x4) (?_ : _ = ix3 b n ⟨64 * h.val + d.val, by omega⟩)).trans
    (ref_projected x0 x1 x2 x3 x4 b n _)
  refine funext fun a => Fin.ext ?_
  match a with
  | ⟨0, _⟩ => exact p0
  | ⟨1, _⟩ => exact p1
  | ⟨2, _⟩ => exact p2

/-- A value head's features. -/
theorem ref_value (b : Fin 8) (n : Fin 256) (h : Fin 4) (d : Fin 64) :
    @Eq EReal (val_main_v37 (F := Ideal) x0 x1 x2 x3 x4 (ix4 b n h d))
      (projected x0 x1 x2 x3 x4 b n ⟨256 + 64 * h.val + d.val, by omega⟩) := by
  obtain ⟨p0, p1, p2⟩ := place256 b n h d
  rw [val_main_v37_apply, val_main_v36_apply]
  refine (congrArg (val_main_v20 (F := Ideal) x0 x1 x2 x3 x4) (?_ : _ = ix3 b n ⟨256 + 64 * h.val + d.val, by omega⟩)).trans
    (ref_projected x0 x1 x2 x3 x4 b n _)
  refine funext fun a => Fin.ext ?_
  match a with
  | ⟨0, _⟩ => exact p0
  | ⟨1, _⟩ => exact p1
  | ⟨2, _⟩ => show 256 + (((b.val * 256 + n.val) * 4 + h.val) * 64 + d.val) % 256 = 256 + 64 * h.val + d.val; omega

/-- A key head normalised. -/
theorem ref_key_normed (b : Fin 8) (n : Fin 256) (h : Fin 4) (d : Fin 64) :
    @Eq EReal (val_main_v35 (F := Ideal) x0 x1 x2 x3 x4 x6 (ix4 b n h d))
      (normed (fun k => projected x0 x1 x2 x3 x4 b n ⟨64 * h.val + k.val, by omega⟩) (fun k => x6 (ix1 k)) d) := by
  have hs : @Eq EReal (val_main_v25 (F := Ideal) x0 x1 x2 x3 x4 (ix4 b n h 0))
      (∑ k : Fin 64, projected x0 x1 x2 x3 x4 b n ⟨64 * h.val + k.val, by omega⟩
        * projected x0 x1 x2 x3 x4 b n ⟨64 * h.val + k.val, by omega⟩) := by
    rw [val_main_v25_apply, val_main_v24_apply]
    have hz : val_main_cst_3 (F := Ideal) (Shape.Idx.first h_S_) = (0 : EReal) := Ideal.ofBits_zero_f32
    rw [hz]
    refine (zero_add _).trans (Finset.sum_congr rfl fun k _ => ?_)
    rw [← ref_key]
    refine congrArg (fun i => (val_main_v22 (F := Ideal) x0 x1 x2 x3 x4 i * val_main_v22 (F := Ideal) x0 x1 x2 x3 x4 i : EReal)) (?_ : _ = ix4 b n h k)
    exact funext fun a => Fin.ext (by match a with | ⟨0, _⟩ => rfl | ⟨1, _⟩ => rfl | ⟨2, _⟩ => rfl | ⟨3, _⟩ => rfl)
  have hd : @Eq EReal (val_main_v26 (F := Ideal) (ix4 b n h 0)) ((64 : ℝ) : EReal) := by
    rw [val_main_v26_apply]
    exact sixtyfour_bits
  have he : @Eq EReal (val_main_v28 (F := Ideal) (ix4 b n h 0)) eps := by
    rw [val_main_v28_apply]
    rfl
  rw [val_main_v35_apply, val_main_v32_apply, val_main_v31_apply, val_main_v34_apply, val_main_v33_apply]
  unfold normed
  refine congrArg₂ (fun u v : EReal => u * v) (congrArg₂ (fun u v : EReal => u * v) (ref_key x0 x1 x2 x3 x4 b n h d) ?_) ?_
  · refine (congrArg (val_main_v30 (F := Ideal) x0 x1 x2 x3 x4) (?_ : _ = ix4 b n h 0)).trans ?_
    · exact funext fun a => Fin.ext (by match a with | ⟨0, _⟩ => rfl | ⟨1, _⟩ => rfl | ⟨2, _⟩ => rfl | ⟨3, _⟩ => rfl)
    · rw [val_main_v30_apply, val_main_v29_apply, val_main_v27_apply]
      exact congrArg Ideal.rsqrt (congrArg₂ (fun u v : EReal => u + v) (congrArg₂ Ideal.div hs hd) he)
  · exact congrArg x6 (funext fun a => Fin.ext (by match a with | ⟨0, _⟩ => rfl))

/-- Two arrays of value heads' features joined along the features, sixty-four and sixty-four. -/
theorem join4_64 (A B : FVec Ideal S8x256x4x64 .f32) (b : Fin 8) (n : Fin 256) (h : Fin 4) (k : Fin 128) :
    concatenate S8x256x4x128 3 [⟨S8x256x4x64, A⟩, ⟨S8x256x4x64, B⟩] concatenates_S8x256x4x64_S8x256x4x64_S8x256x4x128_d3 (ix4 b n h k)
    = if hk : k.val < 64 then A (ix4 b n h ⟨k.val, hk⟩) else B (ix4 b n h ⟨k.val - 64, by omega⟩) := by
  split
  · next hk =>
    exact concatenate_pair_apply_left (t := S8x256x4x128) 3 (s₁ := S8x256x4x64) (s₂ := S8x256x4x64) _ _
      concatenates_S8x256x4x64_S8x256x4x64_S8x256x4x128_d3 _ rfl (ix4 b n h ⟨k.val, hk⟩)
      (fun a => match a with | ⟨0, _⟩ => rfl | ⟨1, _⟩ => rfl | ⟨2, _⟩ => rfl | ⟨3, _⟩ => rfl)
  · next hk =>
    exact concatenate_pair_apply_right (t := S8x256x4x128) 3 (s₁ := S8x256x4x64) (s₂ := S8x256x4x64) _ _
      concatenates_S8x256x4x64_S8x256x4x64_S8x256x4x128_d3 _ rfl rfl (ix4 b n h ⟨k.val - 64, by omega⟩)
      (fun a ha => match a with | ⟨0, _⟩ => rfl | ⟨1, _⟩ => rfl | ⟨2, _⟩ => rfl | ⟨3, _⟩ => absurd rfl ha)
      (by show k.val - 64 + 64 = k.val; omega)

/-- The reference's keys. -/
theorem reference_keys : val_main_v41 (F := Ideal) x0 x1 x2 x3 x4 x6 = keysOf x0 x1 x2 x3 x4 x6 := by
  funext i
  rw [val_main_v41_apply, val_main_v40_apply]
  refine (congrArg (val_main_v35 (F := Ideal) x0 x1 x2 x3 x4 x6) (?_ : _ = ix4 (i 0) (i 2) (i 1) (i 3))).trans ?_
  · exact funext fun a => Fin.ext (by match a with | ⟨0, _⟩ => rfl | ⟨1, _⟩ => rfl | ⟨2, _⟩ => rfl | ⟨3, _⟩ => rfl)
  · exact ref_key_normed x0 x1 x2 x3 x4 x6 (i 0) (i 2) (i 1) (i 3)

/-- The reference's values. -/
theorem reference_values : val_main_v43 (F := Ideal) x0 x1 x2 x3 x4 = valuesOf x0 x1 x2 x3 x4 := by
  funext i
  rw [val_main_v43_apply, val_main_v42_apply]
  refine (congrArg (val_main_v39 (F := Ideal) x0 x1 x2 x3 x4) (?_ : _ = ix4 (i 0) (i 2) (i 1) (i 3))).trans ?_
  · exact funext fun a => Fin.ext (by match a with | ⟨0, _⟩ => rfl | ⟨1, _⟩ => rfl | ⟨2, _⟩ => rfl | ⟨3, _⟩ => rfl)
  · unfold val_main_v39 valuesOf
    refine (join4_64 _ _ (i 0) (i 2) (i 1) (i 3)).trans ?_
    by_cases hk : (i 3).val < 64
    · refine (dif_pos hk).trans ?_
      rw [dif_pos hk]
      exact ref_value x0 x1 x2 x3 x4 _ _ _ _
    · refine (dif_neg hk).trans (Eq.trans ?_ (dif_neg hk).symm)
      exact (val_main_v38_apply (F := Ideal) _).trans one_bits

end Cert.Context

end
-- ==== Proof.CtxClaims.lean ====
module

public import proofs.«01_k».proof.Defs
public import proofs.«01_k».proof.Proof.CtxValue
public import proofs.«01_k».proof.Proof.CtxReference
public import proofs.«01_k».proof.Proof.Gen.Ctx.Frame
public import proofs.«01_k».proof.Proof.Gen.CtxIdeal.Frame
public import Idealize.ShloMosaic.Lib.Claim

/-! # The claims about the context's keys and values -/

@[expose] public section

noncomputable section

namespace Cert.Context

open Idealize.ShloMosaic Idealize.SL.Sem

/-- Every execution of the reference ends with the arguments kept and no counter raised. -/
theorem frame_reference : Cert.quiescent_CtxRefIdeal := fun m g _ =>
  (θ_run Cert.CtxRefIdeal.defs _ _).mono (fun r h => ⟨fun c => (h c).2.2, sem_eq_zero_of_no_sems (by decide) r.2⟩)
    (Cert.CtxRefIdeal.Value.run (F := Ideal) m g)

/-- The reference's two results on arguments equal to given ones. -/
theorem reference_results {x0 y0 : FVec Ideal Cert.CtxRefIdeal.S8x256x1024 .f32} {x1 y1 x2 y2 : FVec Ideal Cert.CtxRefIdeal.S1x1x1024 .f32}
    {x3 y3 : FVec Ideal Cert.CtxRefIdeal.S1024 .f32} {x4 y4 : FVec Ideal Cert.CtxRefIdeal.S1024x1536 .f32}
    {x6 y6 : FVec Ideal Cert.CtxRefIdeal.S64 .f32}
    (h0 : x0 = y0) (h1 : x1 = y1) (h2 : x2 = y2) (h3 : x3 = y3) (h4 : x4 = y4) (h6 : x6 = y6) :
    Cert.CtxRefIdeal.Read.val_main_v41 (F := Ideal) x0 x1 x2 x3 x4 x6 = keysOf y0 y1 y2 y3 y4 y6
    ∧ Cert.CtxRefIdeal.Read.val_main_v43 (F := Ideal) x0 x1 x2 x3 x4 = valuesOf y0 y1 y2 y3 y4 := by
  subst h0 h1 h2 h3 h4 h6
  exact ⟨reference_keys _ _ _ _ _ _, reference_values _ _ _ _ _⟩

/-- Kernel and reference end with the same two results: the stated keys and values of the arguments. -/
theorem algebraic : Cert.algebraic_CtxIdeal_CtxRefIdeal := by
  intro m g m' g' _ hm
  refine ⟨fun c => keysOf (argX m c) (argShift m c) (argScale m c) (argGain m c) (argW m c) (argGk m c),
    fun c => valuesOf (argX m c) (argShift m c) (argScale m c) (argGain m c) (argW m c), ?_, ?_⟩
  · exact (θ_run Cert.CtxIdeal.defs _ _).mono (fun r h c =>
      ⟨(h c).1.trans (final_keys m c), (h c).2.1.trans (final_values m c), (h c).2.2⟩)
      (Cert.CtxIdeal.Value.run_blocks m g)
  · refine (θ_run Cert.CtxRefIdeal.defs _ _).mono (fun r h c =>
      ⟨(h c).1.trans ?_, (h c).2.1.trans ?_, (h c).2.2⟩) (Cert.CtxRefIdeal.Value.run (F := Ideal) m' g')
    · exact (Cert.CtxRefIdeal.Read.val_main_v41_eq _ _).trans
        (reference_results (hm c).1 (hm c).2.1 (hm c).2.2.1 (hm c).2.2.2.1 (hm c).2.2.2.2.1 (hm c).2.2.2.2.2.2).1
    · exact (Cert.CtxRefIdeal.Read.val_main_v43_eq _ _ _ _ _).trans
        (reference_results (hm c).1 (hm c).2.1 (hm c).2.2.1 (hm c).2.2.2.1 (hm c).2.2.2.2.1 (hm c).2.2.2.2.2.2).2

end Cert.Context

end
-- ==== Proof.lean ====
module

public import proofs.«01_k».proof.Defs
public import proofs.«01_k».proof.Proof.Claims
public import proofs.«01_k».proof.Proof.QkvClaims
public import proofs.«01_k».proof.Proof.OutClaims
public import proofs.«01_k».proof.Proof.FoldClaims
public import proofs.«01_k».proof.Proof.CtxClaims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.Fold
public import proofs.«01_k».proof.Proof.Gen.Fold.Skeleton
public import proofs.«01_k».proof.Proof.Gen.Fold.Launch
public import proofs.«01_k».proof.Proof.Gen.Fold.Points
public import proofs.«01_k».proof.Proof.Gen.Fold.Frame
public import proofs.«01_k».proof.Proof.Gen.FoldIdeal
public import proofs.«01_k».proof.Proof.Gen.FoldIdeal.Skeleton
public import proofs.«01_k».proof.Proof.Gen.FoldIdeal.Launch
public import proofs.«01_k».proof.Proof.Gen.FoldIdeal.Points
public import proofs.«01_k».proof.Proof.Gen.FoldIdeal.Frame
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.OutRefIdeal
public import proofs.«01_k».proof.Proof.Gen.OutRefIdeal.Run
public import proofs.«01_k».proof.Proof.Gen.OutRefIdeal.Read
public import Idealize.ShloMosaic.Adequacy
public import Idealize.ShloMosaic.Init

@[expose] public section

noncomputable section

namespace Cert.Proof

open Idealize.ShloMosaic Idealize.SL.Sem Cert.Kernel

/-- The certificate's claim: of the attention, of the projection to queries, keys and values, of both output
    projections and of the context's keys and values: the frames, the idealization's list of rewrites, and the value. -/
theorem claim : Cert.Claim :=
  ⟨Cert.Kernel.Gen.facts, Cert.KernelIdeal.Gen.facts, Cert.ReferenceIdeal.Gen.facts,
    Cert.Qkv.Gen.facts, Cert.QkvIdeal.Gen.facts, Cert.QkvRefIdeal.Gen.facts,
    Cert.Out.Gen.facts, Cert.OutIdeal.Gen.facts, Cert.OutRefIdeal.Gen.facts,
    Cert.Fold.Gen.facts, Cert.FoldIdeal.Gen.facts,
    Cert.Ctx.Gen.facts, Cert.CtxIdeal.Gen.facts, Cert.CtxRefIdeal.Gen.facts, Cert.Attn.pre_facts,
    fun m g _ => Cert.Kernel.Gen.frame m g, fun m g _ => Cert.KernelIdeal.Gen.frame m g, fun m g _ => Cert.KernelIdeal.Gen.frame m g,
    Cert.Attn.frame_reference, fun m g _ => Cert.Attn.frame_reference m g trivial,
    fun m g _ => Cert.Qkv.Gen.frame m g, fun m g _ => Cert.QkvIdeal.Gen.frame m g, Cert.Proj.frame_reference,
    fun m g _ => Cert.Out.Gen.frame m g, fun m g _ => Cert.OutIdeal.Gen.frame m g, Cert.Residual.frame_reference,
    fun m g _ => Cert.Fold.Gen.frame m g, fun m g _ => Cert.FoldIdeal.Gen.frame m g,
    fun m g _ => Cert.Ctx.Gen.frame m g, fun m g _ => Cert.CtxIdeal.Gen.frame m g, Cert.Context.frame_reference,
    trivial, Cert.Attn.algebraic (hPre := Cert.Attn.pre_facts), trivial, Cert.Proj.algebraic,
    Cert.Residual.preserved, Cert.Residual.algebraic, Cert.Folded.preserved, Cert.Folded.algebraic,
    trivial, Cert.Context.algebraic⟩

end Cert.Proof

end
